-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Local (m : (ℓ : Loc Cert.Local.nD Cert.Local.τ Cert.Local.sig) → Buf (Elt Bits) ℓ) : Prop :=
  True

def Pre_LocalIdeal (m : (ℓ : Loc Cert.LocalIdeal.nD Cert.LocalIdeal.τ Cert.LocalIdeal.sig) → Buf (Elt Ideal) ℓ) : Prop :=
  True

def Pre_LocalIdeal_finite_qk_sink [hPre_finite_qk_sink : Cert.Pre_finite_qk_sink.Facts] (m : (ℓ : Loc Cert.LocalIdeal.nD Cert.LocalIdeal.τ Cert.LocalIdeal.sig) → Buf (Elt Ideal) ℓ) : Prop :=
  ∀ c : Dev Cert.LocalIdeal.nD,
    (Cert.Pre_finite_qk_sink.fn (F := Ideal) (m ((c.tc : Thread Cert.LocalIdeal.nD Cert.LocalIdeal.τ).loc Cert.LocalIdeal.main_arg0)) (m ((c.tc : Thread Cert.LocalIdeal.nD Cert.LocalIdeal.τ).loc Cert.LocalIdeal.main_arg1)) (m ((c.tc : Thread Cert.LocalIdeal.nD Cert.LocalIdeal.τ).loc Cert.LocalIdeal.main_arg2)) (m ((c.tc : Thread Cert.LocalIdeal.nD Cert.LocalIdeal.τ).loc Cert.LocalIdeal.main_arg3))).1 = (fun _ => 1#1)
    ∧ (Cert.Pre_finite_qk_sink.fn (F := Ideal) (m ((c.tc : Thread Cert.LocalIdeal.nD Cert.LocalIdeal.τ).loc Cert.LocalIdeal.main_arg0)) (m ((c.tc : Thread Cert.LocalIdeal.nD Cert.LocalIdeal.τ).loc Cert.LocalIdeal.main_arg1)) (m ((c.tc : Thread Cert.LocalIdeal.nD Cert.LocalIdeal.τ).loc Cert.LocalIdeal.main_arg2)) (m ((c.tc : Thread Cert.LocalIdeal.nD Cert.LocalIdeal.τ).loc Cert.LocalIdeal.main_arg3))).2.1 = (fun _ => 1#1)
    ∧ (Cert.Pre_finite_qk_sink.fn (F := Ideal) (m ((c.tc : Thread Cert.LocalIdeal.nD Cert.LocalIdeal.τ).loc Cert.LocalIdeal.main_arg0)) (m ((c.tc : Thread Cert.LocalIdeal.nD Cert.LocalIdeal.τ).loc Cert.LocalIdeal.main_arg1)) (m ((c.tc : Thread Cert.LocalIdeal.nD Cert.LocalIdeal.τ).loc Cert.LocalIdeal.main_arg2)) (m ((c.tc : Thread Cert.LocalIdeal.nD Cert.LocalIdeal.τ).loc Cert.LocalIdeal.main_arg3))).2.2 = (fun _ => 1#1)

def Pre_LocalRefIdeal (m : (ℓ : Loc Cert.LocalRefIdeal.nD Cert.LocalRefIdeal.τ Cert.LocalRefIdeal.sig) → Buf (Elt Ideal) ℓ) : Prop :=
  True

def Pre_LocalRefIdeal_finite_qk_sink [hPre_finite_qk_sink : Cert.Pre_finite_qk_sink.Facts] (m : (ℓ : Loc Cert.LocalRefIdeal.nD Cert.LocalRefIdeal.τ Cert.LocalRefIdeal.sig) → Buf (Elt Ideal) ℓ) : Prop :=
  ∀ c : Dev Cert.LocalRefIdeal.nD,
    (Cert.Pre_finite_qk_sink.fn (F := Ideal) (m ((c.tc : Thread Cert.LocalRefIdeal.nD Cert.LocalRefIdeal.τ).loc Cert.LocalRefIdeal.main_arg0)) (m ((c.tc : Thread Cert.LocalRefIdeal.nD Cert.LocalRefIdeal.τ).loc Cert.LocalRefIdeal.main_arg1)) (m ((c.tc : Thread Cert.LocalRefIdeal.nD Cert.LocalRefIdeal.τ).loc Cert.LocalRefIdeal.main_arg2)) (m ((c.tc : Thread Cert.LocalRefIdeal.nD Cert.LocalRefIdeal.τ).loc Cert.LocalRefIdeal.main_arg3))).1 = (fun _ => 1#1)
    ∧ (Cert.Pre_finite_qk_sink.fn (F := Ideal) (m ((c.tc : Thread Cert.LocalRefIdeal.nD Cert.LocalRefIdeal.τ).loc Cert.LocalRefIdeal.main_arg0)) (m ((c.tc : Thread Cert.LocalRefIdeal.nD Cert.LocalRefIdeal.τ).loc Cert.LocalRefIdeal.main_arg1)) (m ((c.tc : Thread Cert.LocalRefIdeal.nD Cert.LocalRefIdeal.τ).loc Cert.LocalRefIdeal.main_arg2)) (m ((c.tc : Thread Cert.LocalRefIdeal.nD Cert.LocalRefIdeal.τ).loc Cert.LocalRefIdeal.main_arg3))).2.1 = (fun _ => 1#1)
    ∧ (Cert.Pre_finite_qk_sink.fn (F := Ideal) (m ((c.tc : Thread Cert.LocalRefIdeal.nD Cert.LocalRefIdeal.τ).loc Cert.LocalRefIdeal.main_arg0)) (m ((c.tc : Thread Cert.LocalRefIdeal.nD Cert.LocalRefIdeal.τ).loc Cert.LocalRefIdeal.main_arg1)) (m ((c.tc : Thread Cert.LocalRefIdeal.nD Cert.LocalRefIdeal.τ).loc Cert.LocalRefIdeal.main_arg2)) (m ((c.tc : Thread Cert.LocalRefIdeal.nD Cert.LocalRefIdeal.τ).loc Cert.LocalRefIdeal.main_arg3))).2.2 = (fun _ => 1#1)

def Pre_FourierChan (m : (ℓ : Loc Cert.FourierChan.nD Cert.FourierChan.τ Cert.FourierChan.sig) → Buf (Elt Bits) ℓ) : Prop :=
  True

def Pre_FourierChanIdeal (m : (ℓ : Loc Cert.FourierChanIdeal.nD Cert.FourierChanIdeal.τ Cert.FourierChanIdeal.sig) → Buf (Elt Ideal) ℓ) : Prop :=
  True

def Pre_FourierChanRefIdeal (m : (ℓ : Loc Cert.FourierChanRefIdeal.nD Cert.FourierChanRefIdeal.τ Cert.FourierChanRefIdeal.sig) → Buf (Elt Ideal) ℓ) : Prop :=
  True

def Pre_FourierPos (m : (ℓ : Loc Cert.FourierPos.nD Cert.FourierPos.τ Cert.FourierPos.sig) → Buf (Elt Bits) ℓ) : Prop :=
  True

def Pre_FourierPosIdeal (m : (ℓ : Loc Cert.FourierPosIdeal.nD Cert.FourierPosIdeal.τ Cert.FourierPosIdeal.sig) → Buf (Elt Ideal) ℓ) : Prop :=
  True

def Pre_FourierPosRefIdeal (m : (ℓ : Loc Cert.FourierPosRefIdeal.nD Cert.FourierPosRefIdeal.τ Cert.FourierPosRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1))
      ∧ r.2.sem = fun _ => 0)

def quiescent_Local [hLocal : Cert.Local.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2)
      ∧ r.2.mem ((c.tc : Thread Cert.Local.nD Cert.Local.τ).loc Cert.Local.main_arg3) = m ((c.tc : Thread Cert.Local.nD Cert.Local.τ).loc Cert.Local.main_arg3))
      ∧ r.2.sem = fun _ => 0)

def quiescent_LocalIdeal [hLocalIdeal : Cert.LocalIdeal.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3))
      ∧ r.2.sem = fun _ => 0)

def quiescent_LocalIdeal_pre_finite_qk_sink [hLocalIdeal : Cert.LocalIdeal.Facts] [hPre_finite_qk_sink : Cert.Pre_finite_qk_sink.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal_finite_qk_sink m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3))
      ∧ r.2.sem = fun _ => 0)

def quiescent_LocalRefIdeal [hLocalRefIdeal : Cert.LocalRefIdeal.Facts] : Prop :=
  ∀ (m : (ℓ : Loc Cert.LocalRefIdeal.nD Cert.LocalRefIdeal.τ Cert.LocalRefIdeal.sig) → Buf (Elt Ideal) ℓ) (g : Dev Cert.LocalRefIdeal.nD → PrngReg), Pre_LocalRefIdeal m →
    θ_run (Cert.LocalRefIdeal.defs (F := Ideal)) (onTc (τ := Cert.LocalRefIdeal.τ) (Cert.LocalRefIdeal.main (F := Ideal))) ⟨m, fun _ => 0, g⟩ (fun r => (∀ c : Dev Cert.LocalRefIdeal.nD,
      r.2.mem ((c.tc : Thread Cert.LocalRefIdeal.nD Cert.LocalRefIdeal.τ).loc Cert.LocalRefIdeal.main_arg0) = m ((c.tc : Thread Cert.LocalRefIdeal.nD Cert.LocalRefIdeal.τ).loc Cert.LocalRefIdeal.main_arg0)
      ∧ r.2.mem ((c.tc : Thread Cert.LocalRefIdeal.nD Cert.LocalRefIdeal.τ).loc Cert.LocalRefIdeal.main_arg1) = m ((c.tc : Thread Cert.LocalRefIdeal.nD Cert.LocalRefIdeal.τ).loc Cert.LocalRefIdeal.main_arg1)
      ∧ r.2.mem ((c.tc : Thread Cert.LocalRefIdeal.nD Cert.LocalRefIdeal.τ).loc Cert.LocalRefIdeal.main_arg2) = m ((c.tc : Thread Cert.LocalRefIdeal.nD Cert.LocalRefIdeal.τ).loc Cert.LocalRefIdeal.main_arg2)
      ∧ r.2.mem ((c.tc : Thread Cert.LocalRefIdeal.nD Cert.LocalRefIdeal.τ).loc Cert.LocalRefIdeal.main_arg3) = m ((c.tc : Thread Cert.LocalRefIdeal.nD Cert.LocalRefIdeal.τ).loc Cert.LocalRefIdeal.main_arg3))
      ∧ r.2.sem = fun _ => 0)

def quiescent_LocalRefIdeal_pre_finite_qk_sink [hLocalRefIdeal : Cert.LocalRefIdeal.Facts] [hPre_finite_qk_sink : Cert.Pre_finite_qk_sink.Facts] : Prop :=
  ∀ (m : (ℓ : Loc Cert.LocalRefIdeal.nD Cert.LocalRefIdeal.τ Cert.LocalRefIdeal.sig) → Buf (Elt Ideal) ℓ) (g : Dev Cert.LocalRefIdeal.nD → PrngReg), Pre_LocalRefIdeal_finite_qk_sink m →
    θ_run (Cert.LocalRefIdeal.defs (F := Ideal)) (onTc (τ := Cert.LocalRefIdeal.τ) (Cert.LocalRefIdeal.main (F := Ideal))) ⟨m, fun _ => 0, g⟩ (fun r => (∀ c : Dev Cert.LocalRefIdeal.nD,
      r.2.mem ((c.tc : Thread Cert.LocalRefIdeal.nD Cert.LocalRefIdeal.τ).loc Cert.LocalRefIdeal.main_arg0) = m ((c.tc : Thread Cert.LocalRefIdeal.nD Cert.LocalRefIdeal.τ).loc Cert.LocalRefIdeal.main_arg0)
      ∧ r.2.mem ((c.tc : Thread Cert.LocalRefIdeal.nD Cert.LocalRefIdeal.τ).loc Cert.LocalRefIdeal.main_arg1) = m ((c.tc : Thread Cert.LocalRefIdeal.nD Cert.LocalRefIdeal.τ).loc Cert.LocalRefIdeal.main_arg1)
      ∧ r.2.mem ((c.tc : Thread Cert.LocalRefIdeal.nD Cert.LocalRefIdeal.τ).loc Cert.LocalRefIdeal.main_arg2) = m ((c.tc : Thread Cert.LocalRefIdeal.nD Cert.LocalRefIdeal.τ).loc Cert.LocalRefIdeal.main_arg2)
      ∧ r.2.mem ((c.tc : Thread Cert.LocalRefIdeal.nD Cert.LocalRefIdeal.τ).loc Cert.LocalRefIdeal.main_arg3) = m ((c.tc : Thread Cert.LocalRefIdeal.nD Cert.LocalRefIdeal.τ).loc Cert.LocalRefIdeal.main_arg3))
      ∧ r.2.sem = fun _ => 0)

def quiescent_FourierChan [hFourierChan : Cert.FourierChan.Facts] : Prop :=
  ∀ (m : (ℓ : Loc Cert.FourierChan.nD Cert.FourierChan.τ Cert.FourierChan.sig) → Buf (Elt Bits) ℓ) (g : Dev Cert.FourierChan.nD → PrngReg), Pre_FourierChan m →
    θ_run (Cert.FourierChan.defs (F := Bits)) (onTc (τ := Cert.FourierChan.τ) (Cert.FourierChan.main (F := Bits))) ⟨m, fun _ => 0, g⟩ (fun r => (∀ c : Dev Cert.FourierChan.nD,
      r.2.mem ((c.tc : Thread Cert.FourierChan.nD Cert.FourierChan.τ).loc Cert.FourierChan.main_arg0) = m ((c.tc : Thread Cert.FourierChan.nD Cert.FourierChan.τ).loc Cert.FourierChan.main_arg0))
      ∧ r.2.sem = fun _ => 0)

def quiescent_FourierChanIdeal [hFourierChanIdeal : Cert.FourierChanIdeal.Facts] : Prop :=
  ∀ (m : (ℓ : Loc Cert.FourierChanIdeal.nD Cert.FourierChanIdeal.τ Cert.FourierChanIdeal.sig) → Buf (Elt Ideal) ℓ) (g : Dev Cert.FourierChanIdeal.nD → PrngReg), Pre_FourierChanIdeal m →
    θ_run (Cert.FourierChanIdeal.defs (F := Ideal)) (onTc (τ := Cert.FourierChanIdeal.τ) (Cert.FourierChanIdeal.main (F := Ideal))) ⟨m, fun _ => 0, g⟩ (fun r => (∀ c : Dev Cert.FourierChanIdeal.nD,
      r.2.mem ((c.tc : Thread Cert.FourierChanIdeal.nD Cert.FourierChanIdeal.τ).loc Cert.FourierChanIdeal.main_arg0) = m ((c.tc : Thread Cert.FourierChanIdeal.nD Cert.FourierChanIdeal.τ).loc Cert.FourierChanIdeal.main_arg0))
      ∧ r.2.sem = fun _ => 0)

def quiescent_FourierChanRefIdeal [hFourierChanRefIdeal : Cert.FourierChanRefIdeal.Facts] : Prop :=
  ∀ (m : (ℓ : Loc Cert.FourierChanRefIdeal.nD Cert.FourierChanRefIdeal.τ Cert.FourierChanRefIdeal.sig) → Buf (Elt Ideal) ℓ) (g : Dev Cert.FourierChanRefIdeal.nD → PrngReg), Pre_FourierChanRefIdeal m →
    θ_run (Cert.FourierChanRefIdeal.defs (F := Ideal)) (onTc (τ := Cert.FourierChanRefIdeal.τ) (Cert.FourierChanRefIdeal.main (F := Ideal))) ⟨m, fun _ => 0, g⟩ (fun r => (∀ c : Dev Cert.FourierChanRefIdeal.nD,
      r.2.mem ((c.tc : Thread Cert.FourierChanRefIdeal.nD Cert.FourierChanRefIdeal.τ).loc Cert.FourierChanRefIdeal.main_arg0) = m ((c.tc : Thread Cert.FourierChanRefIdeal.nD Cert.FourierChanRefIdeal.τ).loc Cert.FourierChanRefIdeal.main_arg0))
      ∧ r.2.sem = fun _ => 0)

def quiescent_FourierPos [hFourierPos : Cert.FourierPos.Facts] : Prop :=
  ∀ (m : (ℓ : Loc Cert.FourierPos.nD Cert.FourierPos.τ Cert.FourierPos.sig) → Buf (Elt Bits) ℓ) (g : Dev Cert.FourierPos.nD → PrngReg), Pre_FourierPos m →
    θ_run (Cert.FourierPos.defs (F := Bits)) (onTc (τ := Cert.FourierPos.τ) (Cert.FourierPos.main (F := Bits))) ⟨m, fun _ => 0, g⟩ (fun r => (∀ c : Dev Cert.FourierPos.nD,
      r.2.mem ((c.tc : Thread Cert.FourierPos.nD Cert.FourierPos.τ).loc Cert.FourierPos.main_arg0) = m ((c.tc : Thread Cert.FourierPos.nD Cert.FourierPos.τ).loc Cert.FourierPos.main_arg0))
      ∧ r.2.sem = fun _ => 0)

def quiescent_FourierPosIdeal [hFourierPosIdeal : Cert.FourierPosIdeal.Facts] : Prop :=
  ∀ (m : (ℓ : Loc Cert.FourierPosIdeal.nD Cert.FourierPosIdeal.τ Cert.FourierPosIdeal.sig) → Buf (Elt Ideal) ℓ) (g : Dev Cert.FourierPosIdeal.nD → PrngReg), Pre_FourierPosIdeal m →
    θ_run (Cert.FourierPosIdeal.defs (F := Ideal)) (onTc (τ := Cert.FourierPosIdeal.τ) (Cert.FourierPosIdeal.main (F := Ideal))) ⟨m, fun _ => 0, g⟩ (fun r => (∀ c : Dev Cert.FourierPosIdeal.nD,
      r.2.mem ((c.tc : Thread Cert.FourierPosIdeal.nD Cert.FourierPosIdeal.τ).loc Cert.FourierPosIdeal.main_arg0) = m ((c.tc : Thread Cert.FourierPosIdeal.nD Cert.FourierPosIdeal.τ).loc Cert.FourierPosIdeal.main_arg0))
      ∧ r.2.sem = fun _ => 0)

def quiescent_FourierPosRefIdeal [hFourierPosRefIdeal : Cert.FourierPosRefIdeal.Facts] : Prop :=
  ∀ (m : (ℓ : Loc Cert.FourierPosRefIdeal.nD Cert.FourierPosRefIdeal.τ Cert.FourierPosRefIdeal.sig) → Buf (Elt Ideal) ℓ) (g : Dev Cert.FourierPosRefIdeal.nD → PrngReg), Pre_FourierPosRefIdeal m →
    θ_run (Cert.FourierPosRefIdeal.defs (F := Ideal)) (onTc (τ := Cert.FourierPosRefIdeal.τ) (Cert.FourierPosRefIdeal.main (F := Ideal))) ⟨m, fun _ => 0, g⟩ (fun r => (∀ c : Dev Cert.FourierPosRefIdeal.nD,
      r.2.mem ((c.tc : Thread Cert.FourierPosRefIdeal.nD Cert.FourierPosRefIdeal.τ).loc Cert.FourierPosRefIdeal.main_arg0) = m ((c.tc : Thread Cert.FourierPosRefIdeal.nD Cert.FourierPosRefIdeal.τ).loc Cert.FourierPosRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v4) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v90) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)) →
    ∃ (v0 : (c : Dev Cert.NormBIdeal.nD) → Buf (Elt Ideal) ((c.tc : Thread Cert.NormBIdeal.nD Cert.NormBIdeal.τ).loc Cert.NormBIdeal.main_v1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1) = v0 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v13) = v0 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1))

def preserves_Local_LocalIdeal : Prop :=
  IdealRules.named_const.Statement Cert.LocalIdeal.κ "neg" .f32 0xF149F2CA#32 ⊥

def algebraic_LocalIdeal_LocalRefIdeal_pre_finite_qk_sink [hLocalIdeal : Cert.LocalIdeal.Facts] [hLocalRefIdeal : Cert.LocalRefIdeal.Facts] [hPre_finite_qk_sink : Cert.Pre_finite_qk_sink.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.LocalRefIdeal.nD Cert.LocalRefIdeal.τ Cert.LocalRefIdeal.sig) → Buf (Elt Ideal) ℓ) (g' : Dev Cert.LocalRefIdeal.nD → PrngReg), Pre_LocalIdeal_finite_qk_sink m →
    (∀ c : Dev Cert.LocalIdeal.nD,
      m' ((c.tc : Thread Cert.LocalRefIdeal.nD Cert.LocalRefIdeal.τ).loc Cert.LocalRefIdeal.main_arg0) = m ((c.tc : Thread Cert.LocalIdeal.nD Cert.LocalIdeal.τ).loc Cert.LocalIdeal.main_arg0)
      ∧ m' ((c.tc : Thread Cert.LocalRefIdeal.nD Cert.LocalRefIdeal.τ).loc Cert.LocalRefIdeal.main_arg1) = m ((c.tc : Thread Cert.LocalIdeal.nD Cert.LocalIdeal.τ).loc Cert.LocalIdeal.main_arg1)
      ∧ m' ((c.tc : Thread Cert.LocalRefIdeal.nD Cert.LocalRefIdeal.τ).loc Cert.LocalRefIdeal.main_arg2) = m ((c.tc : Thread Cert.LocalIdeal.nD Cert.LocalIdeal.τ).loc Cert.LocalIdeal.main_arg2)
      ∧ m' ((c.tc : Thread Cert.LocalRefIdeal.nD Cert.LocalRefIdeal.τ).loc Cert.LocalRefIdeal.main_arg3) = m ((c.tc : Thread Cert.LocalIdeal.nD Cert.LocalIdeal.τ).loc Cert.LocalIdeal.main_arg3)) →
    ∃ (v0 : (c : Dev Cert.LocalIdeal.nD) → Buf (Elt Ideal) ((c.tc : Thread Cert.LocalIdeal.nD Cert.LocalIdeal.τ).loc Cert.LocalIdeal.main_v4)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v4) = v0 c
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
          ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3))
      ∧ θ_run (Cert.LocalRefIdeal.defs (F := Ideal)) (onTc (τ := Cert.LocalRefIdeal.τ) (Cert.LocalRefIdeal.main (F := Ideal))) ⟨m', fun _ => 0, g'⟩ (fun r => ∀ c : Dev Cert.LocalRefIdeal.nD,
          r.2.mem ((c.tc : Thread Cert.LocalRefIdeal.nD Cert.LocalRefIdeal.τ).loc Cert.LocalRefIdeal.main_v82) = v0 c
          ∧ r.2.mem ((c.tc : Thread Cert.LocalRefIdeal.nD Cert.LocalRefIdeal.τ).loc Cert.LocalRefIdeal.main_arg0) = m' ((c.tc : Thread Cert.LocalRefIdeal.nD Cert.LocalRefIdeal.τ).loc Cert.LocalRefIdeal.main_arg0)
          ∧ r.2.mem ((c.tc : Thread Cert.LocalRefIdeal.nD Cert.LocalRefIdeal.τ).loc Cert.LocalRefIdeal.main_arg1) = m' ((c.tc : Thread Cert.LocalRefIdeal.nD Cert.LocalRefIdeal.τ).loc Cert.LocalRefIdeal.main_arg1)
          ∧ r.2.mem ((c.tc : Thread Cert.LocalRefIdeal.nD Cert.LocalRefIdeal.τ).loc Cert.LocalRefIdeal.main_arg2) = m' ((c.tc : Thread Cert.LocalRefIdeal.nD Cert.LocalRefIdeal.τ).loc Cert.LocalRefIdeal.main_arg2)
          ∧ r.2.mem ((c.tc : Thread Cert.LocalRefIdeal.nD Cert.LocalRefIdeal.τ).loc Cert.LocalRefIdeal.main_arg3) = m' ((c.tc : Thread Cert.LocalRefIdeal.nD Cert.LocalRefIdeal.τ).loc Cert.LocalRefIdeal.main_arg3))

def preserves_FourierChan_FourierChanIdeal : Prop :=
  True

def algebraic_FourierChanIdeal_FourierChanRefIdeal [hFourierChanIdeal : Cert.FourierChanIdeal.Facts] [hFourierChanRefIdeal : Cert.FourierChanRefIdeal.Facts] : Prop :=
  ∀ (m : (ℓ : Loc Cert.FourierChanIdeal.nD Cert.FourierChanIdeal.τ Cert.FourierChanIdeal.sig) → Buf (Elt Ideal) ℓ) (g : Dev Cert.FourierChanIdeal.nD → PrngReg)
    (m' : (ℓ : Loc Cert.FourierChanRefIdeal.nD Cert.FourierChanRefIdeal.τ Cert.FourierChanRefIdeal.sig) → Buf (Elt Ideal) ℓ) (g' : Dev Cert.FourierChanRefIdeal.nD → PrngReg), Pre_FourierChanIdeal m →
    (∀ c : Dev Cert.FourierChanIdeal.nD,
      m' ((c.tc : Thread Cert.FourierChanRefIdeal.nD Cert.FourierChanRefIdeal.τ).loc Cert.FourierChanRefIdeal.main_arg0) = m ((c.tc : Thread Cert.FourierChanIdeal.nD Cert.FourierChanIdeal.τ).loc Cert.FourierChanIdeal.main_arg0)) →
    ∃ (v0 : (c : Dev Cert.FourierChanIdeal.nD) → Buf (Elt Ideal) ((c.tc : Thread Cert.FourierChanIdeal.nD Cert.FourierChanIdeal.τ).loc Cert.FourierChanIdeal.main_v26)),
      θ_run (Cert.FourierChanIdeal.defs (F := Ideal)) (onTc (τ := Cert.FourierChanIdeal.τ) (Cert.FourierChanIdeal.main (F := Ideal))) ⟨m, fun _ => 0, g⟩ (fun r => ∀ c : Dev Cert.FourierChanIdeal.nD,
          r.2.mem ((c.tc : Thread Cert.FourierChanIdeal.nD Cert.FourierChanIdeal.τ).loc Cert.FourierChanIdeal.main_v26) = v0 c
          ∧ r.2.mem ((c.tc : Thread Cert.FourierChanIdeal.nD Cert.FourierChanIdeal.τ).loc Cert.FourierChanIdeal.main_arg0) = m ((c.tc : Thread Cert.FourierChanIdeal.nD Cert.FourierChanIdeal.τ).loc Cert.FourierChanIdeal.main_arg0))
      ∧ θ_run (Cert.FourierChanRefIdeal.defs (F := Ideal)) (onTc (τ := Cert.FourierChanRefIdeal.τ) (Cert.FourierChanRefIdeal.main (F := Ideal))) ⟨m', fun _ => 0, g'⟩ (fun r => ∀ c : Dev Cert.FourierChanRefIdeal.nD,
          r.2.mem ((c.tc : Thread Cert.FourierChanRefIdeal.nD Cert.FourierChanRefIdeal.τ).loc Cert.FourierChanRefIdeal.main_v23) = v0 c
          ∧ r.2.mem ((c.tc : Thread Cert.FourierChanRefIdeal.nD Cert.FourierChanRefIdeal.τ).loc Cert.FourierChanRefIdeal.main_arg0) = m' ((c.tc : Thread Cert.FourierChanRefIdeal.nD Cert.FourierChanRefIdeal.τ).loc Cert.FourierChanRefIdeal.main_arg0))

def preserves_FourierPos_FourierPosIdeal : Prop :=
  True

def algebraic_FourierPosIdeal_FourierPosRefIdeal [hFourierPosIdeal : Cert.FourierPosIdeal.Facts] [hFourierPosRefIdeal : Cert.FourierPosRefIdeal.Facts] : Prop :=
  ∀ (m : (ℓ : Loc Cert.FourierPosIdeal.nD Cert.FourierPosIdeal.τ Cert.FourierPosIdeal.sig) → Buf (Elt Ideal) ℓ) (g : Dev Cert.FourierPosIdeal.nD → PrngReg)
    (m' : (ℓ : Loc Cert.FourierPosRefIdeal.nD Cert.FourierPosRefIdeal.τ Cert.FourierPosRefIdeal.sig) → Buf (Elt Ideal) ℓ) (g' : Dev Cert.FourierPosRefIdeal.nD → PrngReg), Pre_FourierPosIdeal m →
    (∀ c : Dev Cert.FourierPosIdeal.nD,
      m' ((c.tc : Thread Cert.FourierPosRefIdeal.nD Cert.FourierPosRefIdeal.τ).loc Cert.FourierPosRefIdeal.main_arg0) = m ((c.tc : Thread Cert.FourierPosIdeal.nD Cert.FourierPosIdeal.τ).loc Cert.FourierPosIdeal.main_arg0)) →
    ∃ (v0 : (c : Dev Cert.FourierPosIdeal.nD) → Buf (Elt Ideal) ((c.tc : Thread Cert.FourierPosIdeal.nD Cert.FourierPosIdeal.τ).loc Cert.FourierPosIdeal.main_v15)),
      θ_run (Cert.FourierPosIdeal.defs (F := Ideal)) (onTc (τ := Cert.FourierPosIdeal.τ) (Cert.FourierPosIdeal.main (F := Ideal))) ⟨m, fun _ => 0, g⟩ (fun r => ∀ c : Dev Cert.FourierPosIdeal.nD,
          r.2.mem ((c.tc : Thread Cert.FourierPosIdeal.nD Cert.FourierPosIdeal.τ).loc Cert.FourierPosIdeal.main_v15) = v0 c
          ∧ r.2.mem ((c.tc : Thread Cert.FourierPosIdeal.nD Cert.FourierPosIdeal.τ).loc Cert.FourierPosIdeal.main_arg0) = m ((c.tc : Thread Cert.FourierPosIdeal.nD Cert.FourierPosIdeal.τ).loc Cert.FourierPosIdeal.main_arg0))
      ∧ θ_run (Cert.FourierPosRefIdeal.defs (F := Ideal)) (onTc (τ := Cert.FourierPosRefIdeal.τ) (Cert.FourierPosRefIdeal.main (F := Ideal))) ⟨m', fun _ => 0, g'⟩ (fun r => ∀ c : Dev Cert.FourierPosRefIdeal.nD,
          r.2.mem ((c.tc : Thread Cert.FourierPosRefIdeal.nD Cert.FourierPosRefIdeal.τ).loc Cert.FourierPosRefIdeal.main_v21) = v0 c
          ∧ r.2.mem ((c.tc : Thread Cert.FourierPosRefIdeal.nD Cert.FourierPosRefIdeal.τ).loc Cert.FourierPosRefIdeal.main_arg0) = m' ((c.tc : Thread Cert.FourierPosRefIdeal.nD Cert.FourierPosRefIdeal.τ).loc Cert.FourierPosRefIdeal.main_arg0))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v80_0)) (v1 : (c : Dev Cert.QkvIdeal.nD) → Buf (Elt Ideal) ((c.tc : Thread Cert.QkvIdeal.nD Cert.QkvIdeal.τ).loc Cert.QkvIdeal.main_v80_1)) (v2 : (c : Dev Cert.QkvIdeal.nD) → Buf (Elt Ideal) ((c.tc : Thread Cert.QkvIdeal.nD Cert.QkvIdeal.τ).loc Cert.QkvIdeal.main_v80_2)) (v3 : (c : Dev Cert.QkvIdeal.nD) → Buf (Elt Ideal) ((c.tc : Thread Cert.QkvIdeal.nD Cert.QkvIdeal.τ).loc Cert.QkvIdeal.main_v80_3)) (v4 : (c : Dev Cert.QkvIdeal.nD) → Buf (Elt Ideal) ((c.tc : Thread Cert.QkvIdeal.nD Cert.QkvIdeal.τ).loc Cert.QkvIdeal.main_v80_4)) (v5 : (c : Dev Cert.QkvIdeal.nD) → Buf (Elt Ideal) ((c.tc : Thread Cert.QkvIdeal.nD Cert.QkvIdeal.τ).loc Cert.QkvIdeal.main_v80_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v80_0) = v0 c
          ∧ r.2.mem ((c.tc : Thread Cert.QkvIdeal.nD Cert.QkvIdeal.τ).loc Cert.QkvIdeal.main_v80_1) = v1 c
          ∧ r.2.mem ((c.tc : Thread Cert.QkvIdeal.nD Cert.QkvIdeal.τ).loc Cert.QkvIdeal.main_v80_2) = v2 c
          ∧ r.2.mem ((c.tc : Thread Cert.QkvIdeal.nD Cert.QkvIdeal.τ).loc Cert.QkvIdeal.main_v80_3) = v3 c
          ∧ r.2.mem ((c.tc : Thread Cert.QkvIdeal.nD Cert.QkvIdeal.τ).loc Cert.QkvIdeal.main_v80_4) = v4 c
          ∧ r.2.mem ((c.tc : Thread Cert.QkvIdeal.nD Cert.QkvIdeal.τ).loc Cert.QkvIdeal.main_v80_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v178) = v0 c
          ∧ r.2.mem ((c.tc : Thread Cert.QkvRefIdeal.nD Cert.QkvRefIdeal.τ).loc Cert.QkvRefIdeal.main_v180) = v1 c
          ∧ r.2.mem ((c.tc : Thread Cert.QkvRefIdeal.nD Cert.QkvRefIdeal.τ).loc Cert.QkvRefIdeal.main_v182) = v2 c
          ∧ r.2.mem ((c.tc : Thread Cert.QkvRefIdeal.nD Cert.QkvRefIdeal.τ).loc Cert.QkvRefIdeal.main_v184) = v3 c
          ∧ r.2.mem ((c.tc : Thread Cert.QkvRefIdeal.nD Cert.QkvRefIdeal.τ).loc Cert.QkvRefIdeal.main_v186) = v4 c
          ∧ r.2.mem ((c.tc : Thread Cert.QkvRefIdeal.nD Cert.QkvRefIdeal.τ).loc Cert.QkvRefIdeal.main_v188) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hNormB : Cert.NormB.Facts) (hNormBIdeal : Cert.NormBIdeal.Facts) (hNormBRefIdeal : Cert.NormBRefIdeal.Facts) (hLocal : Cert.Local.Facts) (hLocalIdeal : Cert.LocalIdeal.Facts) (hLocalRefIdeal : Cert.LocalRefIdeal.Facts) (hFourierChan : Cert.FourierChan.Facts) (hFourierChanIdeal : Cert.FourierChanIdeal.Facts) (hFourierChanRefIdeal : Cert.FourierChanRefIdeal.Facts) (hFourierPos : Cert.FourierPos.Facts) (hFourierPosIdeal : Cert.FourierPosIdeal.Facts) (hFourierPosRefIdeal : Cert.FourierPosRefIdeal.Facts) (hQkv : Cert.Qkv.Facts) (hQkvIdeal : Cert.QkvIdeal.Facts) (hQkvRefIdeal : Cert.QkvRefIdeal.Facts) (hPre_finite_qk : Cert.Pre_finite_qk.Facts) (hPre_finite_qk_sink : Cert.Pre_finite_qk_sink.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Norm (hNorm := hNorm)
    ∧ quiescent_NormIdeal (hNormIdeal := hNormIdeal)
    ∧ quiescent_NormRefIdeal (hNormRefIdeal := hNormRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_NormB (hNormB := hNormB)
    ∧ quiescent_NormBIdeal (hNormBIdeal := hNormBIdeal)
    ∧ quiescent_NormBRefIdeal (hNormBRefIdeal := hNormBRefIdeal)
    ∧ quiescent_Local (hLocal := hLocal)
    ∧ quiescent_LocalIdeal (hLocalIdeal := hLocalIdeal)
    ∧ quiescent_LocalIdeal_pre_finite_qk_sink (hLocalIdeal := hLocalIdeal) (hPre_finite_qk_sink := hPre_finite_qk_sink)
    ∧ quiescent_LocalRefIdeal (hLocalRefIdeal := hLocalRefIdeal)
    ∧ quiescent_LocalRefIdeal_pre_finite_qk_sink (hLocalRefIdeal := hLocalRefIdeal) (hPre_finite_qk_sink := hPre_finite_qk_sink)
    ∧ quiescent_FourierChan (hFourierChan := hFourierChan)
    ∧ quiescent_FourierChanIdeal (hFourierChanIdeal := hFourierChanIdeal)
    ∧ quiescent_FourierChanRefIdeal (hFourierChanRefIdeal := hFourierChanRefIdeal)
    ∧ quiescent_FourierPos (hFourierPos := hFourierPos)
    ∧ quiescent_FourierPosIdeal (hFourierPosIdeal := hFourierPosIdeal)
    ∧ quiescent_FourierPosRefIdeal (hFourierPosRefIdeal := hFourierPosRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Norm_NormIdeal
    ∧ algebraic_NormIdeal_NormRefIdeal (hNormIdeal := hNormIdeal) (hNormRefIdeal := hNormRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_NormB_NormBIdeal
    ∧ algebraic_NormBIdeal_NormBRefIdeal (hNormBIdeal := hNormBIdeal) (hNormBRefIdeal := hNormBRefIdeal)
    ∧ preserves_Local_LocalIdeal
    ∧ algebraic_LocalIdeal_LocalRefIdeal_pre_finite_qk_sink (hLocalIdeal := hLocalIdeal) (hLocalRefIdeal := hLocalRefIdeal) (hPre_finite_qk_sink := hPre_finite_qk_sink)
    ∧ preserves_FourierChan_FourierChanIdeal
    ∧ algebraic_FourierChanIdeal_FourierChanRefIdeal (hFourierChanIdeal := hFourierChanIdeal) (hFourierChanRefIdeal := hFourierChanRefIdeal)
    ∧ preserves_FourierPos_FourierPosIdeal
    ∧ algebraic_FourierPosIdeal_FourierPosRefIdeal (hFourierPosIdeal := hFourierPosIdeal) (hFourierPosRefIdeal := hFourierPosRefIdeal)
    ∧ preserves_Qkv_QkvIdeal
    ∧ algebraic_QkvIdeal_QkvRefIdeal (hQkvIdeal := hQkvIdeal) (hQkvRefIdeal := hQkvRefIdeal)
-- ==== Pre_finite_qk.lean ====
abbrev S4x4x8192x128 : Shape := ⟨4, ![4, 4, 8192, 128]⟩
abbrev S4x2x8192x128 : Shape := ⟨4, ![4, 2, 8192, 128]⟩
abbrev S_ : Shape := ⟨0, ![]⟩

class Facts : Prop where
  bcast_S_S4x4x8192x128 : S_.BroadcastsInDim S4x4x8192x128 (![] : Fin 0 → Fin S4x4x8192x128.rank)
  bcast_S_S4x2x8192x128 : S_.BroadcastsInDim S4x2x8192x128 (![] : Fin 0 → Fin S4x2x8192x128.rank)

variable [Facts]

def fn {F : FTy → Type} [FloatOps F] (main_arg0 : FVec F S4x4x8192x128 .bf16) (main_arg1 : FVec F S4x2x8192x128 .bf16) (main_arg2 : FVec F S4x2x8192x128 .bf16) : IVec S4x4x8192x128 1 × IVec S4x2x8192x128 1 :=
  let main_v0 : FVec F S4x4x8192x128 .bf16 := Host.absf main_arg0
  let main_cst : FVec F S_ .bf16 := constant S_ .bf16 0x7F80#16
  let main_v1 : FVec F S4x4x8192x128 .bf16 := broadcastInDim S4x4x8192x128 ![] bcast_S_S4x4x8192x128 main_cst
  let main_v2 : IVec S4x4x8192x128 1 := cmpf .olt main_v0 main_v1
  let main_v3 : FVec F S4x2x8192x128 .bf16 := Host.absf main_arg1
  let main_cst_0 : FVec F S_ .bf16 := constant S_ .bf16 0x7F80#16
  let main_v4 : FVec F S4x2x8192x128 .bf16 := broadcastInDim S4x2x8192x128 ![] bcast_S_S4x2x8192x128 main_cst_0
  let main_v5 : IVec S4x2x8192x128 1 := cmpf .olt main_v3 main_v4
  (main_v2, main_v5)
-- ==== Pre_finite_qk_sink.lean ====
abbrev S4x4x8192x128 : Shape := ⟨4, ![4, 4, 8192, 128]⟩
abbrev S4x2x8192x128 : Shape := ⟨4, ![4, 2, 8192, 128]⟩
abbrev S4 : Shape := ⟨1, ![4]⟩
abbrev S_ : Shape := ⟨0, ![]⟩

class Facts : Prop where
  bcast_S_S4x4x8192x128 : S_.BroadcastsInDim S4x4x8192x128 (![] : Fin 0 → Fin S4x4x8192x128.rank)
  bcast_S_S4x2x8192x128 : S_.BroadcastsInDim S4x2x8192x128 (![] : Fin 0 → Fin S4x2x8192x128.rank)
  bcast_S_S4 : S_.BroadcastsInDim S4 (![] : Fin 0 → Fin S4.rank)

variable [Facts]

def fn {F : FTy → Type} [FloatOps F] (main_arg0 : FVec F S4x4x8192x128 .bf16) (main_arg1 : FVec F S4x2x8192x128 .bf16) (main_arg2 : FVec F S4x2x8192x128 .bf16) (main_arg3 : FVec F S4 .f32) : IVec S4x4x8192x128 1 × IVec S4x2x8192x128 1 × IVec S4 1 :=
  let main_v0 : FVec F S4x4x8192x128 .bf16 := Host.absf main_arg0
  let main_cst : FVec F S_ .bf16 := constant S_ .bf16 0x7F80#16
  let main_v1 : FVec F S4x4x8192x128 .bf16 := broadcastInDim S4x4x8192x128 ![] bcast_S_S4x4x8192x128 main_cst
  let main_v2 : IVec S4x4x8192x128 1 := cmpf .olt main_v0 main_v1
  let main_v3 : FVec F S4x2x8192x128 .bf16 := Host.absf main_arg1
  let main_cst_0 : FVec F S_ .bf16 := constant S_ .bf16 0x7F80#16
  let main_v4 : FVec F S4x2x8192x128 .bf16 := broadcastInDim S4x2x8192x128 ![] bcast_S_S4x2x8192x128 main_cst_0
  let main_v5 : IVec S4x2x8192x128 1 := cmpf .olt main_v3 main_v4
  let main_v6 : FVec F S4 .f32 := Host.absf main_arg3
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  (main_v2, main_v5, main_v8)
-- ==== Kernel.lean ====
abbrev S4x4x8192x128 : Shape := ⟨4, ![4, 4, 8192, 128]⟩
abbrev S4x2x8192x128 : Shape := ⟨4, ![4, 2, 8192, 128]⟩
abbrev S4x8192x512 : Shape := ⟨3, ![4, 8192, 512]⟩
abbrev S1x2x512x128 : Shape := ⟨4, ![1, 2, 512, 128]⟩
abbrev S1x1x2048x128 : Shape := ⟨4, ![1, 1, 2048, 128]⟩
abbrev S1x512x256 : Shape := ⟨3, ![1, 512, 256]⟩
abbrev S1024x1 : Shape := ⟨2, ![1024, 1]⟩
abbrev S1024x128 : Shape := ⟨2, ![1024, 128]⟩
abbrev S2x512x128 : Shape := ⟨3, ![2, 512, 128]⟩
abbrev S2048x128 : Shape := ⟨2, ![2048, 128]⟩
abbrev S1024x2048 : Shape := ⟨2, ![1024, 2048]⟩
abbrev S1024 : Shape := ⟨1, ![1024]⟩
abbrev S512x128 : Shape := ⟨2, ![512, 128]⟩
abbrev S1x512x128 : Shape := ⟨3, ![1, 512, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x4x8192x128, .bf16⟩
  | .hbm, ⟨1, _⟩ => ⟨S4x2x8192x128, .bf16⟩
  | .hbm, ⟨2, _⟩ => ⟨S4x2x8192x128, .bf16⟩
  | .hbm, ⟨3, _⟩ => ⟨S4x8192x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x512x256, .bf16⟩
  | .local _ .vmem, ⟨7, _⟩ => ⟨S1x512x256, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S4x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 16, 4], ![false, false, false, false]⟩

def k0_cond2 (i : grid0.Coords) : BitVec 1 :=
  let arg3 : BitVec 32 := BitVec.ofNat 32 (i 3).val
  let c3_i32 : BitVec 32 := 3#32
  let v42 : BitVec 1 := Scalar.cmpi .eq arg3 c3_i32
  let v43 : BitVec 32 := Scalar.extui v42
  let c0_i32_28 : BitVec 32 := 0#32
  let v44 : BitVec 1 := Scalar.cmpi .ne v43 c0_i32_28
  v44

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S4x4x8192x128 : Shape := ⟨4, ![4, 4, 8192, 128]⟩
abbrev S4x2x8192x128 : Shape := ⟨4, ![4, 2, 8192, 128]⟩
abbrev S4x8192x4x128 : Shape := ⟨4, ![4, 8192, 4, 128]⟩
abbrev S4x8192x2x128 : Shape := ⟨4, ![4, 8192, 2, 128]⟩
abbrev S4x8192x2x2x128 : Shape := ⟨5, ![4, 8192, 2, 2, 128]⟩
abbrev S4x2x8192x8192x2 : Shape := ⟨5, ![4, 2, 8192, 8192, 2]⟩
abbrev S4x2x2x8192x8192 : Shape := ⟨5, ![4, 2, 2, 8192, 8192]⟩
abbrev S_ : Shape := ⟨0, ![]⟩
abbrev S4x2x2x8192 : Shape := ⟨4, ![4, 2, 2, 8192]⟩
abbrev S4x2x2x8192x1 : Shape := ⟨5, ![4, 2, 2, 8192, 1]⟩
abbrev S4x2x128x2x8192 : Shape := ⟨5, ![4, 2, 128, 2, 8192]⟩
abbrev S4x8192x512 : Shape := ⟨3, ![4, 8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x4x8192x128, .bf16⟩
  | .hbm, ⟨1, _⟩ => ⟨S4x2x8192x128, .bf16⟩
  | .hbm, ⟨2, _⟩ => ⟨S4x2x8192x128, .bf16⟩
  | .hbm, ⟨3, _⟩ => ⟨S4x4x8192x128, .f32⟩
  | .hbm, ⟨4, _⟩ => ⟨S4x8192x4x128, .f32⟩
  | .hbm, ⟨5, _⟩ => ⟨S4x2x8192x128, .f32⟩
  | .hbm, ⟨6, _⟩ => ⟨S4x8192x2x128, .f32⟩
  | .hbm, ⟨7, _⟩ => ⟨S4x2x8192x128, .f32⟩
  | .hbm, ⟨8, _⟩ => ⟨S4x8192x2x128, .f32⟩
  | .hbm, ⟨9, _⟩ => ⟨S4x8192x2x2x128, .f32⟩
  | .hbm, ⟨10, _⟩ => ⟨S4x2x8192x8192x2, .f32⟩
  | .hbm, ⟨11, _⟩ => ⟨S4x2x2x8192x8192, .f32⟩
  | .hbm, ⟨12, _⟩ => ⟨S_, .f32⟩
  | .hbm, ⟨13, _⟩ => ⟨S4x2x2x8192x8192, .f32⟩
  | .hbm, ⟨14, _⟩ => ⟨S4x2x2x8192x8192, .f32⟩
  | .hbm, ⟨15, _⟩ => ⟨S_, .f32⟩
  | .hbm, ⟨16, _⟩ => ⟨S4x2x2x8192, .f32⟩
  | .hbm, ⟨17, _⟩ => ⟨S_, .f32⟩
  | .hbm, ⟨18, _⟩ => ⟨S4x2x2x8192, .f32⟩
  | .hbm, ⟨19, _⟩ => ⟨S4x2x2x8192, .f32⟩
  | .hbm, ⟨20, _⟩ => ⟨S4x2x2x8192x1, .f32⟩
  | .hbm, ⟨21, _⟩ => ⟨S4x2x2x8192x8192, .f32⟩
  | .hbm, ⟨22, _⟩ => ⟨S4x2x2x8192x8192, .f32⟩
  | .hbm, ⟨23, _⟩ => ⟨S4x2x2x8192x8192, .f32⟩
  | .hbm, ⟨24, _⟩ => ⟨S_, .f32⟩
  | .hbm, ⟨25, _⟩ => ⟨S4x2x2x8192, .f32⟩
  | .hbm, ⟨26, _⟩ => ⟨S4x2x2x8192x1, .f32⟩
  | .hbm, ⟨27, _⟩ => ⟨S4x2x2x8192x8192, .f32⟩
  | .hbm, ⟨28, _⟩ => ⟨S4x2x2x8192x8192, .f32⟩
  | .hbm, ⟨29, _⟩ => ⟨S4x2x128x2x8192, .f32⟩
  | .hbm, ⟨30, _⟩ => ⟨S4x8192x2x2x128, .f32⟩
  | .hbm, ⟨31, _⟩ => ⟨S4x8192x512, .f32⟩
  | .hbm, ⟨32, _⟩ => ⟨S4x8192x512, .bf16⟩
  | _, _ => ⟨S4x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnIn.lean ====
abbrev S32768x2048 : Shape := ⟨2, ![32768, 2048]⟩
abbrev S2048x5632 : Shape := ⟨2, ![2048, 5632]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnInRefIdeal.lean ====
abbrev S32768x2048 : Shape := ⟨2, ![32768, 2048]⟩
abbrev S2048x5632 : Shape := ⟨2, ![2048, 5632]⟩
abbrev S32768x5632 : Shape := ⟨2, ![32768, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S32768x2048, .f32⟩
  | .hbm, ⟨4, _⟩ => ⟨S32768x5632, .f32⟩
  | .hbm, ⟨5, _⟩ => ⟨S32768x5632, .f32⟩
  | .hbm, ⟨6, _⟩ => ⟨S32768x5632, .f32⟩
  | .hbm, ⟨7, _⟩ => ⟨S_, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnOut.lean ====
abbrev S32768x5632 : Shape := ⟨2, ![32768, 5632]⟩
abbrev S5632x2048 : Shape := ⟨2, ![5632, 2048]⟩
abbrev S32768x2048 : Shape := ⟨2, ![32768, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S5632x2048, .bf16⟩
  | .hbm, ⟨4, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S32768x5632 : Shape := ⟨2, ![32768, 5632]⟩
abbrev S5632x2048 : Shape := ⟨2, ![5632, 2048]⟩
abbrev S32768x2048 : Shape := ⟨2, ![32768, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S32768x5632, .f32⟩
  | .hbm, ⟨4, _⟩ => ⟨S32768x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Merge.lean ====
abbrev S32768x2048 : Shape := ⟨2, ![32768, 2048]⟩
abbrev S4x2048x2048 : Shape := ⟨3, ![4, 2048, 2048]⟩
abbrev S4x2048 : Shape := ⟨2, ![4, 2048]⟩
abbrev S4x32768x512 : Shape := ⟨3, ![4, 32768, 512]⟩
abbrev S4x512x2048 : Shape := ⟨3, ![4, 512, 2048]⟩
abbrev S4x1x2048 : Shape := ⟨3, ![4, 1, 2048]⟩
abbrev S1024x2048 : Shape := ⟨2, ![1024, 2048]⟩
abbrev S1x2048x512 : Shape := ⟨3, ![1, 2048, 512]⟩
abbrev S1x1x512 : Shape := ⟨3, ![1, 1, 512]⟩
abbrev S1x1024x512 : Shape := ⟨3, ![1, 1024, 512]⟩
abbrev S1x512x512 : Shape := ⟨3, ![1, 512, 512]⟩
abbrev S1024x512 : Shape := ⟨2, ![1024, 512]⟩
abbrev S2048x512 : Shape := ⟨2, ![2048, 512]⟩
abbrev S1x512 : Shape := ⟨2, ![1, 512]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S4x2048, .f32⟩
  | .hbm, ⟨3, _⟩ => ⟨S4x32768x512, .bf16⟩
  | .hbm, ⟨4, _⟩ => ⟨S4x512x2048, .f32⟩
  | .hbm, ⟨5, _⟩ => ⟨S4x2048x2048, .bf16⟩
  | .hbm, ⟨6, _⟩ => ⟨S4x512x2048, .bf16⟩
  | .hbm, ⟨7, _⟩ => ⟨S4x1x2048, .f32⟩
  | .hbm, ⟨8, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x512x512, .bf16⟩
  | .local _ .vmem, ⟨9, _⟩ => ⟨S1x512x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 4], ![false, false, false]⟩

def k0_cond3 (i : grid0.Coords) : BitVec 1 :=
  let arg2 : BitVec 32 := BitVec.ofNat 32 (i 2).val
  let c3_i32_17 : BitVec 32 := 3#32
  let v23 : BitVec 1 := Scalar.cmpi .eq arg2 c3_i32_17
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MergeRefIdeal.lean ====
abbrev S32768x2048 : Shape := ⟨2, ![32768, 2048]⟩
abbrev S4x2048x2048 : Shape := ⟨3, ![4, 2048, 2048]⟩
abbrev S4x2048 : Shape := ⟨2, ![4, 2048]⟩
abbrev S4x32768x512 : Shape := ⟨3, ![4, 32768, 512]⟩
abbrev S4x512x2048 : Shape := ⟨3, ![4, 512, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x32768x512 : Shape := ⟨3, ![1, 32768, 512]⟩
abbrev S32768x512 : Shape := ⟨2, ![32768, 512]⟩
abbrev S1x512x2048 : Shape := ⟨3, ![1, 512, 2048]⟩
abbrev S512x2048 : Shape := ⟨2, ![512, 2048]⟩

abbrev nBuf : Space → Nat
  | .hbm => 105
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S4x2048, .f32⟩
  | .hbm, ⟨3, _⟩ => ⟨S4x32768x512, .bf16⟩
  | .hbm, ⟨4, _⟩ => ⟨S4x512x2048, .f32⟩
  | .hbm, ⟨5, _⟩ => ⟨S32768x2048, .f32⟩
  | .hbm, ⟨6, _⟩ => ⟨S_, .f32⟩
  | .hbm, ⟨7, _⟩ => ⟨S32768x2048, .f32⟩
  | .hbm, ⟨8, _⟩ => ⟨S1x2048x2048, .f32⟩
  | .hbm, ⟨9, _⟩ => ⟨S2048x2048, .f32⟩
  | .hbm, ⟨10, _⟩ => ⟨S32768x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S1x32768x512, .bf16⟩
  | .hbm, ⟨25, _⟩ => ⟨S32768x512, .bf16⟩
  | .hbm, ⟨26, _⟩ => ⟨S32768x512, .f32⟩
  | .hbm, ⟨27, _⟩ => ⟨S1x512x2048, .f32⟩
  | .hbm, ⟨28, _⟩ => ⟨S512x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S1x2048x2048, .f32⟩
  | .hbm, ⟨33, _⟩ => ⟨S2048x2048, .f32⟩
  | .hbm, ⟨34, _⟩ => ⟨S32768x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768x2048, .f32⟩
  | .hbm, ⟨47, _⟩ => ⟨S32768x2048, .f32⟩
  | .hbm, ⟨48, _⟩ => ⟨S1x32768x512, .bf16⟩
  | .hbm, ⟨49, _⟩ => ⟨S32768x512, .bf16⟩
  | .hbm, ⟨50, _⟩ => ⟨S32768x512, .f32⟩
  | .hbm, ⟨51, _⟩ => ⟨S1x512x2048, .f32⟩
  | .hbm, ⟨52, _⟩ => ⟨S512x2048, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S1x2048x2048, .f32⟩
  | .hbm, ⟨57, _⟩ => ⟨S2048x2048, .f32⟩
  | .hbm, ⟨58, _⟩ => ⟨S32768x2048, .f32⟩
  | .hbm, ⟨59, _⟩ => ⟨S1x2048, .f32⟩
  | .hbm, ⟨60, _⟩ => ⟨S2048, .f32⟩
  | .hbm, ⟨61, _⟩ => ⟨S1x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S32768x2048, .f32⟩
  | .hbm, ⟨66, _⟩ => ⟨S_, .f32⟩
  | .hbm, ⟨67, _⟩ => ⟨S32768x2048, .f32⟩
  | .hbm, ⟨68, _⟩ => ⟨S32768x2048, .f32⟩
  | .hbm, ⟨69, _⟩ => ⟨S_, .f32⟩
  | .hbm, ⟨70, _⟩ => ⟨S32768x2048, .f32⟩
  | .hbm, ⟨71, _⟩ => ⟨S32768x2048, .f32⟩
  | .hbm, ⟨72, _⟩ => ⟨S1x32768x512, .bf16⟩
  | .hbm, ⟨73, _⟩ => ⟨S32768x512, .bf16⟩
  | .hbm, ⟨74, _⟩ => ⟨S32768x512, .f32⟩
  | .hbm, ⟨75, _⟩ => ⟨S1x512x2048, .f32⟩
  | .hbm, ⟨76, _⟩ => ⟨S512x2048, .f32⟩
  | .hbm, ⟨77, _⟩ => ⟨S32768x2048, .f32⟩
  | .hbm, ⟨78, _⟩ => ⟨S32768x2048, .f32⟩
  | .hbm, ⟨79, _⟩ => ⟨S32768x2048, .f32⟩
  | .hbm, ⟨80, _⟩ => ⟨S1x2048x2048, .f32⟩
  | .hbm, ⟨81, _⟩ => ⟨S2048x2048, .f32⟩
  | .hbm, ⟨82, _⟩ => ⟨S32768x2048, .f32⟩
  | .hbm, ⟨83, _⟩ => ⟨S1x2048, .f32⟩
  | .hbm, ⟨84, _⟩ => ⟨S2048, .f32⟩
  | .hbm, ⟨85, _⟩ => ⟨S1x2048, .f32⟩
  | .hbm, ⟨86, _⟩ => ⟨S32768x2048, .f32⟩
  | .hbm, ⟨87, _⟩ => ⟨S32768x2048, .f32⟩
  | .hbm, ⟨88, _⟩ => ⟨S32768x2048, .f32⟩
  | .hbm, ⟨89, _⟩ => ⟨S32768x2048, .f32⟩
  | .hbm, ⟨90, _⟩ => ⟨S_, .f32⟩
  | .hbm, ⟨91, _⟩ => ⟨S32768x2048, .f32⟩
  | .hbm, ⟨92, _⟩ => ⟨S32768x2048, .f32⟩
  | .hbm, ⟨93, _⟩ => ⟨S_, .f32⟩
  | .hbm, ⟨94, _⟩ => ⟨S32768x2048, .f32⟩
  | .hbm, ⟨95, _⟩ => ⟨S32768x2048, .f32⟩
  | .hbm, ⟨96, _⟩ => ⟨S1x32768x512, .bf16⟩
  | .hbm, ⟨97, _⟩ => ⟨S32768x512, .bf16⟩
  | .hbm, ⟨98, _⟩ => ⟨S32768x512, .f32⟩
  | .hbm, ⟨99, _⟩ => ⟨S1x512x2048, .f32⟩
  | .hbm, ⟨100, _⟩ => ⟨S512x2048, .f32⟩
  | .hbm, ⟨101, _⟩ => ⟨S32768x2048, .f32⟩
  | .hbm, ⟨102, _⟩ => ⟨S32768x2048, .f32⟩
  | .hbm, ⟨103, _⟩ => ⟨S32768x2048, .f32⟩
  | .hbm, ⟨104, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_6 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩

abbrev nD : Nat := 1
abbrev τ : Topo := Topo.v7x

variable {F : FTy → Type} [FloatOps F]
-- ==== OutProj.lean ====
abbrev S32768x2048 : Shape := ⟨2, ![32768, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S32768x2048 : Shape := ⟨2, ![32768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .f32⟩
  | .hbm, ⟨5, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S32768x2048 : Shape := ⟨2, ![32768, 2048]⟩
abbrev S2048x3072 : Shape := ⟨2, ![2048, 3072]⟩
abbrev S32768x3072 : Shape := ⟨2, ![32768, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .f32⟩
  | .hbm, ⟨2, _⟩ => ⟨S2048x3072, .bf16⟩
  | .hbm, ⟨3, _⟩ => ⟨S32768x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S32768x2048 : Shape := ⟨2, ![32768, 2048]⟩
abbrev S2048x3072 : Shape := ⟨2, ![2048, 3072]⟩
abbrev S32768x3072 : Shape := ⟨2, ![32768, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .f32⟩
  | .hbm, ⟨2, _⟩ => ⟨S32768x2048, .f32⟩
  | .hbm, ⟨3, _⟩ => ⟨S32768x3072, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormB.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormBRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Local.lean ====
abbrev S4x4x8192x128 : Shape := ⟨4, ![4, 4, 8192, 128]⟩
abbrev S4x2x8192x128 : Shape := ⟨4, ![4, 2, 8192, 128]⟩
abbrev S4 : Shape := ⟨1, ![4]⟩
abbrev S2x2 : Shape := ⟨2, ![2, 2]⟩
abbrev S2x2x256 : Shape := ⟨3, ![2, 2, 256]⟩
abbrev S2x512 : Shape := ⟨2, ![2, 512]⟩
abbrev S2x512x1 : Shape := ⟨3, ![2, 512, 1]⟩
abbrev S4x8192x512 : Shape := ⟨3, ![4, 8192, 512]⟩
abbrev S1x2x256x128 : Shape := ⟨4, ![1, 2, 256, 128]⟩
abbrev S1x1x128x128 : Shape := ⟨4, ![1, 1, 128, 128]⟩
abbrev S1x1x256x128 : Shape := ⟨4, ![1, 1, 256, 128]⟩
abbrev S1x512x1 : Shape := ⟨3, ![1, 512, 1]⟩
abbrev S1x256x256 : Shape := ⟨3, ![1, 256, 256]⟩
abbrev S2x256x128 : Shape := ⟨3, ![2, 256, 128]⟩
abbrev S512x128 : Shape := ⟨2, ![512, 128]⟩
abbrev S128x128 : Shape := ⟨2, ![128, 128]⟩
abbrev S256x128 : Shape := ⟨2, ![256, 128]⟩
abbrev S512x512 : Shape := ⟨2, ![512, 512]⟩
abbrev S512x1 : Shape := ⟨2, ![512, 1]⟩
abbrev S512 : Shape := ⟨1, ![512]⟩
abbrev S1x256x128 : Shape := ⟨3, ![1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S4x4x8192x128, .bf16⟩
  | .hbm, ⟨1, _⟩ => ⟨S4x2x8192x128, .bf16⟩
  | .hbm, ⟨2, _⟩ => ⟨S4x2x8192x128, .bf16⟩
  | .hbm, ⟨3, _⟩ => ⟨S4, .f32⟩
  | .hbm, ⟨4, _⟩ => ⟨S2x2, .f32⟩
  | .hbm, ⟨5, _⟩ => ⟨S2x2x256, .f32⟩
  | .hbm, ⟨6, _⟩ => ⟨S2x512, .f32⟩
  | .hbm, ⟨7, _⟩ => ⟨S2x512x1, .f32⟩
  | .hbm, ⟨8, _⟩ => ⟨S4x8192x512, .bf16⟩
  | .local _ .vmem, ⟨0, _⟩ => ⟨S1x2x256x128, .bf16⟩
  | .local _ .vmem, ⟨1, _⟩ => ⟨S1x2x256x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x128x128, .bf16⟩
  | .local _ .vmem, ⟨9, _⟩ => ⟨S1x1x128x128, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S1x512x1, .f32⟩
  | .local _ .vmem, ⟨15, _⟩ => ⟨S1x512x1, .f32⟩
  | .local _ .vmem, ⟨16, _⟩ => ⟨S1x256x256, .bf16⟩
  | .local _ .vmem, ⟨17, _⟩ => ⟨S1x256x256, .bf16⟩
  | _, _ => ⟨S4x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![arg0.toNat, arg1.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![arg0.toNat, arg1.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== LocalIdeal.lean ====
variable {F : FTy → Type} [FloatOps F] [Named F]
def κ : String → Option EReal := fun
  | "neg" => some ⊥
  | _ => none
-- ==== LocalRefIdeal.lean ====
abbrev S4x4x8192x128 : Shape := ⟨4, ![4, 4, 8192, 128]⟩
abbrev S4x2x8192x128 : Shape := ⟨4, ![4, 2, 8192, 128]⟩
abbrev S4 : Shape := ⟨1, ![4]⟩
abbrev S4x8192x4x128 : Shape := ⟨4, ![4, 8192, 4, 128]⟩
abbrev S4x8192x2x128 : Shape := ⟨4, ![4, 8192, 2, 128]⟩
abbrev S4x64x128x2x2x128 : Shape := ⟨6, ![4, 64, 128, 2, 2, 128]⟩
abbrev S_ : Shape := ⟨0, ![]⟩
abbrev S4x8448x2x128 : Shape := ⟨4, ![4, 8448, 2, 128]⟩
abbrev S4x66x128x2x128 : Shape := ⟨5, ![4, 66, 128, 2, 128]⟩
abbrev S4x64x128x2x128 : Shape := ⟨5, ![4, 64, 128, 2, 128]⟩
abbrev S4x64x384x2x128 : Shape := ⟨5, ![4, 64, 384, 2, 128]⟩
abbrev S4x64x2x384x128x2 : Shape := ⟨6, ![4, 64, 2, 384, 128, 2]⟩
abbrev S4x64x2x2x128x384 : Shape := ⟨6, ![4, 64, 2, 2, 128, 384]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S2x2 : Shape := ⟨2, ![2, 2]⟩
abbrev S1x1x2x2x1x1 : Shape := ⟨6, ![1, 1, 2, 2, 1, 1]⟩
abbrev S4x64x2x2x128x1 : Shape := ⟨6, ![4, 64, 2, 2, 128, 1]⟩
abbrev S4x64x2x2x128x385 : Shape := ⟨6, ![4, 64, 2, 2, 128, 385]⟩
abbrev S4x64x2x2x128 : Shape := ⟨5, ![4, 64, 2, 2, 128]⟩
abbrev S4x64x2x128x2x128 : Shape := ⟨6, ![4, 64, 2, 128, 2, 128]⟩
abbrev S4x8192x512 : Shape := ⟨3, ![4, 8192, 512]⟩

abbrev nBuf : Space → Nat
  | .hbm => 105
  | .vmem => 0
  | .smem => 0
  | _ => 0

abbrev bufTy : (tb : Table) → Fin (tcTables nBuf tb) → BufTy
  | .hbm, ⟨0, _⟩ => ⟨S4x4x8192x128, .bf16⟩
  | .hbm, ⟨1, _⟩ => ⟨S4x2x8192x128, .bf16⟩
  | .hbm, ⟨2, _⟩ => ⟨S4x2x8192x128, .bf16⟩
  | .hbm, ⟨3, _⟩ => ⟨S4, .f32⟩
  | .hbm, ⟨4, _⟩ => ⟨S4x4x8192x128, .f32⟩
  | .hbm, ⟨5, _⟩ => ⟨S4x8192x4x128, .f32⟩
  | .hbm, ⟨6, _⟩ => ⟨S4x2x8192x128, .f32⟩
  | .hbm, ⟨7, _⟩ => ⟨S4x8192x2x128, .f32⟩
  | .hbm, ⟨8, _⟩ => ⟨S4x2x8192x128, .f32⟩
  | .hbm, ⟨9, _⟩ => ⟨S4x8192x2x128, .f32⟩
  | .hbm, ⟨10, _⟩ => ⟨S4x64x128x2x2x128, .f32⟩
  | .hbm, ⟨11, _⟩ => ⟨S_, .i32⟩
  | .hbm, ⟨12, _⟩ => ⟨S_, .f32⟩
  | .hbm, ⟨13, _⟩ => ⟨S4x8448x2x128, .f32⟩
  | .hbm, ⟨14, _⟩ => ⟨S4x66x128x2x128, .f32⟩
  | .hbm, ⟨15, _⟩ => ⟨S4x64x128x2x128, .f32⟩
  | .hbm, ⟨16, _⟩ => ⟨S4x64x128x2x128, .f32⟩
  | .hbm, ⟨17, _⟩ => ⟨S4x64x128x2x128, .f32⟩
  | .hbm, ⟨18, _⟩ => ⟨S4x64x384x2x128, .f32⟩
  | .hbm, ⟨19, _⟩ => ⟨S_, .i32⟩
  | .hbm, ⟨20, _⟩ => ⟨S_, .f32⟩
  | .hbm, ⟨21, _⟩ => ⟨S4x8448x2x128, .f32⟩
  | .hbm, ⟨22, _⟩ => ⟨S4x66x128x2x128, .f32⟩
  | .hbm, ⟨23, _⟩ => ⟨S4x64x128x2x128, .f32⟩
  | .hbm, ⟨24, _⟩ => ⟨S4x64x128x2x128, .f32⟩
  | .hbm, ⟨25, _⟩ => ⟨S4x64x128x2x128, .f32⟩
  | .hbm, ⟨26, _⟩ => ⟨S4x64x384x2x128, .f32⟩
  | .hbm, ⟨27, _⟩ => ⟨S4x64x2x384x128x2, .f32⟩
  | .hbm, ⟨28, _⟩ => ⟨S4x64x2x2x128x384, .f32⟩
  | .hbm, ⟨29, _⟩ => ⟨S_, .f32⟩
  | .hbm, ⟨30, _⟩ => ⟨S4x64x2x2x128x384, .f32⟩
  | .hbm, ⟨31, _⟩ => ⟨S4x64x2x2x128x384, .f32⟩
  | .hbm, ⟨32, _⟩ => ⟨S64, .i32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S128, .i32⟩
  | .hbm, ⟨38, _⟩ => ⟨S1x128, .i32⟩
  | .hbm, ⟨39, _⟩ => ⟨S64x128, .i32⟩
  | .hbm, ⟨40, _⟩ => ⟨S64x128, .i32⟩
  | .hbm, ⟨41, _⟩ => ⟨S64x128, .i32⟩
  | .hbm, ⟨42, _⟩ => ⟨S64, .i32⟩
  | .hbm, ⟨43, _⟩ => ⟨S64x1, .i32⟩
  | .hbm, ⟨44, _⟩ => ⟨S_, .i32⟩
  | .hbm, ⟨45, _⟩ => ⟨S64x1, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S384, .i32⟩
  | .hbm, ⟨51, _⟩ => ⟨S1x384, .i32⟩
  | .hbm, ⟨52, _⟩ => ⟨S64x384, .i32⟩
  | .hbm, ⟨53, _⟩ => ⟨S64x384, .i32⟩
  | .hbm, ⟨54, _⟩ => ⟨S64x384, .i32⟩
  | .hbm, ⟨55, _⟩ => ⟨S64x128x1, .i32⟩
  | .hbm, ⟨56, _⟩ => ⟨S64x1x384, .i32⟩
  | .hbm, ⟨57, _⟩ => ⟨S64x128x384, .i32⟩
  | .hbm, ⟨58, _⟩ => ⟨S64x128x384, .i32⟩
  | .hbm, ⟨59, _⟩ => ⟨S64x128x384, .i32⟩
  | .hbm, ⟨60, _⟩ => ⟨S64x128x384, .i32⟩
  | .hbm, ⟨61, _⟩ => ⟨S_, .i32⟩
  | .hbm, ⟨62, _⟩ => ⟨S64x128x384, .i32⟩
  | .hbm, ⟨63, _⟩ => ⟨S64x128x384, .i1⟩
  | .hbm, ⟨64, _⟩ => ⟨S64x1x384, .i32⟩
  | .hbm, ⟨65, _⟩ => ⟨S_, .i32⟩
  | .hbm, ⟨66, _⟩ => ⟨S64x1x384, .i32⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S64x1x384, .i32⟩
  | .hbm, ⟨71, _⟩ => ⟨S_, .i32⟩
  | .hbm, ⟨72, _⟩ => ⟨S64x1x384, .i32⟩
  | .hbm, ⟨73, _⟩ => ⟨S64x1x384, .i1⟩
  | .hbm, ⟨74, _⟩ => ⟨S64x128x384, .i1⟩
  | .hbm, ⟨75, _⟩ => ⟨S64x128x384, .i1⟩
  | .hbm, ⟨76, _⟩ => ⟨S1x64x1x1x128x384, .i1⟩
  | .hbm, ⟨77, _⟩ => ⟨S_, .f32⟩
  | .hbm, ⟨78, _⟩ => ⟨S_, .f32⟩
  | .hbm, ⟨79, _⟩ => ⟨S4x64x2x2x128x384, .i1⟩
  | .hbm, ⟨80, _⟩ => ⟨S4x64x2x2x128x384, .f32⟩
  | .hbm, ⟨81, _⟩ => ⟨S4x64x2x2x128x384, .f32⟩
  | .hbm, ⟨82, _⟩ => ⟨S2x2, .f32⟩
  | .hbm, ⟨83, _⟩ => ⟨S1x1x2x2x1x1, .f32⟩
  | .hbm, ⟨84, _⟩ => ⟨S4x64x2x2x128x1, .f32⟩
  | .hbm, ⟨85, _⟩ => ⟨S4x64x2x2x128x385, .f32⟩
  | .hbm, ⟨86, _⟩ => ⟨S_, .f32⟩
  | .hbm, ⟨87, _⟩ => ⟨S4x64x2x2x128, .f32⟩
  | .hbm, ⟨88, _⟩ => ⟨S_, .f32⟩
  | .hbm, ⟨89, _⟩ => ⟨S4x64x2x2x128, .f32⟩
  | .hbm, ⟨90, _⟩ => ⟨S4x64x2x2x128, .f32⟩
  | .hbm, ⟨91, _⟩ => ⟨S4x64x2x2x128x1, .f32⟩
  | .hbm, ⟨92, _⟩ => ⟨S4x64x2x2x128x385, .f32⟩
  | .hbm, ⟨93, _⟩ => ⟨S4x64x2x2x128x385, .f32⟩
  | .hbm, ⟨94, _⟩ => ⟨S4x64x2x2x128x385, .f32⟩
  | .hbm, ⟨95, _⟩ => ⟨S_, .f32⟩
  | .hbm, ⟨96, _⟩ => ⟨S4x64x2x2x128, .f32⟩
  | .hbm, ⟨97, _⟩ => ⟨S4x64x2x2x128x1, .f32⟩
  | .hbm, ⟨98, _⟩ => ⟨S4x64x2x2x128x385, .f32⟩
  | .hbm, ⟨99, _⟩ => ⟨S4x64x2x2x128x385, .f32⟩
  | .hbm, ⟨100, _⟩ => ⟨S4x64x2x2x128x384, .f32⟩
  | .hbm, ⟨101, _⟩ => ⟨S4x64x2x128x2x128, .f32⟩
  | .hbm, ⟨102, _⟩ => ⟨S4x64x128x2x2x128, .f32⟩
  | .hbm, ⟨103, _⟩ => ⟨S4x8192x512, .f32⟩
  | .hbm, ⟨104, _⟩ => ⟨S4x8192x512, .bf16⟩
  | _, _ => ⟨S4x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩

abbrev nD : Nat := 1
abbrev τ : Topo := Topo.v7x

variable {F : FTy → Type} [FloatOps F]
-- ==== FourierChan.lean ====
abbrev S32768x3072 : Shape := ⟨2, ![32768, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x4 : Shape := ⟨2, ![4, 4]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S512x1024 : Shape := ⟨2, ![512, 1024]⟩
abbrev S32768x1024 : Shape := ⟨2, ![32768, 1024]⟩
abbrev S1024x512 : Shape := ⟨2, ![1024, 512]⟩

abbrev nBuf : Space → Nat
  | .hbm => 63
  | .vmem => 6
  | .smem => 0
  | _ => 0

abbrev bufTy : (tb : Table) → Fin (tcTables nBuf tb) → BufTy
  | .hbm, ⟨0, _⟩ => ⟨S32768x3072, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S4x1x4x1, .f32⟩
  | .hbm, ⟨45, _⟩ => ⟨S1x128x1x128, .f32⟩
  | .hbm, ⟨46, _⟩ => ⟨S4x128x4x128, .f32⟩
  | .hbm, ⟨47, _⟩ => ⟨S4x128x4x128, .f32⟩
  | .hbm, ⟨48, _⟩ => ⟨S4x128x4x128, .f32⟩
  | .hbm, ⟨49, _⟩ => ⟨S512x512, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S4x1x4x1, .f32⟩
  | .hbm, ⟨55, _⟩ => ⟨S1x128x1x128, .f32⟩
  | .hbm, ⟨56, _⟩ => ⟨S4x128x4x128, .f32⟩
  | .hbm, ⟨57, _⟩ => ⟨S4x128x4x128, .f32⟩
  | .hbm, ⟨58, _⟩ => ⟨S4x128x4x128, .f32⟩
  | .hbm, ⟨59, _⟩ => ⟨S512x512, .f32⟩
  | .hbm, ⟨60, _⟩ => ⟨S512x1024, .f32⟩
  | .hbm, ⟨61, _⟩ => ⟨S512x1024, .bf16⟩
  | .hbm, ⟨62, _⟩ => ⟨S32768x1024, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_v22 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FourierChanRefIdeal.lean ====
abbrev S32768x3072 : Shape := ⟨2, ![32768, 3072]⟩
abbrev S32768x512 : Shape := ⟨2, ![32768, 512]⟩
abbrev S32768x4x128 : Shape := ⟨3, ![32768, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S32768x512, .f32⟩
  | .hbm, ⟨2, _⟩ => ⟨S32768x4x128, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S32768x4x128, .f32⟩
  | .hbm, ⟨40, _⟩ => ⟨S32768x512, .f32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S32768x4x128, .f32⟩
  | .hbm, ⟨46, _⟩ => ⟨S32768x512, .f32⟩
  | .hbm, ⟨47, _⟩ => ⟨S32768x1024, .f32⟩
  | .hbm, ⟨48, _⟩ => ⟨S32768x1024, .bf16⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]
-- ==== FourierPos.lean ====
abbrev S4x8192x1024 : Shape := ⟨3, ![4, 8192, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x8192x512 : Shape := ⟨3, ![4, 8192, 512]⟩
abbrev S2048x1024 : Shape := ⟨2, ![2048, 1024]⟩
abbrev S1x1024x1024 : Shape := ⟨3, ![1, 1024, 1024]⟩
abbrev S1x2048x512 : Shape := ⟨3, ![1, 2048, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 39
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S_, .i32⟩
  | .hbm, ⟨19, _⟩ => ⟨S8192x8192, .i32⟩
  | .hbm, ⟨20, _⟩ => ⟨S8192x8192, .i1⟩
  | .hbm, ⟨21, _⟩ => ⟨S_, .i32⟩
  | .hbm, ⟨22, _⟩ => ⟨S_, .i1⟩
  | .hbm, ⟨23, _⟩ => ⟨S8192x8192, .i1⟩
  | .hbm, ⟨24, _⟩ => ⟨S8192x8192, .i1⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S8192x8192, .i32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .bf16⟩
  | .hbm, ⟨35, _⟩ => ⟨S8192x8192, .f32⟩
  | .hbm, ⟨36, _⟩ => ⟨S8192x8192, .f32⟩
  | .hbm, ⟨37, _⟩ => ⟨S8192x8192, .bf16⟩
  | .hbm, ⟨38, _⟩ => ⟨S4x8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S2048x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FourierPosRefIdeal.lean ====
abbrev S4x8192x1024 : Shape := ⟨3, ![4, 8192, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x8192x512 : Shape := ⟨3, ![4, 8192, 512]⟩
abbrev S4x512x8192 : Shape := ⟨3, ![4, 512, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .i32⟩
  | .hbm, ⟨23, _⟩ => ⟨S_, .i1⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x8192, .i32⟩
  | .hbm, ⟨28, _⟩ => ⟨S8192x8192, .i32⟩
  | .hbm, ⟨29, _⟩ => ⟨S8192x8192, .i32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S4x8192x512, .f32⟩
  | .hbm, ⟨36, _⟩ => ⟨S4x512x8192, .f32⟩
  | .hbm, ⟨37, _⟩ => ⟨S4x8192x512, .f32⟩
  | .hbm, ⟨38, _⟩ => ⟨S8192x8192, .f32⟩
  | .hbm, ⟨39, _⟩ => ⟨S8192x8192, .f32⟩
  | .hbm, ⟨40, _⟩ => ⟨S4x8192x512, .f32⟩
  | .hbm, ⟨41, _⟩ => ⟨S4x512x8192, .f32⟩
  | .hbm, ⟨42, _⟩ => ⟨S4x8192x512, .f32⟩
  | .hbm, ⟨43, _⟩ => ⟨S4x8192x512, .f32⟩
  | .hbm, ⟨44, _⟩ => ⟨S4x8192x512, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Qkv.lean ====
abbrev S4x8192x3072 : Shape := ⟨3, ![4, 8192, 3072]⟩
abbrev S128 : Shape := ⟨1, ![128]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x128 : Shape := ⟨2, ![1, 128]⟩
abbrev S32 : Shape := ⟨1, ![32]⟩
abbrev S1x32 : Shape := ⟨2, ![1, 32]⟩
abbrev S8192x32 : Shape := ⟨2, ![8192, 32]⟩
abbrev S4x4x8192x128 : Shape := ⟨4, ![4, 4, 8192, 128]⟩
abbrev S4x2x8192x128 : Shape := ⟨4, ![4, 2, 8192, 128]⟩
abbrev S1x256x1024 : Shape := ⟨3, ![1, 256, 1024]⟩
abbrev S256x128 : Shape := ⟨2, ![256, 128]⟩
abbrev S1x4x256x128 : Shape := ⟨4, ![1, 4, 256, 128]⟩
abbrev S1x2x256x128 : Shape := ⟨4, ![1, 2, 256, 128]⟩
abbrev S1x256x128 : Shape := ⟨3, ![1, 256, 128]⟩
abbrev S1x1x256x128 : Shape := ⟨4, ![1, 1, 256, 128]⟩
abbrev S256 : Shape := ⟨1, ![256]⟩
abbrev S256x1 : Shape := ⟨2, ![256, 1]⟩

abbrev nBuf : Space → Nat
  | .hbm => 174
  | .vmem => 28
  | .smem => 0
  | _ => 0

abbrev hbmTy0_0 (i : Nat) : BufTy := match i % 128 with
  | 0 => ⟨S4x8192x3072, .f32⟩
  | 1 => ⟨S128, .f32⟩
  | 2 => ⟨S128, .f32⟩
  | 3 => ⟨S8192, .i32⟩
  | 4 => ⟨S128, .i32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S8192, .f32⟩
  | 20 => ⟨S8192x1, .f32⟩
  | 21 => ⟨S1x64, .f32⟩
  | 22 => ⟨S8192x64, .f32⟩
  | 23 => ⟨S8192x64, .f32⟩
  | 24 => ⟨S8192x64, .f32⟩
  | 25 => ⟨S8192x128, .f32⟩
  | 26 => ⟨S8192x128, .f32⟩
  | 27 => ⟨S8192x128, .f32⟩
  | 28 => ⟨S_, .i32⟩
  | 29 => ⟨S128, .i32⟩
  | 30 => ⟨S128, .i1⟩
  | 31 => ⟨S_, .f32⟩
  | 32 => ⟨S_, .f32⟩
  | 33 => ⟨S128, .f32⟩
  | 34 => ⟨S128, .f32⟩
  | 35 => ⟨S128, .f32⟩
  | 36 => ⟨S1x128, .f32⟩
  | 37 => ⟨S1x128, .f32⟩
  | 38 => ⟨S8192x128, .f32⟩
  | 39 => ⟨S8192x128, .f32⟩
  | 40 => ⟨S_, .i32⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i1⟩
  | 48 => ⟨S8192, .i32⟩
  | 49 => ⟨S8192, .i32⟩
  | 50 => ⟨S_, .i32⟩
  | 51 => ⟨S8192, .i32⟩
  | 52 => ⟨S8192, .i1⟩
  | 53 => ⟨S8192, .i1⟩
  | 54 => ⟨S_, .i32⟩
  | 55 => ⟨S8192, .i32⟩
  | 56 => ⟨S8192, .i32⟩
  | 57 => ⟨S8192, .i32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S8192, .f32⟩
  | 73 => ⟨S8192x1, .f32⟩
  | 74 => ⟨S1x32, .f32⟩
  | 75 => ⟨S8192x32, .f32⟩
  | 76 => ⟨S8192x32, .f32⟩
  | 77 => ⟨S8192x32, .f32⟩
  | 78 => ⟨S8192x64, .f32⟩
  | 79 => ⟨S8192x64, .f32⟩
  | 80 => ⟨S8192x64, .f32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i1⟩
  | 95 => ⟨S_, .i32⟩
  | 96 => ⟨S_, .i1⟩
  | 97 => ⟨S8192, .i1⟩
  | 98 => ⟨S8192, .i1⟩
  | 99 => ⟨S8192, .i1⟩
  | 100 => ⟨S8192, .i32⟩
  | 101 => ⟨S8192, .i32⟩
  | 102 => ⟨S8192, .i32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S8192, .f32⟩
  | 118 => ⟨S8192x1, .f32⟩
  | 119 => ⟨S1x32, .f32⟩
  | 120 => ⟨S8192x32, .f32⟩
  | 121 => ⟨S8192x32, .f32⟩
  | 122 => ⟨S8192x32, .f32⟩
  | 123 => ⟨S8192x64, .f32⟩
  | 124 => ⟨S8192x64, .f32⟩
  | 125 => ⟨S8192x64, .f32⟩
  | 126 => ⟨S8192x128, .f32⟩
  | 127 => ⟨S8192x128, .f32⟩
  | _ => ⟨S4x8192x3072, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S_, .i32⟩
  | 15 => ⟨S_, .i1⟩
  | 16 => ⟨S128, .i1⟩
  | 17 => ⟨S128, .i1⟩
  | 18 => ⟨S128, .i1⟩
  | 19 => ⟨S128, .i32⟩
  | 20 => ⟨S128, .i32⟩
  | 21 => ⟨S128, .i32⟩
  | 22 => ⟨S_, .i32⟩
  | 23 => ⟨S128, .i32⟩
  | 24 => ⟨S128, .i1⟩
  | 25 => ⟨S1x128, .i1⟩
  | 26 => ⟨S8192x128, .f32⟩
  | 27 => ⟨S_, .f32⟩
  | 28 => ⟨S_, .f32⟩
  | 29 => ⟨S8192x128, .i1⟩
  | 30 => ⟨S8192x128, .f32⟩
  | 31 => ⟨S8192x128, .f32⟩
  | 32 => ⟨S1x128, .i1⟩
  | 33 => ⟨S_, .f32⟩
  | 34 => ⟨S_, .f32⟩
  | 35 => ⟨S8192x128, .i1⟩
  | 36 => ⟨S8192x128, .f32⟩
  | 37 => ⟨S8192x128, .f32⟩
  | 38 => ⟨S1x128, .f32⟩
  | 39 => ⟨S1x128, .f32⟩
  | 40 => ⟨S4x4x8192x128, .bf16⟩
  | 41 => ⟨S4x2x8192x128, .bf16⟩
  | 42 => ⟨S4x2x8192x128, .bf16⟩
  | 43 => ⟨S4x4x8192x128, .bf16⟩
  | 44 => ⟨S4x2x8192x128, .bf16⟩
  | 45 => ⟨S4x2x8192x128, .bf16⟩
  | _ => ⟨S4x8192x3072, .f32⟩

abbrev hbmTy (i : Nat) : BufTy := match i / 128 with
  | 0 => hbmTy0_0 i
  | 1 => hbmTy0_1 i
  | _ => ⟨S4x8192x3072, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x4x256x128, .bf16⟩
  | .local _ .vmem, ⟨17, _⟩ => ⟨S1x4x256x128, .bf16⟩
  | .local _ .vmem, ⟨18, _⟩ => ⟨S1x2x256x128, .bf16⟩
  | .local _ .vmem, ⟨19, _⟩ => ⟨S1x2x256x128, .bf16⟩
  | .local _ .vmem, ⟨20, _⟩ => ⟨S1x2x256x128, .bf16⟩
  | .local _ .vmem, ⟨21, _⟩ => ⟨S1x2x256x128, .bf16⟩
  | .local _ .vmem, ⟨22, _⟩ => ⟨S1x4x256x128, .bf16⟩
  | .local _ .vmem, ⟨23, _⟩ => ⟨S1x4x256x128, .bf16⟩
  | .local _ .vmem, ⟨24, _⟩ => ⟨S1x2x256x128, .bf16⟩
  | .local _ .vmem, ⟨25, _⟩ => ⟨S1x2x256x128, .bf16⟩
  | .local _ .vmem, ⟨26, _⟩ => ⟨S1x2x256x128, .bf16⟩
  | .local _ .vmem, ⟨27, _⟩ => ⟨S1x2x256x128, .bf16⟩
  | _, _ => ⟨S4x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_cst_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_1 : Ref sig .tc := ⟨.hbm, 89, rfl⟩
abbrev main_call2_v5 : Ref sig .tc := ⟨.hbm, 90, rfl⟩
abbrev main_call2_v6 : Ref sig .tc := ⟨.hbm, 91, rfl⟩
abbrev main_call2_c_2 : Ref sig .tc := ⟨.hbm, 92, rfl⟩
abbrev main_call2_v7 : Ref sig .tc := ⟨.hbm, 93, rfl⟩
abbrev main_call2_v8 : Ref sig .tc := ⟨.hbm, 94, rfl⟩
abbrev main_call2_c_3 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_v48 : Ref sig .tc := ⟨.hbm, 102, rfl⟩
abbrev main_v49 : Ref sig .tc := ⟨.hbm, 103, rfl⟩
abbrev main_cst_11 : Ref sig .tc := ⟨.hbm, 104, rfl⟩
abbrev main_v50 : Ref sig .tc := ⟨.hbm, 105, rfl⟩
abbrev main_v51 : Ref sig .tc := ⟨.hbm, 106, rfl⟩
abbrev main_cst_12 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_13 : Ref sig .tc := ⟨.hbm, 111, rfl⟩
abbrev main_v55 : Ref sig .tc := ⟨.hbm, 112, rfl⟩
abbrev main_v56 : Ref sig .tc := ⟨.hbm, 113, rfl⟩
abbrev main_cst_14 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_c_15 : Ref sig .tc := ⟨.hbm, 128, rfl⟩
abbrev main_call3_v0 : Ref sig .tc := ⟨.hbm, 129, rfl⟩
abbrev main_call3_c : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_c_1 : Ref sig .tc := ⟨.hbm, 136, rfl⟩
abbrev main_call3_v5 : Ref sig .tc := ⟨.hbm, 137, rfl⟩
abbrev main_call3_v6 : Ref sig .tc := ⟨.hbm, 138, rfl⟩
abbrev main_call3_c_2 : Ref sig .tc := ⟨.hbm, 139, rfl⟩
abbrev main_call3_v7 : Ref sig .tc := ⟨.hbm, 140, rfl⟩
abbrev main_call3_v8 : Ref sig .tc := ⟨.hbm, 141, rfl⟩
abbrev main_call3_c_3 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_v70 : Ref sig .tc := ⟨.hbm, 149, rfl⟩
abbrev main_c_16 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_cst_17 : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_v75 : Ref sig .tc := ⟨.hbm, 159, rfl⟩
abbrev main_v76 : Ref sig .tc := ⟨.hbm, 160, rfl⟩
abbrev main_cst_18 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80_0 : Ref sig .tc := ⟨.hbm, 168, rfl⟩
abbrev main_v80_1 : Ref sig .tc := ⟨.hbm, 169, rfl⟩
abbrev main_v80_2 : Ref sig .tc := ⟨.hbm, 170, rfl⟩
abbrev main_v80_3 : Ref sig .tc := ⟨.hbm, 171, rfl⟩
abbrev main_v80_4 : Ref sig .tc := ⟨.hbm, 172, rfl⟩
abbrev main_v80_5 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== QkvRefIdeal.lean ====
abbrev S4x8192x3072 : Shape := ⟨3, ![4, 8192, 3072]⟩
abbrev S128 : Shape := ⟨1, ![128]⟩
abbrev S8192 : Shape := ⟨1, ![8192]⟩
abbrev S128x64 : Shape := ⟨2, ![128, 64]⟩
abbrev S64 : Shape := ⟨1, ![64]⟩
abbrev S1x64 : Shape := ⟨2, ![1, 64]⟩
abbrev S_ : Shape := ⟨0, ![]⟩
abbrev S8192x1 : Shape := ⟨2, ![8192, 1]⟩
abbrev S8192x64 : Shape := ⟨2, ![8192, 64]⟩
abbrev S8192x128 : Shape := ⟨2, ![8192, 128]⟩
abbrev S32 : Shape := ⟨1, ![32]⟩
abbrev S1x32 : Shape := ⟨2, ![1, 32]⟩
abbrev S8192x32 : Shape := ⟨2, ![8192, 32]⟩
abbrev S4x8192x1024 : Shape := ⟨3, ![4, 8192, 1024]⟩
abbrev S4x8192x512 : Shape := ⟨3, ![4, 8192, 512]⟩
abbrev S4x8192x256 : Shape := ⟨3, ![4, 8192, 256]⟩
abbrev S4x8192x4x128 : Shape := ⟨4, ![4, 8192, 4, 128]⟩
abbrev S4x8192x2x128 : Shape := ⟨4, ![4, 8192, 2, 128]⟩
abbrev S4x8192x4x64 : Shape := ⟨4, ![4, 8192, 4, 64]⟩
abbrev S1x8192x1x128 : Shape := ⟨4, ![1, 8192, 1, 128]⟩
abbrev S4x8192x2x64 : Shape := ⟨4, ![4, 8192, 2, 64]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8192x4x32 : Shape := ⟨4, ![4, 8192, 4, 32]⟩
abbrev S1x8192x1x64 : Shape := ⟨4, ![1, 8192, 1, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x4x8192x128 : Shape := ⟨4, ![4, 4, 8192, 128]⟩
abbrev S4x2x8192x128 : Shape := ⟨4, ![4, 2, 8192, 128]⟩

abbrev nBuf : Space → Nat
  | .hbm => 210
  | .vmem => 0
  | .smem => 0
  | _ => 0

abbrev hbmTy0_0 (i : Nat) : BufTy := match i % 128 with
  | 0 => ⟨S4x8192x3072, .f32⟩
  | 1 => ⟨S128, .f32⟩
  | 2 => ⟨S128, .f32⟩
  | 3 => ⟨S8192, .i32⟩
  | 4 => ⟨S128, .i32⟩
  | 5 => ⟨S128x64, .i32⟩
  | 6 => ⟨S8192, .i32⟩
  | 7 => ⟨S64, .i32⟩
  | 8 => ⟨S1x64, .i32⟩
  | 9 => ⟨S128x64, .i32⟩
  | 10 => ⟨S8192, .i32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S8192, .f32⟩
  | 26 => ⟨S8192x1, .f32⟩
  | 27 => ⟨S1x64, .f32⟩
  | 28 => ⟨S8192x64, .f32⟩
  | 29 => ⟨S8192x64, .f32⟩
  | 30 => ⟨S8192x64, .f32⟩
  | 31 => ⟨S8192x128, .f32⟩
  | 32 => ⟨S8192x128, .f32⟩
  | 33 => ⟨S8192x128, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S8192, .f32⟩
  | 49 => ⟨S8192x1, .f32⟩
  | 50 => ⟨S1x32, .f32⟩
  | 51 => ⟨S8192x32, .f32⟩
  | 52 => ⟨S8192x32, .f32⟩
  | 53 => ⟨S8192x32, .f32⟩
  | 54 => ⟨S8192x64, .f32⟩
  | 55 => ⟨S8192x64, .f32⟩
  | 56 => ⟨S8192x64, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8192, .f32⟩
  | 72 => ⟨S8192x1, .f32⟩
  | 73 => ⟨S1x32, .f32⟩
  | 74 => ⟨S8192x32, .f32⟩
  | 75 => ⟨S8192x32, .f32⟩
  | 76 => ⟨S8192x32, .f32⟩
  | 77 => ⟨S8192x64, .f32⟩
  | 78 => ⟨S8192x64, .f32⟩
  | 79 => ⟨S8192x64, .f32⟩
  | 80 => ⟨S4x8192x1024, .f32⟩
  | 81 => ⟨S4x8192x512, .f32⟩
  | 82 => ⟨S4x8192x256, .f32⟩
  | 83 => ⟨S4x8192x256, .f32⟩
  | 84 => ⟨S4x8192x4x128, .f32⟩
  | 85 => ⟨S4x8192x2x128, .f32⟩
  | 86 => ⟨S4x8192x2x128, .f32⟩
  | 87 => ⟨S4x8192x1024, .f32⟩
  | 88 => ⟨S4x8192x512, .f32⟩
  | 89 => ⟨S4x8192x256, .f32⟩
  | 90 => ⟨S4x8192x256, .f32⟩
  | 91 => ⟨S4x8192x4x128, .f32⟩
  | 92 => ⟨S4x8192x2x128, .f32⟩
  | 93 => ⟨S4x8192x2x128, .f32⟩
  | 94 => ⟨S4x8192x4x64, .f32⟩
  | 95 => ⟨S4x8192x4x64, .f32⟩
  | 96 => ⟨S4x8192x4x64, .f32⟩
  | 97 => ⟨S4x8192x4x128, .f32⟩
  | 98 => ⟨S1x8192x1x128, .f32⟩
  | 99 => ⟨S4x8192x4x128, .f32⟩
  | 100 => ⟨S4x8192x4x128, .f32⟩
  | 101 => ⟨S1x8192x1x128, .f32⟩
  | 102 => ⟨S4x8192x4x128, .f32⟩
  | 103 => ⟨S4x8192x4x128, .f32⟩
  | 104 => ⟨S4x8192x4x128, .f32⟩
  | 105 => ⟨S4x8192x2x64, .f32⟩
  | 106 => ⟨S4x8192x2x64, .f32⟩
  | 107 => ⟨S4x8192x2x64, .f32⟩
  | 108 => ⟨S4x8192x2x128, .f32⟩
  | 109 => ⟨S1x8192x1x128, .f32⟩
  | 110 => ⟨S4x8192x2x128, .f32⟩
  | 111 => ⟨S4x8192x2x128, .f32⟩
  | 112 => ⟨S1x8192x1x128, .f32⟩
  | 113 => ⟨S4x8192x2x128, .f32⟩
  | 114 => ⟨S4x8192x2x128, .f32⟩
  | 115 => ⟨S4x8192x2x128, .f32⟩
  | 116 => ⟨S4x8192x4x128, .f32⟩
  | 117 => ⟨S_, .f32⟩
  | 118 => ⟨S4x8192x4, .f32⟩
  | 119 => ⟨S4x8192x4x1, .f32⟩
  | 120 => ⟨S_, .f32⟩
  | 121 => ⟨S4x8192x4x1, .f32⟩
  | 122 => ⟨S4x8192x4x1, .f32⟩
  | 123 => ⟨S_, .f32⟩
  | 124 => ⟨S4x8192x4x1, .f32⟩
  | 125 => ⟨S4x8192x4x1, .f32⟩
  | 126 => ⟨S4x8192x4x1, .f32⟩
  | 127 => ⟨S4x8192x4x128, .f32⟩
  | _ => ⟨S4x8192x3072, .f32⟩

abbrev hbmTy0_1 (i : Nat) : BufTy := match i % 128 with
  | 0 => ⟨S4x8192x4x128, .f32⟩
  | 1 => ⟨S1x1x1x128, .f32⟩
  | 2 => ⟨S4x8192x4x128, .f32⟩
  | 3 => ⟨S4x8192x4x128, .f32⟩
  | 4 => ⟨S4x8192x4x64, .f32⟩
  | 5 => ⟨S4x8192x4x32, .f32⟩
  | 6 => ⟨S4x8192x4x32, .f32⟩
  | 7 => ⟨S4x8192x4x32, .f32⟩
  | 8 => ⟨S4x8192x4x64, .f32⟩
  | 9 => ⟨S1x8192x1x64, .f32⟩
  | 10 => ⟨S4x8192x4x64, .f32⟩
  | 11 => ⟨S4x8192x4x64, .f32⟩
  | 12 => ⟨S1x8192x1x64, .f32⟩
  | 13 => ⟨S4x8192x4x64, .f32⟩
  | 14 => ⟨S4x8192x4x64, .f32⟩
  | 15 => ⟨S4x8192x4x64, .f32⟩
  | 16 => ⟨S4x8192x4x64, .f32⟩
  | 17 => ⟨S4x8192x4x32, .f32⟩
  | 18 => ⟨S4x8192x4x32, .f32⟩
  | 19 => ⟨S4x8192x4x32, .f32⟩
  | 20 => ⟨S4x8192x4x64, .f32⟩
  | 21 => ⟨S1x8192x1x64, .f32⟩
  | 22 => ⟨S4x8192x4x64, .f32⟩
  | 23 => ⟨S4x8192x4x64, .f32⟩
  | 24 => ⟨S1x8192x1x64, .f32⟩
  | 25 => ⟨S4x8192x4x64, .f32⟩
  | 26 => ⟨S4x8192x4x64, .f32⟩
  | 27 => ⟨S4x8192x4x64, .f32⟩
  | 28 => ⟨S4x8192x4x128, .f32⟩
  | 29 => ⟨S4x8192x2x128, .f32⟩
  | 30 => ⟨S_, .f32⟩
  | 31 => ⟨S4x8192x2, .f32⟩
  | 32 => ⟨S4x8192x2x1, .f32⟩
  | 33 => ⟨S_, .f32⟩
  | 34 => ⟨S4x8192x2x1, .f32⟩
  | 35 => ⟨S4x8192x2x1, .f32⟩
  | 36 => ⟨S_, .f32⟩
  | 37 => ⟨S4x8192x2x1, .f32⟩
  | 38 => ⟨S4x8192x2x1, .f32⟩
  | 39 => ⟨S4x8192x2x1, .f32⟩
  | 40 => ⟨S4x8192x2x128, .f32⟩
  | 41 => ⟨S4x8192x2x128, .f32⟩
  | 42 => ⟨S1x1x1x128, .f32⟩
  | 43 => ⟨S4x8192x2x128, .f32⟩
  | 44 => ⟨S4x8192x2x128, .f32⟩
  | 45 => ⟨S4x8192x2x64, .f32⟩
  | 46 => ⟨S4x8192x2x32, .f32⟩
  | 47 => ⟨S4x8192x2x32, .f32⟩
  | 48 => ⟨S4x8192x2x32, .f32⟩
  | 49 => ⟨S4x8192x2x64, .f32⟩
  | 50 => ⟨S1x8192x1x64, .f32⟩
  | 51 => ⟨S4x8192x2x64, .f32⟩
  | 52 => ⟨S4x8192x2x64, .f32⟩
  | 53 => ⟨S1x8192x1x64, .f32⟩
  | 54 => ⟨S4x8192x2x64, .f32⟩
  | 55 => ⟨S4x8192x2x64, .f32⟩
  | 56 => ⟨S4x8192x2x64, .f32⟩
  | 57 => ⟨S4x8192x2x64, .f32⟩
  | 58 => ⟨S4x8192x2x32, .f32⟩
  | 59 => ⟨S4x8192x2x32, .f32⟩
  | 60 => ⟨S4x8192x2x32, .f32⟩
  | 61 => ⟨S4x8192x2x64, .f32⟩
  | 62 => ⟨S1x8192x1x64, .f32⟩
  | 63 => ⟨S4x8192x2x64, .f32⟩
  | 64 => ⟨S4x8192x2x64, .f32⟩
  | 65 => ⟨S1x8192x1x64, .f32⟩
  | 66 => ⟨S4x8192x2x64, .f32⟩
  | 67 => ⟨S4x8192x2x64, .f32⟩
  | 68 => ⟨S4x8192x2x64, .f32⟩
  | 69 => ⟨S4x8192x2x128, .f32⟩
  | 70 => ⟨S4x4x8192x128, .f32⟩
  | 71 => ⟨S4x4x8192x128, .bf16⟩
  | 72 => ⟨S4x2x8192x128, .f32⟩
  | 73 => ⟨S4x2x8192x128, .bf16⟩
  | 74 => ⟨S4x2x8192x128, .f32⟩
  | 75 => ⟨S4x2x8192x128, .bf16⟩
  | 76 => ⟨S4x4x8192x128, .f32⟩
  | 77 => ⟨S4x4x8192x128, .bf16⟩
  | 78 => ⟨S4x2x8192x128, .f32⟩
  | 79 => ⟨S4x2x8192x128, .bf16⟩
  | 80 => ⟨S4x2x8192x128, .f32⟩
  | 81 => ⟨S4x2x8192x128, .bf16⟩
  | _ => ⟨S4x8192x3072, .f32⟩

abbrev hbmTy (i : Nat) : BufTy := match i / 128 with
  | 0 => hbmTy0_0 i
  | 1 => hbmTy0_1 i
  | _ => ⟨S4x8192x3072, .f32⟩

abbrev bufTy : (tb : Table) → Fin (tcTables nBuf tb) → BufTy
  | .hbm, ⟨i, _⟩ => hbmTy i
  | _, _ => ⟨S4x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_11 : Ref sig .tc := ⟨.hbm, 117, rfl⟩
abbrev main_v102 : Ref sig .tc := ⟨.hbm, 118, rfl⟩
abbrev main_v103 : Ref sig .tc := ⟨.hbm, 119, rfl⟩
abbrev main_cst_12 : Ref sig .tc := ⟨.hbm, 120, rfl⟩
abbrev main_v104 : Ref sig .tc := ⟨.hbm, 121, rfl⟩
abbrev main_v105 : Ref sig .tc := ⟨.hbm, 122, rfl⟩
abbrev main_cst_13 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_14 : Ref sig .tc := ⟨.hbm, 158, rfl⟩
abbrev main_v140 : Ref sig .tc := ⟨.hbm, 159, rfl⟩
abbrev main_v141 : Ref sig .tc := ⟨.hbm, 160, rfl⟩
abbrev main_cst_15 : Ref sig .tc := ⟨.hbm, 161, rfl⟩
abbrev main_v142 : Ref sig .tc := ⟨.hbm, 162, rfl⟩
abbrev main_v143 : Ref sig .tc := ⟨.hbm, 163, rfl⟩
abbrev main_cst_16 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩

abbrev nD : Nat := 1
abbrev τ : Topo := Topo.v7x

variable {F : FTy → Type} [FloatOps F]
-- ==== Proof.QkvTab.lean ====
module

public import proofs.«01_k».proof.Proof.Gen.QkvIdeal.Frame
public import Idealize.ShloMosaic.Lib.StableHlo.RunRead
public import Idealize.ShloMosaic.Lib.Pipeline.ValueKit

@[expose] public section

set_option maxRecDepth 16384

noncomputable section

/-! # The tables the program builds for the rotary embeddings -/

namespace Cert.QkvIdeal.Val

open Idealize.ShloMosaic Idealize.ShloMosaic.TcCoe Idealize.SL.Sem
open Cert.QkvIdeal Cert.QkvIdeal.Gen

/-- The angles of the rotary embedding of width 128: position times `10000 ^ (-2j/128)` in lanes `j` and `j + 64`. -/
def ang64 (p : Vec Ideal S8192 .i32) : Vec Ideal S8192x128 .f32 :=
  let x : FVec Ideal S8192x64 .f32 := mulf
    (broadcastInDim S8192x64 ![0, 1] bcast_S8192x1_S8192x64_0_1
      (broadcastInDim S8192x1 ![0] bcast_S8192_S8192x1_0 (sitofp .f32 p)))
    (broadcastInDim S8192x64 ![0, 1] bcast_S1x64_S8192x64_0_1
      (broadcastInDim S1x64 ![1] bcast_S64_S1x64_1
        (Host.powf (broadcastInDim S64 ![] bcast_S_S64 (constant S_ .f32 0x461C4000#32))
          (Host.divf (Host.negf (addf (broadcastInDim S64 ![] bcast_S_S64 (constant S_ .f32 0x00000000#32))
              (mulf (broadcastInDim S64 ![] bcast_S_S64 (constant S_ .f32 0x40000000#32))
                (sitofp .f32 (iotaInDim S64 32 0)))))
            (broadcastInDim S64 ![] bcast_S_S64 (constant S_ .f32 0x43000000#32))))))
  concatenate S8192x128 1 [⟨S8192x64, x⟩, ⟨S8192x64, x⟩] concatenates_S8192x64_S8192x64_S8192x128_d1

/-- The angles of the rotary embedding of width 64: position times `10000 ^ (-2j/64)` in lanes `j` and `j + 32`. -/
def ang32 (p : Vec Ideal S8192 .i32) : Vec Ideal S8192x64 .f32 :=
  let x : FVec Ideal S8192x32 .f32 := mulf
    (broadcastInDim S8192x32 ![0, 1] bcast_S8192x1_S8192x32_0_1
      (broadcastInDim S8192x1 ![0] bcast_S8192_S8192x1_0 (sitofp .f32 p)))
    (broadcastInDim S8192x32 ![0, 1] bcast_S1x32_S8192x32_0_1
      (broadcastInDim S1x32 ![1] bcast_S32_S1x32_1
        (Host.powf (broadcastInDim S32 ![] bcast_S_S32 (constant S_ .f32 0x461C4000#32))
          (Host.divf (Host.negf (addf (broadcastInDim S32 ![] bcast_S_S32 (constant S_ .f32 0x00000000#32))
              (mulf (broadcastInDim S32 ![] bcast_S_S32 (constant S_ .f32 0x40000000#32))
                (sitofp .f32 (iotaInDim S32 32 0)))))
            (broadcastInDim S32 ![] bcast_S_S32 (constant S_ .f32 0x42800000#32))))))
  concatenate S8192x64 1 [⟨S8192x32, x⟩, ⟨S8192x32, x⟩] concatenates_S8192x32_S8192x32_S8192x64_d1

/-- The grid row of position `s`. -/
def rowP : Vec Ideal S8192 .i32 := fun i => BitVec.ofNat 32 ((i 0).val / 64)

/-- The grid column of position `s`. -/
def colP : Vec Ideal S8192 .i32 := fun i => BitVec.ofNat 32 ((i 0).val % 64)

/-- Floor division of a word by 64, as the host program computes it. -/
def fdW (w : BitVec 32) : BitVec 32 :=
  let sg : BitVec 32 → BitVec 32 := fun x => if x = 0 then 0 else if x.msb then -1 else 1
  Scalar.select (IntOp.andi (IntOp.cmpi .ne (sg w) (sg 64#32)) (IntOp.cmpi .ne (IntOp.remsi .host w 64#32) 0#32))
    (IntOp.subi (IntOp.divsi .host w 64#32) 1#32) (IntOp.divsi .host w 64#32)

/-- The remainder of a word by 64, as the host program computes it. -/
def rmW (w : BitVec 32) : BitVec 32 :=
  let d := Scalar.select (IntOp.cmpi .eq 64#32 0#32) 1#32 64#32
  Scalar.select (IntOp.andi (IntOp.cmpi .ne (IntOp.cmpi .slt (IntOp.remsi .host w d) 0#32) (IntOp.cmpi .slt d 0#32))
      (IntOp.cmpi .ne (IntOp.remsi .host w d) 0#32))
    (IntOp.addi (IntOp.remsi .host w d) d) (IntOp.remsi .host w d)

set_option maxHeartbeats 4000000 in
/-- The host's floor division is the grid row. -/
theorem fdW_eq : ∀ (a : Fin 128) (b : Fin 64), fdW (BitVec.ofNat 32 (a.val * 64 + b.val)) = BitVec.ofNat 32 a.val := by
  decide +kernel

set_option maxHeartbeats 4000000 in
/-- The host's remainder is the grid column. -/
theorem rmW_eq : ∀ (a : Fin 128) (b : Fin 64), rmW (BitVec.ofNat 32 (a.val * 64 + b.val)) = BitVec.ofNat 32 b.val := by
  decide +kernel

/-- The host's floor division of a position by 64. -/
theorem fdW_at (s : Fin 8192) : fdW (BitVec.ofNat 32 s.val) = BitVec.ofNat 32 (s.val / 64) := by
  have h := fdW_eq ⟨s.val / 64, by omega⟩ ⟨s.val % 64, by omega⟩
  have e : s.val / 64 * 64 + s.val % 64 = s.val := by omega
  simpa only [e] using h

/-- The host's remainder of a position by 64. -/
theorem rmW_at (s : Fin 8192) : rmW (BitVec.ofNat 32 s.val) = BitVec.ofNat 32 (s.val % 64) := by
  have h := rmW_eq ⟨s.val / 64, by omega⟩ ⟨s.val % 64, by omega⟩
  have e : s.val / 64 * 64 + s.val % 64 = s.val := by omega
  simpa only [e] using h

/-- The host's mask of the lanes in the first half of their 64. -/
theorem lane_at : ∀ d : Fin 128,
    IntOp.cmpi .slt (rmW (BitVec.ofNat 32 d.val)) 32#32 = if d.val % 64 < 32 then 1#1 else 0#1 := by
  decide +kernel

/-- The host's mask of the first 64 lanes. -/
theorem half_at : ∀ d : Fin 128,
    IntOp.cmpi .slt (BitVec.ofNat 32 d.val) 64#32 = if d.val < 64 then 1#1 else 0#1 := by
  decide +kernel

section
variable (m : (ℓ : Loc nD τ Cert.QkvIdeal.sig) → Buf (Elt Ideal) ℓ) (c : Dev nD)

/-- The row positions the host program computes. -/
theorem row_eq : (V m c main_v28 : Vec Ideal S8192 .i32) = rowP := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  funext i
  exact fdW_at (i 0)

/-- The column positions the host program computes. -/
theorem col_eq : (V m c main_v48 : Vec Ideal S8192 .i32) = colP := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  funext i
  exact rmW_at (i 0)

/-- The mask of the first half of each 64 lanes. -/
theorem first_eq : (V m c main_v72 : Vec Ideal S128 .i1) = fun i => if (i 0).val % 64 < 32 then 1#1 else 0#1 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  funext i
  exact lane_at (i 0)

/-- The host's angles of the full embedding. -/
theorem v18_eq : @Eq (Vec Ideal S8192x128 .f32) (V m c main_v18) <| ang64 (iotaInDim S8192 32 0) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  unfold ang64
  after_reads_simp
  refine congrArg₂ (fun A B => concatenate S8192x128 1 [⟨S8192x64, A⟩, ⟨S8192x64, B⟩] concatenates_S8192x64_S8192x64_S8192x128_d1) ?_ ?_
  · after_reads_simp
  · after_reads_simp

/-- The cosines of the full embedding. -/
theorem v19_eq : @Eq (FVec Ideal S8192x128 .f32) (V m c main_v19) <| Host.cos (V m c main_v18 : FVec Ideal S8192x128 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp

/-- The sines of the full embedding, before their signs. -/
theorem v20_eq : @Eq (FVec Ideal S8192x128 .f32) (V m c main_v20) <| Host.sin (V m c main_v18 : FVec Ideal S8192x128 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp

/-- The signed sines of the full embedding. -/
theorem v27_eq : @Eq (FVec Ideal S8192x128 .f32) (V m c main_v27) <| mulf (V m c main_v20 : FVec Ideal S8192x128 .f32) (broadcastInDim S8192x128 ![0, 1] bcast_S1x128_S8192x128_0_1 (broadcastInDim S1x128 ![1] bcast_S128_S1x128_1
      (select (cmpi .slt (iotaInDim S128 32 0) (broadcastInDim S128 ![] bcast_S_S128 (constantI S_ 32 64#32)))
        (broadcastInDim S128 ![] bcast_S_S128 (constant (F := Ideal) S_ .f32 0xBF800000#32)) (broadcastInDim S128 ![] bcast_S_S128 (constant (F := Ideal) S_ .f32 0x3F800000#32))))) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  rfl

/-- The angles of the rows. -/
theorem v45_eq : @Eq (FVec Ideal S8192x64 .f32) (V m c main_v45) <| ang32 (V m c main_v28 : Vec Ideal S8192 .i32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  unfold ang32
  after_reads_simp
  refine congrArg₂ (fun A B => concatenate S8192x64 1 [⟨S8192x32, A⟩, ⟨S8192x32, B⟩] concatenates_S8192x32_S8192x32_S8192x64_d1) ?_ ?_
  · after_reads_simp
  · after_reads_simp

/-- The angles of the columns. -/
theorem v65_eq : @Eq (FVec Ideal S8192x64 .f32) (V m c main_v65) <| ang32 (V m c main_v48 : Vec Ideal S8192 .i32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  unfold ang32
  after_reads_simp
  refine congrArg₂ (fun A B => concatenate S8192x64 1 [⟨S8192x32, A⟩, ⟨S8192x32, B⟩] concatenates_S8192x32_S8192x32_S8192x64_d1) ?_ ?_
  · after_reads_simp
  · after_reads_simp

/-- The cosines of rows and columns. -/
theorem v68_eq : @Eq (FVec Ideal S8192x128 .f32) (V m c main_v68) <| concatenate S8192x128 1 [⟨S8192x64, Host.cos (V m c main_v45 : FVec Ideal S8192x64 .f32)⟩, ⟨S8192x64, Host.cos (V m c main_v65 : FVec Ideal S8192x64 .f32)⟩] concatenates_S8192x64_S8192x64_S8192x128_d1 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  refine congrArg₂ (fun A B => concatenate S8192x128 1 [⟨S8192x64, A⟩, ⟨S8192x64, B⟩] concatenates_S8192x64_S8192x64_S8192x128_d1) ?_ ?_
  · after_reads_simp
  · after_reads_simp

/-- The sines of rows and columns. -/
theorem v69_eq : @Eq (FVec Ideal S8192x128 .f32) (V m c main_v69) <| concatenate S8192x128 1 [⟨S8192x64, Host.sin (V m c main_v45 : FVec Ideal S8192x64 .f32)⟩, ⟨S8192x64, Host.sin (V m c main_v65 : FVec Ideal S8192x64 .f32)⟩] concatenates_S8192x64_S8192x64_S8192x128_d1 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  refine congrArg₂ (fun A B => concatenate S8192x128 1 [⟨S8192x64, A⟩, ⟨S8192x64, B⟩] concatenates_S8192x64_S8192x64_S8192x128_d1) ?_ ?_
  · after_reads_simp
  · after_reads_simp

/-- The sines taken with the lane 32 above. -/
theorem v75_eq : @Eq (FVec Ideal S8192x128 .f32) (V m c main_v75) <| select (broadcastInDim S8192x128 ![0, 1] bcast_S1x128_S8192x128_0_1 (broadcastInDim S1x128 ![1] bcast_S128_S1x128_1 (V m c main_v72 : Vec Ideal S128 .i1)))
      (Host.negf (V m c main_v69 : FVec Ideal S8192x128 .f32)) (broadcastInDim S8192x128 ![] bcast_S_S8192x128 (constant (F := Ideal) S_ .f32 0x00000000#32)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  rfl

/-- The sines taken with the lane 32 below. -/
theorem v77_eq : @Eq (FVec Ideal S8192x128 .f32) (V m c main_v77) <| select (broadcastInDim S8192x128 ![0, 1] bcast_S1x128_S8192x128_0_1 (broadcastInDim S1x128 ![1] bcast_S128_S1x128_1 (V m c main_v72 : Vec Ideal S128 .i1)))
      (broadcastInDim S8192x128 ![] bcast_S_S8192x128 (constant (F := Ideal) S_ .f32 0x00000000#32)) (V m c main_v69 : FVec Ideal S8192x128 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  simp only [StableHlo.TRef.ofBuf_toBuf]
  rfl

end
end Cert.QkvIdeal.Val
end
-- ==== Proof.QkvPay.lean ====
module

public import proofs.«01_k».proof.Proof.QkvTab

@[expose] public section

set_option maxRecDepth 16384

noncomputable section

/-! # The rotary embeddings of the two attentions, and what the kernel stores of them -/

namespace Cert.QkvIdeal.Val

open Idealize.ShloMosaic Idealize.ShloMosaic.TcCoe Idealize.SL.Sem
open Cert.QkvIdeal Cert.QkvIdeal.Gen

/-- The rotary embedding of a row of 128: `x · cos + rot(x) · sin`, where `rot` swaps the halves and negates the second. -/
def rope (x C S : Fin 128 → EReal) (d : Fin 128) : EReal :=
  x d * C d + (if h : d.val < 64 then -x ⟨d.val + 64, by omega⟩ else x ⟨d.val - 64, by omega⟩) * S d

/-- The rotary embedding of a row of 64. -/
def rope32 (x C S : Fin 64 → EReal) (d : Fin 64) : EReal :=
  x d * C d + (if h : d.val < 32 then -x ⟨d.val + 32, by omega⟩ else x ⟨d.val - 32, by omega⟩) * S d

/-- The axial embedding: the first 64 lanes by the grid row's angles, the other 64 by the column's. -/
def axial (x : Fin 128 → EReal) (CR SR CC SC : Fin 64 → EReal) (d : Fin 128) : EReal :=
  if h : d.val < 64 then rope32 (fun j => x ⟨j.val, by omega⟩) CR SR ⟨d.val, h⟩
  else rope32 (fun j => x ⟨64 + j.val, by omega⟩) CC SC ⟨d.val - 64, by omega⟩

/-- A row over its root mean square, times the gain. -/
def nrm (x g : Fin 128 → EReal) (d : Fin 128) : EReal :=
  x d * Ideal.rsqrt (Ideal.div (∑ k : Fin 128, x k * x k) (Ideal.ofBits .f32 0x43000000#32) + Ideal.ofBits .f32 0x358637BD#32) * g d

/-- The embedding as the kernel computes it: the lane 64 away times the signed sine. -/
def ropeK (x C S : Fin 128 → EReal) (d : Fin 128) : EReal :=
  x d * C d + x ⟨(d.val + 64) % 128, by omega⟩ * S d

/-- The axial embedding as the kernel computes it: the lanes 32 above and 32 below, each times its own sines. -/
def axialK (x C A B : Fin 128 → EReal) (d : Fin 128) : EReal :=
  x d * C d + x ⟨(d.val + 32) % 128, by omega⟩ * A d + x ⟨(d.val + 96) % 128, by omega⟩ * B d

/-- The kernel's embedding is the plain one when its sines are negated in the first half. -/
theorem ropeK_eq (x C S S' : Fin 128 → EReal) (d : Fin 128) (h : S' d = if d.val < 64 then -S d else S d) :
    ropeK x C S' d = rope x C S d := by
  unfold ropeK rope
  rw [h]
  by_cases hd : d.val < 64
  · have e : (⟨(d.val + 64) % 128, by omega⟩ : Fin 128) = ⟨d.val + 64, by omega⟩ := Fin.ext (by dsimp only; omega)
    rw [dif_pos hd, if_pos hd, e, mul_neg, neg_mul]
  · have e : (⟨(d.val + 64) % 128, by omega⟩ : Fin 128) = ⟨d.val - 64, by omega⟩ := Fin.ext (by dsimp only; omega)
    rw [dif_neg hd, if_neg hd, e]

/-- The kernel's axial embedding is the plain one, given its three tables lane by lane. -/
theorem axialK_eq (x C A B : Fin 128 → EReal) (CR SR CC SC : Fin 64 → EReal) (d : Fin 128)
    (hC : C d = if h : d.val < 64 then CR ⟨d.val, h⟩ else CC ⟨d.val - 64, by omega⟩)
    (hA : A d = if d.val % 64 < 32 then -(if h : d.val < 64 then SR ⟨d.val, h⟩ else SC ⟨d.val - 64, by omega⟩) else 0)
    (hB : B d = if d.val % 64 < 32 then 0 else (if h : d.val < 64 then SR ⟨d.val, h⟩ else SC ⟨d.val - 64, by omega⟩)) :
    axialK x C A B d = axial x CR SR CC SC d := by
  unfold axialK axial rope32
  rw [hC, hA, hB]
  by_cases hd : d.val < 64
  · simp only [dif_pos hd]
    by_cases hm : d.val % 64 < 32
    · have hm' : d.val < 32 := by omega
      have e : (⟨(d.val + 32) % 128, by omega⟩ : Fin 128) = ⟨d.val + 32, by omega⟩ := Fin.ext (by dsimp only; omega)
      simp only [dif_pos hm', if_pos hm, e, mul_zero, add_zero, mul_neg, neg_mul]
    · have hm' : ¬ d.val < 32 := by omega
      have e : (⟨(d.val + 96) % 128, by omega⟩ : Fin 128) = ⟨d.val - 32, by omega⟩ := Fin.ext (by dsimp only; omega)
      simp only [dif_neg hm', if_neg hm, e, mul_zero, add_zero]
  · simp only [dif_neg hd]
    have e0 : (⟨64 + (d.val - 64), by omega⟩ : Fin 128) = d := Fin.ext (by dsimp only; omega)
    by_cases hm : d.val % 64 < 32
    · have hm' : d.val - 64 < 32 := by omega
      have e : (⟨(d.val + 32) % 128, by omega⟩ : Fin 128) = ⟨64 + (d.val - 64 + 32), by omega⟩ := Fin.ext (by dsimp only; omega)
      simp only [dif_pos hm', if_pos hm, e, e0, mul_zero, add_zero, mul_neg, neg_mul]
    · have hm' : ¬ d.val - 64 < 32 := by omega
      have e : (⟨(d.val + 96) % 128, by omega⟩ : Fin 128) = ⟨64 + (d.val - 64 - 32), by omega⟩ := Fin.ext (by dsimp only; omega)
      simp only [dif_neg hm', if_neg hm, e, e0, mul_zero, add_zero]

/-- The stored rotated queries or keys of one head, at an index. -/
theorem pay9_at (C S : Vec Ideal S256x128 .f32) (X : Vec Ideal S1x256x128 .f32) (i : S1x1x256x128.Idx) :
    k0_pay9 (F := Ideal) C S X i = ropeK (fun d => (show EReal from X (ix3 0 (i 2) d))) (fun d => (show EReal from C (ix2 (i 2) d)))
      (fun d => (show EReal from S (ix2 (i 2) d))) (i 3) := by
  unfold ropeK
  pointwise [k0_pay9, k0_pay2, k0_pay3]
  simp only [show ∀ n : ℕ, n + 128 - 64 = n + 64 from fun n => by omega]

/-- The normed row of one head, at an index. -/
theorem pay24_at (G : Vec Ideal S1x128 .f32) (X : Vec Ideal S1x256x128 .f32) (r : Fin 256) (d : Fin 128) :
    k0_pay24 (F := Ideal) G X (ix2 r d) = nrm (fun d => (show EReal from X (ix3 0 r d))) (fun d => (show EReal from G (ix2 0 d))) d := by
  unfold nrm
  pointwise [k0_pay24]

/-- The stored axially rotated row, at an index. -/
theorem pay25_at (C A B Y : FVec Ideal S256x128 .f32) (i : S1x1x256x128.Idx) :
    k0_pay25 (F := Ideal) C A B Y i = axialK (fun d => (show EReal from Y (ix2 (i 2) d))) (fun d => (show EReal from C (ix2 (i 2) d)))
      (fun d => (show EReal from A (ix2 (i 2) d))) (fun d => (show EReal from B (ix2 (i 2) d))) (i 3) := by
  unfold axialK
  pointwise [k0_pay25]
  simp only [show ∀ n : ℕ, n + 128 - 96 = n + 32 from fun n => by omega, show ∀ n : ℕ, n + 128 - 32 = n + 96 from fun n => by omega]

/-- The stored values of one head, at an index. -/
theorem pay27_at (X : Vec Ideal S1x256x128 .f32) (i : S1x1x256x128.Idx) :
    k0_pay27 (F := Ideal) X i = (show EReal from X (ix3 0 (i 2) (i 3))) := by
  pointwise [k0_pay27]

section
variable (C S A B : Vec Ideal S256x128 .f32) (G : Vec Ideal S1x128 .f32) (X : Vec Ideal S1x256x128 .f32)

/-- The axially rotated row of one head, from the tables' blocks. -/
def ax : FVec Ideal S1x1x256x128 .bf16 :=
  k0_pay25 (F := Ideal) (k0_pay4 C) (k0_pay5 A) (k0_pay6 B) (k0_pay24 (k0_pay7 G) X)

/-- The axially rotated row of one head, at an index. -/
theorem ax_at (i : S1x1x256x128.Idx) :
    ax C A B G X i = axialK (nrm (fun d => (show EReal from X (ix3 0 (i 2) d))) (fun d => (show EReal from G (ix2 0 d))))
      (fun d => (show EReal from C (ix2 (i 2) d))) (fun d => (show EReal from A (ix2 (i 2) d))) (fun d => (show EReal from B (ix2 (i 2) d))) (i 3) := by
  have h2 : ∀ (Y : Vec Ideal S256x128 .f32), k0_pay4 (F := Ideal) Y = Y := fun Y => by funext i; pointwise [k0_pay4]
  have h7 : k0_pay7 (F := Ideal) G = G := by funext i; pointwise [k0_pay7]
  unfold ax
  rw [pay25_at, show k0_pay5 (F := Ideal) A = A from h2 A, show k0_pay6 (F := Ideal) B = B from h2 B, h2, h7]
  refine congrArg (fun f => axialK f _ _ _ _) (funext fun d => ?_)
  exact pay24_at G X (i 2) d

end
end Cert.QkvIdeal.Val
end
-- ==== Proof.QkvBlk.lean ====
module

public import proofs.«01_k».proof.Proof.QkvPay

@[expose] public section

set_option maxRecDepth 16384

noncomputable section

/-! # The queries, keys and values the kernel leaves -/

namespace Cert.QkvIdeal.Val

open Idealize.ShloMosaic Idealize.ShloMosaic.TcCoe Idealize.SL.Sem
open Cert.QkvIdeal Cert.QkvIdeal.Gen

/-- The projection at a batch, a position and a column. -/
def zat (Z : Vec Ideal S4x8192x3072 .f32) (b : Fin 4) (s : Fin 8192) (k : ℕ) : EReal := Z (ix3 b s ⟨k % 3072, by omega⟩)

/-- The cosines of the full embedding at a position. -/
abbrev cosT (s : Fin 8192) (d : Fin 128) : EReal := Host.cos (F := Ideal) (φ := .f32) (ang64 (iotaInDim S8192 32 0)) (ix2 s d)
/-- The sines of the full embedding at a position. -/
abbrev sinT (s : Fin 8192) (d : Fin 128) : EReal := Host.sin (F := Ideal) (φ := .f32) (ang64 (iotaInDim S8192 32 0)) (ix2 s d)
/-- The cosines of the half embedding over positions `p`. -/
abbrev cosH (p : Vec Ideal S8192 .i32) (s : Fin 8192) (d : Fin 64) : EReal := Host.cos (F := Ideal) (φ := .f32) (ang32 p) (ix2 s d)
/-- The sines of the half embedding over positions `p`. -/
abbrev sinH (p : Vec Ideal S8192 .i32) (s : Fin 8192) (d : Fin 64) : EReal := Host.sin (F := Ideal) (φ := .f32) (ang32 p) (ix2 s d)

/-- Rotated queries or keys: the head starts at column `o`. -/
def specR (Z : Vec Ideal S4x8192x3072 .f32) (o : ℕ) (b : Fin 4) (s : Fin 8192) (d : Fin 128) : EReal :=
  rope (fun d => zat Z b s (o + d.val)) (cosT s) (sinT s) d

/-- Normed and axially rotated queries or keys: the head starts at column `o`. -/
def specA (Z : Vec Ideal S4x8192x3072 .f32) (g : Vec Ideal S128 .f32) (o : ℕ) (b : Fin 4) (s : Fin 8192) (d : Fin 128) : EReal :=
  axial (nrm (fun d => zat Z b s (o + d.val)) (fun d => (show EReal from g (ix1 d)))) (cosH rowP s) (sinH rowP s) (cosH colP s) (sinH colP s) d

/-- Values: the head starts at column `o`. -/
def specV (Z : Vec Ideal S4x8192x3072 .f32) (o : ℕ) (b : Fin 4) (s : Fin 8192) (d : Fin 128) : EReal := zat Z b s (o + d.val)

/-- The windows' block indices at a point: 4 batches, 32 blocks of 256 positions. -/
theorem idx : ∀ t : Fin cfg0.N, win0_0.index t = ![t.val / 32, t.val % 32, 1] ∧ win0_1.index t = ![t.val / 32, t.val % 32, 2]
    ∧ win0_2.index t = ![t.val % 32, 0] ∧ win0_3.index t = ![t.val % 32, 0] ∧ win0_4.index t = ![t.val % 32, 0]
    ∧ win0_5.index t = ![t.val % 32, 0] ∧ win0_6.index t = ![t.val % 32, 0] ∧ win0_7.index t = ![0, 0] ∧ win0_8.index t = ![0, 0]
    ∧ win0_9.index t = ![t.val / 32, 0, t.val % 32, 0] ∧ win0_10.index t = ![t.val / 32, 0, t.val % 32, 0]
    ∧ win0_11.index t = ![t.val / 32, 0, t.val % 32, 0] ∧ win0_12.index t = ![t.val / 32, 0, t.val % 32, 0]
    ∧ win0_13.index t = ![t.val / 32, 0, t.val % 32, 0] ∧ win0_14.index t = ![t.val / 32, 0, t.val % 32, 0] :=
  (by decide +kernel : ∀ t : Fin grid0.N, _)

/-- Two arrays side by side along the lanes. -/
theorem cat2 (A B : FVec Ideal S8192x64 .f32) (s : Fin 8192) (d : Fin 128) :
    concatenate S8192x128 1 [⟨S8192x64, A⟩, ⟨S8192x64, B⟩] concatenates_S8192x64_S8192x64_S8192x128_d1 (ix2 s d)
      = if h : d.val < 64 then A (ix2 s ⟨d.val, h⟩) else B (ix2 s ⟨d.val - 64, by omega⟩) := by
  pointwise

/-- A row of 128 numbers repeated at every position, at an index. -/
theorem lanef_at (M : FVec Ideal S128 .f32) (s : Fin 8192) (d : Fin 128) :
    broadcastInDim S8192x128 ![0, 1] bcast_S1x128_S8192x128_0_1 (broadcastInDim S1x128 ![1] bcast_S128_S1x128_1 M) (ix2 s d) = M (ix1 d) := by
  pointwise

/-- The bits of minus one in f32. -/
theorem neg_one : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- A row of 128 truth values repeated at every position, at an index. -/
theorem mask_at (M : Vec Ideal S128 .i1) (s : Fin 8192) (d : Fin 128) :
    broadcastInDim S8192x128 ![0, 1] bcast_S1x128_S8192x128_0_1 (broadcastInDim S1x128 ![1] bcast_S128_S1x128_1 M) (ix2 s d) = M (ix1 d) := by
  pointwise

/-- A selection by a row of truth values, at an index. -/
theorem sel_at (M : Vec Ideal S128 .i1) (A B : FVec Ideal S8192x128 .f32) (s : Fin 8192) (d : Fin 128) :
    select (broadcastInDim S8192x128 ![0, 1] bcast_S1x128_S8192x128_0_1 (broadcastInDim S1x128 ![1] bcast_S128_S1x128_1 M)) A B (ix2 s d)
      = Scalar.select (M (ix1 d)) (A (ix2 s d)) (B (ix2 s d)) :=
  congrArg (fun w => Scalar.select w _ _) (mask_at M s d)

section
variable (m : (ℓ : Loc nD τ Cert.QkvIdeal.sig) → Buf (Elt Ideal) ℓ) (c : Dev nD)

/-- The projection argument. -/
abbrev Zm : Vec Ideal S4x8192x3072 .f32 := m ((c : Thread nD τ).loc main_arg0)
/-- The queries' gain argument. -/
abbrev Gq : Vec Ideal S128 .f32 := m ((c : Thread nD τ).loc main_arg1)
/-- The keys' gain argument. -/
abbrev Gk : Vec Ideal S128 .f32 := m ((c : Thread nD τ).loc main_arg2)

/-- The batch of a point. -/
abbrev bt (t : Fin cfg0.N) : Fin 4 := ⟨t.val / 32 % 4, by omega⟩
/-- The position of row `r` of a point's block. -/
abbrev ps (t : Fin cfg0.N) (r : Fin 256) : Fin 8192 := ⟨t.val % 32 * 256 + r.val, by omega⟩

/-- The host's signed sines. -/
theorem sin1_at (s : Fin 8192) (d : Fin 128) :
    (V m c main_v27 : Vec Ideal S8192x128 .f32) (ix2 s d) = (if d.val < 64 then -sinT s d else sinT s d : EReal) := by
  rw [v27_eq, v20_eq, v18_eq]
  refine (congrArg (fun w : EReal => sinT s d * w) (lanef_at _ s d)).trans ?_
  refine (congrArg (fun w => sinT s d * (Scalar.select w (Ideal.ofBits .f32 0xBF800000#32) (Ideal.ofBits .f32 0x3F800000#32) : EReal)) (half_at d)).trans ?_
  by_cases h : d.val < 64
  · rw [if_pos h, if_pos h]
    refine (congrArg (fun w : EReal => sinT s d * w) neg_one).trans ?_
    rw [mul_neg, mul_one]
  · rw [if_neg h, if_neg h]
    refine (congrArg (fun w : EReal => sinT s d * w) Ideal.ofBits_one_f32).trans ?_
    rw [mul_one]

/-- The host's axial cosines: the grid row's in the first 64 lanes, the column's in the others. -/
theorem cosA_at (s : Fin 8192) (d : Fin 128) :
    (V m c main_v68 : Vec Ideal S8192x128 .f32) (ix2 s d)
      = (if h : d.val < 64 then cosH rowP s ⟨d.val, h⟩ else cosH colP s ⟨d.val - 64, by omega⟩ : EReal) := by
  rw [v68_eq, v45_eq, v65_eq, row_eq, col_eq]
  exact cat2 _ _ s d

/-- The host's axial sines, in the same order. -/
theorem sinA_at (s : Fin 8192) (d : Fin 128) :
    (V m c main_v69 : Vec Ideal S8192x128 .f32) (ix2 s d)
      = (if h : d.val < 64 then sinH rowP s ⟨d.val, h⟩ else sinH colP s ⟨d.val - 64, by omega⟩ : EReal) := by
  rw [v69_eq, v45_eq, v65_eq, row_eq, col_eq]
  exact cat2 _ _ s d

/-- The host's first axial sine table: negated sines where the lane is in the first half of its 64, zero elsewhere. -/
theorem sa_at (s : Fin 8192) (d : Fin 128) :
    (V m c main_v75 : Vec Ideal S8192x128 .f32) (ix2 s d)
      = (if d.val % 64 < 32 then -(if h : d.val < 64 then sinH rowP s ⟨d.val, h⟩ else sinH colP s ⟨d.val - 64, by omega⟩) else 0 : EReal) := by
  rw [v75_eq, first_eq, ← sinA_at m c s d]
  refine (sel_at _ _ _ s d).trans ?_
  by_cases h : d.val % 64 < 32
  · rw [if_pos h]
    refine (congrArg (fun w => Scalar.select w _ _) (if_pos h)).trans ?_
    rfl
  · rw [if_neg h]
    refine (congrArg (fun w => Scalar.select w _ _) (if_neg h)).trans ?_
    exact Ideal.ofBits_zero .f32

/-- The host's second axial sine table: zero where the lane is in the first half of its 64, the sines elsewhere. -/
theorem sb_at (s : Fin 8192) (d : Fin 128) :
    (V m c main_v77 : Vec Ideal S8192x128 .f32) (ix2 s d)
      = (if d.val % 64 < 32 then 0 else (if h : d.val < 64 then sinH rowP s ⟨d.val, h⟩ else sinH colP s ⟨d.val - 64, by omega⟩) : EReal) := by
  rw [v77_eq, first_eq, ← sinA_at m c s d]
  refine (sel_at _ _ _ s d).trans ?_
  by_cases h : d.val % 64 < 32
  · rw [if_pos h]
    refine (congrArg (fun w => Scalar.select w _ _) (if_pos h)).trans ?_
    exact Ideal.ofBits_zero .f32
  · rw [if_neg h]
    refine (congrArg (fun w => Scalar.select w _ _) (if_neg h)).trans ?_
    rfl

/-- The first block of the projection: columns from 1024. -/
theorem z0_blk (t : Fin cfg0.N) (r : Fin 256) (l : Fin 1024) :
    (iblk m c 0 t : Vec Ideal S1x256x1024 .f32) (ix3 0 r l) = zat (Zm m c) (bt t) (ps t r) (1024 + l.val) := by
  have ht := lt_of_lt_of_eq t.isLt N_0
  unfold zat
  refine Eq.trans ?_ (congrFun (V_main_arg0 m c) _)
  blk_ext [iblk, idx t]

/-- The second block of the projection: columns from 2048. -/
theorem z1_blk (t : Fin cfg0.N) (r : Fin 256) (l : Fin 1024) :
    (iblk m c 1 t : Vec Ideal S1x256x1024 .f32) (ix3 0 r l) = zat (Zm m c) (bt t) (ps t r) (2048 + l.val) := by
  have ht := lt_of_lt_of_eq t.isLt N_0
  unfold zat
  refine Eq.trans ?_ (congrFun (V_main_arg0 m c) _)
  blk_ext [iblk, idx t]

/-- A load of 128 columns of a block. -/
theorem ld_head (x : Vec Ideal S1x256x1024 .f32) (o : ℕ) (inb : ∀ a, (![0, 0, o] : Fin 3 → ℕ) a + S1x256x128.size a ≤ S1x256x1024.size a)
    (r : Fin 256) (d : Fin 128) (h : o + d.val < 1024) :
    View.ld x (Rect.unit (s := S1x256x1024) ![0, 0, o] S1x256x128.size inb) (ix3 0 r d) = x (ix3 0 r ⟨o + d.val, h⟩) :=
  View.ld_unit_apply_of _ _ _ _ _ _ fun a => match a with
    | ⟨0, _⟩ => rfl
    | ⟨1, _⟩ => (Nat.zero_add _).symm
    | ⟨2, _⟩ => rfl

/-- The queries' gain as a row. -/
theorem gq_eq : @Eq (FVec Ideal S1x128 .f32) (V m c main_v78) <| shapeCast S1x128 (Gq m c) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  rfl

/-- The keys' gain as a row. -/
theorem gk_eq : @Eq (FVec Ideal S1x128 .f32) (V m c main_v79) <| shapeCast S1x128 (Gk m c) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_reads_simp
  rfl

/-- A gain as a row, at an index. -/
theorem g_at (g : Vec Ideal S128 .f32) (d : Fin 128) : shapeCast S1x128 g shapeCasts_S128_S1x128 (ix2 0 d) = g (ix1 d) := by
  pointwise

/-- The queries' gain block is the gain. -/
theorem gq_blk (t : Fin cfg0.N) (d : Fin 128) : (iblk m c 7 t : Vec Ideal S1x128 .f32) (ix2 0 d) = (show EReal from Gq m c (ix1 d)) := by
  have ht := lt_of_lt_of_eq t.isLt N_0
  refine Eq.trans (b := (V m c main_v78 : Vec Ideal S1x128 .f32) (ix2 0 d)) ?_ (by rw [gq_eq]; exact g_at _ d)
  unfold iblk
  generalize V m c (Pipeline.arrRef spec0 7) = W
  blk_ext [idx t]

/-- The keys' gain block is the gain. -/
theorem gk_blk (t : Fin cfg0.N) (d : Fin 128) : (iblk m c 8 t : Vec Ideal S1x128 .f32) (ix2 0 d) = (show EReal from Gk m c (ix1 d)) := by
  have ht := lt_of_lt_of_eq t.isLt N_0
  refine Eq.trans (b := (V m c main_v79 : Vec Ideal S1x128 .f32) (ix2 0 d)) ?_ (by rw [gk_eq]; exact g_at _ d)
  blk_ext [iblk, idx t]

/-- The cosines' block at a point: its 256 positions. -/
theorem t2_blk (t : Fin cfg0.N) (r : Fin 256) (d : Fin 128) :
    (iblk m c 2 t : Vec Ideal S256x128 .f32) (ix2 r d) = (V m c main_v19 : Vec Ideal S8192x128 .f32) (ix2 (ps t r) d) := by
  have ht := lt_of_lt_of_eq t.isLt N_0
  blk_ext [iblk, idx t]

/-- The signed sines' block at a point. -/
theorem t3_blk (t : Fin cfg0.N) (r : Fin 256) (d : Fin 128) :
    (iblk m c 3 t : Vec Ideal S256x128 .f32) (ix2 r d) = (V m c main_v27 : Vec Ideal S8192x128 .f32) (ix2 (ps t r) d) := by
  have ht := lt_of_lt_of_eq t.isLt N_0
  blk_ext [iblk, idx t]

/-- The axial cosines' block at a point. -/
theorem t4_blk (t : Fin cfg0.N) (r : Fin 256) (d : Fin 128) :
    (iblk m c 4 t : Vec Ideal S256x128 .f32) (ix2 r d) = (V m c main_v68 : Vec Ideal S8192x128 .f32) (ix2 (ps t r) d) := by
  have ht := lt_of_lt_of_eq t.isLt N_0
  blk_ext [iblk, idx t]

/-- The first axial sines' block at a point. -/
theorem t5_blk (t : Fin cfg0.N) (r : Fin 256) (d : Fin 128) :
    (iblk m c 5 t : Vec Ideal S256x128 .f32) (ix2 r d) = (V m c main_v75 : Vec Ideal S8192x128 .f32) (ix2 (ps t r) d) := by
  have ht := lt_of_lt_of_eq t.isLt N_0
  blk_ext [iblk, idx t]

/-- The second axial sines' block at a point. -/
theorem t6_blk (t : Fin cfg0.N) (r : Fin 256) (d : Fin 128) :
    (iblk m c 6 t : Vec Ideal S256x128 .f32) (ix2 r d) = (V m c main_v77 : Vec Ideal S8192x128 .f32) (ix2 (ps t r) d) := by
  have ht := lt_of_lt_of_eq t.isLt N_0
  blk_ext [iblk, idx t]

/-- The host's cosines. -/
theorem cos1_at (s : Fin 8192) (d : Fin 128) : (V m c main_v19 : Vec Ideal S8192x128 .f32) (ix2 s d) = cosT s d := by
  rw [v19_eq, v18_eq]

end
end Cert.QkvIdeal.Val
end
-- ==== Proof.QkvOut.lean ====
module

public import proofs.«01_k».proof.Proof.QkvBlk

@[expose] public section

set_option maxRecDepth 16384

noncomputable section

/-! # The queries, keys and values the kernel leaves -/

namespace Cert.QkvIdeal.Val

open Idealize.ShloMosaic Idealize.ShloMosaic.TcCoe Idealize.SL.Sem
open Cert.QkvIdeal Cert.QkvIdeal.Gen

/-- Equal rows, cosines and sines give equal embeddings, in the kernel's form and in the plain one. -/
theorem ropeK_of (x x' C C' S S' : Fin 128 → EReal) (d : Fin 128) (hx : x = x') (hC : C = C') (hS : S d = if d.val < 64 then -S' d else S' d) :
    ropeK x C S d = rope x' C' S' d := by
  rw [hx, hC]
  exact ropeK_eq x' C' S' S d hS

/-- The normed row depends on the row and the gain alone. -/
theorem nrm_congr {x x' g g' : Fin 128 → EReal} (hx : x = x') (hg : g = g') : nrm x g = nrm x' g' := by rw [hx, hg]

/-- Equal rows and tables give equal axial embeddings, in the kernel's form and in the plain one. -/
theorem axialK_of (x x' C A B C' A' B' : Fin 128 → EReal) (CR SR CC SC : Fin 64 → EReal) (d : Fin 128) (hx : x = x') (eC : C d = C' d) (eA : A d = A' d)
    (eB : B d = B' d)
    (hC : C' d = if h : d.val < 64 then CR ⟨d.val, h⟩ else CC ⟨d.val - 64, by omega⟩)
    (hA : A' d = if d.val % 64 < 32 then -(if h : d.val < 64 then SR ⟨d.val, h⟩ else SC ⟨d.val - 64, by omega⟩) else 0)
    (hB : B' d = if d.val % 64 < 32 then 0 else (if h : d.val < 64 then SR ⟨d.val, h⟩ else SC ⟨d.val - 64, by omega⟩)) :
    axialK x C A B d = axial x' CR SR CC SC d := by
  rw [hx]
  exact axialK_eq x' C A B CR SR CC SC d (eC.trans hC) (eA.trans hA) (eB.trans hB)

section
variable (m : (ℓ : Loc nD τ Cert.QkvIdeal.sig) → Buf (Elt Ideal) ℓ) (c : Dev nD)

/-- A point's rotated head, where the head's columns start at `o`. -/
theorem rope_blk (t : Fin cfg0.N) (o : ℕ) (X : Vec Ideal S1x256x128 .f32)
    (hX : ∀ (r : Fin 256) (d : Fin 128), X (ix3 0 r d) = zat (Zm m c) (bt t) (ps t r) (o + d.val)) (i : S1x1x256x128.Idx) :
    k0_pay9 (F := Ideal) (iblk m c 2 t) (iblk m c 3 t) X i = specR (Zm m c) o (bt t) (ps t (i 2)) (i 3) :=
  (pay9_at _ _ X i).trans (ropeK_of _ _ _ _ _ _ _ (funext fun d => hX (i 2) d) (funext fun d => (t2_blk m c t (i 2) d).trans (cos1_at m c _ d))
    ((t3_blk m c t (i 2) (i 3)).trans (sin1_at m c _ _)))

/-- A point's normed and axially rotated head, where the head's columns start at `o`. -/
theorem ax_blk (t : Fin cfg0.N) (o : ℕ) (X : Vec Ideal S1x256x128 .f32) (G : Vec Ideal S1x128 .f32) (g : Vec Ideal S128 .f32)
    (hX : ∀ (r : Fin 256) (d : Fin 128), X (ix3 0 r d) = zat (Zm m c) (bt t) (ps t r) (o + d.val))
    (hG : ∀ d : Fin 128, G (ix2 0 d) = (show EReal from g (ix1 d))) (i : S1x1x256x128.Idx) :
    ax (iblk m c 4 t) (iblk m c 5 t) (iblk m c 6 t) G X i = specA (Zm m c) g o (bt t) (ps t (i 2)) (i 3) :=
  (ax_at _ _ _ G X i).trans (axialK_of _ _ _ _ _
    (fun d => (V m c main_v68 : Vec Ideal S8192x128 .f32) (ix2 (ps t (i 2)) d))
    (fun d => (V m c main_v75 : Vec Ideal S8192x128 .f32) (ix2 (ps t (i 2)) d))
    (fun d => (V m c main_v77 : Vec Ideal S8192x128 .f32) (ix2 (ps t (i 2)) d)) _ _ _ _ _
    (nrm_congr (funext fun d => hX (i 2) d) (funext hG))
    (t4_blk m c t (i 2) (i 3)) (t5_blk m c t (i 2) (i 3)) (t6_blk m c t (i 2) (i 3))
    (cosA_at m c _ _) (sa_at m c _ _) (sb_at m c _ _))

/-- A point's stored values, where the head's columns start at `o`. -/
theorem val_blk (t : Fin cfg0.N) (o : ℕ) (X : Vec Ideal S1x256x128 .f32)
    (hX : ∀ (r : Fin 256) (d : Fin 128), X (ix3 0 r d) = zat (Zm m c) (bt t) (ps t r) (o + d.val)) (i : S1x1x256x128.Idx) :
    k0_pay27 (F := Ideal) X i = specV (Zm m c) o (bt t) (ps t (i 2)) (i 3) :=
  (pay27_at X i).trans (hX (i 2) (i 3))

/-- The first block's 128 columns from `o` are a head's. -/
theorem head0 (t : Fin cfg0.N) (o : ℕ) (inb : ∀ a, (![0, 0, o] : Fin 3 → ℕ) a + S1x256x128.size a ≤ S1x256x1024.size a) (ho : o + 128 ≤ 1024)
    (r : Fin 256) (d : Fin 128) : (View.ld (iblk m c 0 t : Vec Ideal S1x256x1024 .f32) (Rect.unit (s := S1x256x1024) ![0, 0, o] S1x256x128.size inb)
      : Vec Ideal S1x256x128 .f32) (ix3 0 r d) = zat (Zm m c) (bt t) (ps t r) (1024 + o + d.val) := by
  refine (ld_head _ o inb r d (by omega)).trans ((z0_blk m c t r _).trans ?_)
  rw [Nat.add_assoc]

/-- The second block's 128 columns from `o` are a head's. -/
theorem head1 (t : Fin cfg0.N) (o : ℕ) (inb : ∀ a, (![0, 0, o] : Fin 3 → ℕ) a + S1x256x128.size a ≤ S1x256x1024.size a) (ho : o + 128 ≤ 1024)
    (r : Fin 256) (d : Fin 128) : (View.ld (iblk m c 1 t : Vec Ideal S1x256x1024 .f32) (Rect.unit (s := S1x256x1024) ![0, 0, o] S1x256x128.size inb)
      : Vec Ideal S1x256x128 .f32) (ix3 0 r d) = zat (Zm m c) (bt t) (ps t r) (2048 + o + d.val) := by
  refine (ld_head _ o inb r d (by omega)).trans ((z1_blk m c t r _).trans ?_)
  rw [Nat.add_assoc]

/-- Equal heads, batches, positions and lanes give equal results. -/
theorem specR_congr (Z : Vec Ideal S4x8192x3072 .f32) {o o' : ℕ} {b b' : Fin 4} {s s' : Fin 8192} {d d' : Fin 128} (e0 : o = o') (e1 : b.val = b'.val)
    (e2 : s.val = s'.val) (e3 : d.val = d'.val) : specR Z o b s d = specR Z o' b' s' d' := by
  obtain rfl := e0
  obtain rfl := Fin.ext e1
  obtain rfl := Fin.ext e2
  obtain rfl := Fin.ext e3
  rfl

/-- Equal heads, batches, positions and lanes give equal results. -/
theorem specA_congr (Z : Vec Ideal S4x8192x3072 .f32) (g : Vec Ideal S128 .f32) {o o' : ℕ} {b b' : Fin 4} {s s' : Fin 8192} {d d' : Fin 128} (e0 : o = o') (e1 : b.val = b'.val)
    (e2 : s.val = s'.val) (e3 : d.val = d'.val) : specA Z g o b s d = specA Z g o' b' s' d' := by
  obtain rfl := e0
  obtain rfl := Fin.ext e1
  obtain rfl := Fin.ext e2
  obtain rfl := Fin.ext e3
  rfl

/-- Equal heads, batches, positions and lanes give equal results. -/
theorem specV_congr (Z : Vec Ideal S4x8192x3072 .f32) {o o' : ℕ} {b b' : Fin 4} {s s' : Fin 8192} {d d' : Fin 128} (e0 : o = o') (e1 : b.val = b'.val)
    (e2 : s.val = s'.val) (e3 : d.val = d'.val) : specV Z o b s d = specV Z o' b' s' d' := by
  obtain rfl := e0
  obtain rfl := Fin.ext e1
  obtain rfl := Fin.ext e2
  obtain rfl := Fin.ext e3
  rfl

/-- The array of rotated queries. -/
def outQC (Z : Vec Ideal S4x8192x3072 .f32) : Vec Ideal S4x4x8192x128 .bf16 := fun i => specR Z (1024 + 128 * (i 1).val) (i 0) (i 2) (i 3)

/-- What a point leaves of the rotated queries: one piece per head. -/
theorem outQC_eq (t : Fin cfg0.N) : (dats m 0 c).after 9 t = View.canon [
    ⟨r0_9, k0_pay9 (iblk m c 2 t) (iblk m c 3 t) (View.ld (iblk m c 0 t : Vec Ideal S1x256x1024 .f32) r0_8)⟩,
    ⟨r0_7, k0_pay9 (iblk m c 2 t) (iblk m c 3 t) (View.ld (iblk m c 0 t : Vec Ideal S1x256x1024 .f32) r0_6)⟩,
    ⟨r0_5, k0_pay9 (iblk m c 2 t) (iblk m c 3 t) (View.ld (iblk m c 0 t : Vec Ideal S1x256x1024 .f32) r0_4)⟩,
    ⟨r0_3, k0_pay9 (iblk m c 2 t) (iblk m c 3 t) (View.ld (iblk m c 0 t : Vec Ideal S1x256x1024 .f32) r0_2)⟩] := by
  rw [after0_9]
  unfold_out out0_9
  frame_out
  rfl

/-- The rotated queries, over the whole grid. -/
theorem finalQC : (dats m 0 c).arrAt 9 cfg0.N = outQC (Zm m c) := by
  refine (dats m 0 c).arrAt_eq_of_covers 9 _ (by decide +kernel) fun t hf y => ?_
  blk_simp
  rw [outQC_eq]
  have ht := lt_of_lt_of_eq t.isLt N_0
  have e0 : ((win0_9.blk t).view.emb y 0 : ℕ) = t.val / 32 := by blk_simp [idx t]
  have e1 : ((win0_9.blk t).view.emb y 1 : ℕ) = y 1 := by blk_simp [idx t]
  have e2 : ((win0_9.blk t).view.emb y 2 : ℕ) = t.val % 32 * 256 + y 2 := by blk_simp [idx t]
  have e3 : ((win0_9.blk t).view.emb y 3 : ℕ) = y 3 := by blk_simp [idx t]
  refine View.canon_eq_of_allAt _ y _ (cover0_9 _ _ _ _ y) (View.allAt_cons_unit _ _ _ _ _ ?_ (View.allAt_cons_unit _ _ _ _ _ ?_ (View.allAt_cons_unit _ _ _ _ _ ?_ (View.allAt_cons_unit _ _ _ _ _ ?_ (View.allAt_nil _ _)))))
  · intro x hx
    have x1 : (y 1 : ℕ) = 3 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 384) _ (head0 m c t 384 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 2 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 256) _ (head0 m c t 256 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 128) _ (head0 m c t 128 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 0) _ (head0 m c t 0 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega

/-- The array of rotated keys. -/
def outKC (Z : Vec Ideal S4x8192x3072 .f32) : Vec Ideal S4x2x8192x128 .bf16 := fun i => specR Z (1536 + 128 * (i 1).val) (i 0) (i 2) (i 3)

/-- What a point leaves of the rotated keys: one piece per head. -/
theorem outKC_eq (t : Fin cfg0.N) : (dats m 0 c).after 10 t = View.canon [
    ⟨r0_14, k0_pay9 (iblk m c 2 t) (iblk m c 3 t) (View.ld (iblk m c 0 t : Vec Ideal S1x256x1024 .f32) r0_13)⟩,
    ⟨r0_11, k0_pay9 (iblk m c 2 t) (iblk m c 3 t) (View.ld (iblk m c 0 t : Vec Ideal S1x256x1024 .f32) r0_10)⟩] := by
  rw [after0_10]
  unfold_out out0_10
  frame_out
  rfl

/-- The rotated keys, over the whole grid. -/
theorem finalKC : (dats m 0 c).arrAt 10 cfg0.N = outKC (Zm m c) := by
  refine (dats m 0 c).arrAt_eq_of_covers 10 _ (by decide +kernel) fun t hf y => ?_
  blk_simp
  rw [outKC_eq]
  have ht := lt_of_lt_of_eq t.isLt N_0
  have e0 : ((win0_10.blk t).view.emb y 0 : ℕ) = t.val / 32 := by blk_simp [idx t]
  have e1 : ((win0_10.blk t).view.emb y 1 : ℕ) = y 1 := by blk_simp [idx t]
  have e2 : ((win0_10.blk t).view.emb y 2 : ℕ) = t.val % 32 * 256 + y 2 := by blk_simp [idx t]
  have e3 : ((win0_10.blk t).view.emb y 3 : ℕ) = y 3 := by blk_simp [idx t]
  refine View.canon_eq_of_allAt _ y _ (cover0_10 _ _ y) (View.allAt_cons_unit _ _ _ _ _ ?_ (View.allAt_cons_unit _ _ _ _ _ ?_ (View.allAt_nil _ _)))
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 640) _ (head0 m c t 640 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (rope_blk m c t (1024 + 512) _ (head0 m c t 512 _ (by decide)) x).trans ?_
    refine specR_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega

/-- The array of first values. -/
def outVC (Z : Vec Ideal S4x8192x3072 .f32) : Vec Ideal S4x2x8192x128 .bf16 := fun i => specV Z (1792 + 128 * (i 1).val) (i 0) (i 2) (i 3)

/-- What a point leaves of the first values: one piece per head. -/
theorem outVC_eq (t : Fin cfg0.N) : (dats m 0 c).after 11 t = View.canon [
    ⟨r0_14, k0_pay27 (View.ld (iblk m c 0 t : Vec Ideal S1x256x1024 .f32) r0_15)⟩,
    ⟨r0_11, k0_pay27 (View.ld (iblk m c 0 t : Vec Ideal S1x256x1024 .f32) r0_12)⟩] := by
  rw [after0_11]
  unfold_out out0_11
  frame_out
  rfl

/-- The first values, over the whole grid. -/
theorem finalVC : (dats m 0 c).arrAt 11 cfg0.N = outVC (Zm m c) := by
  refine (dats m 0 c).arrAt_eq_of_covers 11 _ (by decide +kernel) fun t hf y => ?_
  blk_simp
  rw [outVC_eq]
  have ht := lt_of_lt_of_eq t.isLt N_0
  have e0 : ((win0_11.blk t).view.emb y 0 : ℕ) = t.val / 32 := by blk_simp [idx t]
  have e1 : ((win0_11.blk t).view.emb y 1 : ℕ) = y 1 := by blk_simp [idx t]
  have e2 : ((win0_11.blk t).view.emb y 2 : ℕ) = t.val % 32 * 256 + y 2 := by blk_simp [idx t]
  have e3 : ((win0_11.blk t).view.emb y 3 : ℕ) = y 3 := by blk_simp [idx t]
  refine View.canon_eq_of_allAt _ y _ (cover0_11 _ _ y) (View.allAt_cons_unit _ _ _ _ _ ?_ (View.allAt_cons_unit _ _ _ _ _ ?_ (View.allAt_nil _ _)))
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (val_blk m c t (1024 + 896) _ (head0 m c t 896 _ (by decide)) x).trans ?_
    refine specV_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (val_blk m c t (1024 + 768) _ (head0 m c t 768 _ (by decide)) x).trans ?_
    refine specV_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega

/-- The array of normed and axially rotated queries. -/
def outQD (Z : Vec Ideal S4x8192x3072 .f32) (g : Vec Ideal S128 .f32) : Vec Ideal S4x4x8192x128 .bf16 := fun i => specA Z g (2048 + 128 * (i 1).val) (i 0) (i 2) (i 3)

/-- What a point leaves of the normed and axially rotated queries: one piece per head. -/
theorem outQD_eq (t : Fin cfg0.N) : (dats m 0 c).after 12 t = View.canon [
    ⟨r0_9, ax (iblk m c 4 t) (iblk m c 5 t) (iblk m c 6 t) (iblk m c 7 t) (View.ld (iblk m c 1 t : Vec Ideal S1x256x1024 .f32) r0_8)⟩,
    ⟨r0_7, ax (iblk m c 4 t) (iblk m c 5 t) (iblk m c 6 t) (iblk m c 7 t) (View.ld (iblk m c 1 t : Vec Ideal S1x256x1024 .f32) r0_6)⟩,
    ⟨r0_5, ax (iblk m c 4 t) (iblk m c 5 t) (iblk m c 6 t) (iblk m c 7 t) (View.ld (iblk m c 1 t : Vec Ideal S1x256x1024 .f32) r0_4)⟩,
    ⟨r0_3, ax (iblk m c 4 t) (iblk m c 5 t) (iblk m c 6 t) (iblk m c 7 t) (View.ld (iblk m c 1 t : Vec Ideal S1x256x1024 .f32) r0_2)⟩] := by
  rw [after0_12]
  unfold_out out0_12
  frame_out
  rfl

/-- The normed and axially rotated queries, over the whole grid. -/
theorem finalQD : (dats m 0 c).arrAt 12 cfg0.N = outQD (Zm m c) (Gq m c) := by
  refine (dats m 0 c).arrAt_eq_of_covers 12 _ (by decide +kernel) fun t hf y => ?_
  blk_simp
  rw [outQD_eq]
  have ht := lt_of_lt_of_eq t.isLt N_0
  have e0 : ((win0_12.blk t).view.emb y 0 : ℕ) = t.val / 32 := by blk_simp [idx t]
  have e1 : ((win0_12.blk t).view.emb y 1 : ℕ) = y 1 := by blk_simp [idx t]
  have e2 : ((win0_12.blk t).view.emb y 2 : ℕ) = t.val % 32 * 256 + y 2 := by blk_simp [idx t]
  have e3 : ((win0_12.blk t).view.emb y 3 : ℕ) = y 3 := by blk_simp [idx t]
  refine View.canon_eq_of_allAt _ y _ (cover0_12 _ _ _ _ y) (View.allAt_cons_unit _ _ _ _ _ ?_ (View.allAt_cons_unit _ _ _ _ _ ?_ (View.allAt_cons_unit _ _ _ _ _ ?_ (View.allAt_cons_unit _ _ _ _ _ ?_ (View.allAt_nil _ _)))))
  · intro x hx
    have x1 : (y 1 : ℕ) = 3 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 384) _ _ (Gq m c) (head1 m c t 384 _ (by decide)) (gq_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 2 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 256) _ _ (Gq m c) (head1 m c t 256 _ (by decide)) (gq_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 128) _ _ (Gq m c) (head1 m c t 128 _ (by decide)) (gq_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 0) _ _ (Gq m c) (head1 m c t 0 _ (by decide)) (gq_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega

/-- The array of normed and axially rotated keys. -/
def outKD (Z : Vec Ideal S4x8192x3072 .f32) (g : Vec Ideal S128 .f32) : Vec Ideal S4x2x8192x128 .bf16 := fun i => specA Z g (2560 + 128 * (i 1).val) (i 0) (i 2) (i 3)

/-- What a point leaves of the normed and axially rotated keys: one piece per head. -/
theorem outKD_eq (t : Fin cfg0.N) : (dats m 0 c).after 13 t = View.canon [
    ⟨r0_14, ax (iblk m c 4 t) (iblk m c 5 t) (iblk m c 6 t) (iblk m c 8 t) (View.ld (iblk m c 1 t : Vec Ideal S1x256x1024 .f32) r0_13)⟩,
    ⟨r0_11, ax (iblk m c 4 t) (iblk m c 5 t) (iblk m c 6 t) (iblk m c 8 t) (View.ld (iblk m c 1 t : Vec Ideal S1x256x1024 .f32) r0_10)⟩] := by
  rw [after0_13]
  unfold_out out0_13
  frame_out
  rfl

/-- The normed and axially rotated keys, over the whole grid. -/
theorem finalKD : (dats m 0 c).arrAt 13 cfg0.N = outKD (Zm m c) (Gk m c) := by
  refine (dats m 0 c).arrAt_eq_of_covers 13 _ (by decide +kernel) fun t hf y => ?_
  blk_simp
  rw [outKD_eq]
  have ht := lt_of_lt_of_eq t.isLt N_0
  have e0 : ((win0_13.blk t).view.emb y 0 : ℕ) = t.val / 32 := by blk_simp [idx t]
  have e1 : ((win0_13.blk t).view.emb y 1 : ℕ) = y 1 := by blk_simp [idx t]
  have e2 : ((win0_13.blk t).view.emb y 2 : ℕ) = t.val % 32 * 256 + y 2 := by blk_simp [idx t]
  have e3 : ((win0_13.blk t).view.emb y 3 : ℕ) = y 3 := by blk_simp [idx t]
  refine View.canon_eq_of_allAt _ y _ (cover0_13 _ _ y) (View.allAt_cons_unit _ _ _ _ _ ?_ (View.allAt_cons_unit _ _ _ _ _ ?_ (View.allAt_nil _ _)))
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 640) _ _ (Gk m c) (head1 m c t 640 _ (by decide)) (gk_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (ax_blk m c t (2048 + 512) _ _ (Gk m c) (head1 m c t 512 _ (by decide)) (gk_blk m c t) x).trans ?_
    refine specA_congr _ _ ?_ ?_ ?_ ?_
    · rw [e1]; omega
    · rw [e0]; show t.val / 32 % 4 = _; omega
    · rw [e2]; show t.val % 32 * 256 + (x 2 : ℕ) = _; omega
    · rw [e3]; show (x 3 : ℕ) = _; omega

/-- The array of second values. -/
def outVD (Z : Vec Ideal S4x8192x3072 .f32) : Vec Ideal S4x2x8192x128 .bf16 := fun i => specV Z (2816 + 128 * (i 1).val) (i 0) (i 2) (i 3)

/-- What a point leaves of the second values: one piece per head. -/
theorem outVD_eq (t : Fin cfg0.N) : (dats m 0 c).after 14 t = View.canon [
    ⟨r0_14, k0_pay27 (View.ld (iblk m c 1 t : Vec Ideal S1x256x1024 .f32) r0_15)⟩,
    ⟨r0_11, k0_pay27 (View.ld (iblk m c 1 t : Vec Ideal S1x256x1024 .f32) r0_12)⟩] := by
  rw [after0_14]
  unfold_out out0_14
  frame_out
  rfl

/-- The second values, over the whole grid. -/
theorem finalVD : (dats m 0 c).arrAt 14 cfg0.N = outVD (Zm m c) := by
  refine (dats m 0 c).arrAt_eq_of_covers 14 _ (by decide +kernel) fun t hf y => ?_
  blk_simp
  rw [outVD_eq]
  have ht := lt_of_lt_of_eq t.isLt N_0
  have e0 : ((win0_14.blk t).view.emb y 0 : ℕ) = t.val / 32 := by blk_simp [idx t]
  have e1 : ((win0_14.blk t).view.emb y 1 : ℕ) = y 1 := by blk_simp [idx t]
  have e2 : ((win0_14.blk t).view.emb y 2 : ℕ) = t.val % 32 * 256 + y 2 := by blk_simp [idx t]
  have e3 : ((win0_14.blk t).view.emb y 3 : ℕ) = y 3 := by blk_simp [idx t]
  refine View.canon_eq_of_allAt _ y _ (cover0_14 _ _ y) (View.allAt_cons_unit _ _ _ _ _ ?_ (View.allAt_cons_unit _ _ _ _ _ ?_ (View.allAt_nil _ _)))
  · intro x hx
    have x1 : (y 1 : ℕ) = 1 + x 1 := hx 1
    have x1' : (x 1 : ℕ) < 1 := (x 1).isLt
    have x2 : (y 2 : ℕ) = 0 + x 2 := hx 2
    have x3 : (y 3 : ℕ) = 0 + x 3 := hx 3
    refine (val_blk m c t (2048 + 896) _ (head1 m c t 896 _ (by decide)) x).trans ?_
    refine specV_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega
  · intro x hx
    have x1 : (y 1 : ℕ) = 0 + x 1 := hx 1
    have x1' : (x 1 : ℕ) < 1 := (x 1).isLt
    have x2 : (y 2 : ℕ) = 0 + x 2 := hx 2
    have x3 : (y 3 : ℕ) = 0 + x 3 := hx 3
    refine (val_blk m c t (2048 + 768) _ (head1 m c t 768 _ (by decide)) x).trans ?_
    refine specV_congr _ ?_ ?_ ?_ ?_
    · rw [e1]; omega
    · rw [e0]; show t.val / 32 % 4 = _; omega
    · rw [e2]; show t.val % 32 * 256 + (x 2 : ℕ) = _; omega
    · rw [e3]; show (x 3 : ℕ) = _; omega

end
end Cert.QkvIdeal.Val
end
-- ==== Proof.QkvRef.lean ====
module

public import proofs.«01_k».proof.Proof.QkvBlk
public import proofs.«01_k».proof.Proof.Gen.QkvRefIdeal.Read
public import Idealize.ShloMosaic.Lib.Pipeline.ValueKit
public import Idealize.ShloMosaic.Lib.KernelVsHost

@[expose] public section

set_option maxRecDepth 16384

noncomputable section

/-! # The queries, keys and values of the reference, read at an index -/

namespace Cert.QkvRefIdeal.At

open Idealize.ShloMosaic Idealize.ShloMosaic.TcCoe Idealize.SL.Sem
open Cert.QkvRefIdeal Cert.QkvRefIdeal.Gen Cert.QkvRefIdeal.Read
open Cert.QkvIdeal.Val (ang64 ang32 rowP colP zat cosT sinT cosH sinH rope rope32 axial nrm specR specA specV)

/-- The reference's grid rows. -/
theorem row_eq : val_main_v3 (F := Ideal) = rowP := by
  funext i
  exact (val_main_v3_apply i).trans (val_main_v2_apply _)

/-- The reference's grid columns. -/
theorem col_eq : val_main_v7 (F := Ideal) = colP := by
  funext i
  refine (val_main_v7_apply i).trans ((val_main_v6_apply _).trans ((val_main_v5_apply _).trans ?_))
  show BitVec.ofNat 32 (0 * 64 + (i 0).val % 64) = BitVec.ofNat 32 ((i 0).val % 64)
  rw [Nat.zero_mul, Nat.zero_add]

/-- The angles of the full embedding. -/
theorem ang_eq : val_main_v24 (F := Ideal) = ang64 (iotaInDim S8192 32 0) := rfl
/-- The angles of the half embedding over the grid rows. -/
theorem angR_eq : val_main_v43 (F := Ideal) = ang32 rowP := by
  rw [← row_eq]
  rfl
/-- The angles of the half embedding over the grid columns. -/
theorem angC_eq : val_main_v62 (F := Ideal) = ang32 colP := by
  rw [← col_eq]
  rfl

/-- The cosines of the full embedding. -/
theorem cos_at (s : Fin 8192) (d : Fin 128) : val_main_v25 (F := Ideal) (ix2 s d) = cosT s d :=
  congrFun (congrArg (Host.cos (F := Ideal) (φ := .f32)) ang_eq) (ix2 s d)
/-- The sines of the full embedding. -/
theorem sin_at (s : Fin 8192) (d : Fin 128) : val_main_v26 (F := Ideal) (ix2 s d) = sinT s d :=
  congrFun (congrArg (Host.sin (F := Ideal) (φ := .f32)) ang_eq) (ix2 s d)
/-- The cosines of the half embedding over the grid rows. -/
theorem cosR_at (s : Fin 8192) (d : Fin 64) : val_main_v44 (F := Ideal) (ix2 s d) = cosH rowP s d :=
  congrFun (congrArg (Host.cos (F := Ideal) (φ := .f32)) angR_eq) (ix2 s d)
/-- The sines of the half embedding over the grid rows. -/
theorem sinR_at (s : Fin 8192) (d : Fin 64) : val_main_v45 (F := Ideal) (ix2 s d) = sinH rowP s d :=
  congrFun (congrArg (Host.sin (F := Ideal) (φ := .f32)) angR_eq) (ix2 s d)
/-- The cosines of the half embedding over the grid columns. -/
theorem cosC_at (s : Fin 8192) (d : Fin 64) : val_main_v63 (F := Ideal) (ix2 s d) = cosH colP s d :=
  congrFun (congrArg (Host.cos (F := Ideal) (φ := .f32)) angC_eq) (ix2 s d)
/-- The sines of the half embedding over the grid columns. -/
theorem sinC_at (s : Fin 8192) (d : Fin 64) : val_main_v64 (F := Ideal) (ix2 s d) = sinH colP s d :=
  congrFun (congrArg (Host.sin (F := Ideal) (φ := .f32)) angC_eq) (ix2 s d)

/-- The half embedding depends on its row and its tables alone. -/
theorem rope32_congr {x x' C C' S S' : Fin 64 → EReal} (hx : x = x') (hC : C = C') (hS : S = S') (d : Fin 64) : rope32 x C S d = rope32 x' C' S' d := by
  rw [hx, hC, hS]

/-- The rotary embedding of 4 heads at an index. -/
theorem rope4_at (Y : FVec Ideal S4x8192x4x128 .f32) (C D : FVec Ideal S8192x128 .f32) (b : Fin 4) (s : Fin 8192) (h : Fin 4) (d : Fin 128) :
    addf (mulf Y (broadcastInDim S4x8192x4x128 ![0, 1, 2, 3] bcast_S1x8192x1x128_S4x8192x4x128_0_1_2_3 (broadcastInDim S1x8192x1x128 ![1, 3] bcast_S8192x128_S1x8192x1x128_1_3 C)))
      (mulf (concatenate S4x8192x4x128 3 [⟨S4x8192x4x64, Host.negf (extractStridedSlice S4x8192x4x64 ![0, 0, 0, 64] Y slices_S4x8192x4x128_S4x8192x4x64_0_0_0_64)⟩,
          ⟨S4x8192x4x64, extractStridedSlice S4x8192x4x64 ![0, 0, 0, 0] Y slices_S4x8192x4x128_S4x8192x4x64_0_0_0_0⟩] concatenates_S4x8192x4x64_S4x8192x4x64_S4x8192x4x128_d3)
        (broadcastInDim S4x8192x4x128 ![0, 1, 2, 3] bcast_S1x8192x1x128_S4x8192x4x128_0_1_2_3 (broadcastInDim S1x8192x1x128 ![1, 3] bcast_S8192x128_S1x8192x1x128_1_3 D)))
      (ix4 b s h d) = rope (fun d => (show EReal from Y (ix4 b s h d))) (fun d => (show EReal from C (ix2 s d))) (fun d => (show EReal from D (ix2 s d))) d := by
  unfold rope
  pointwise
  simp only [show ∀ n : ℕ, 64 + n = n + 64 from fun n => Nat.add_comm 64 n]

/-- The half embedding of 4 heads at an index. -/
theorem half4_at (Y : FVec Ideal S4x8192x4x64 .f32) (C D : FVec Ideal S8192x64 .f32) (b : Fin 4) (s : Fin 8192) (h : Fin 4) (d : Fin 64) :
    addf (mulf Y (broadcastInDim S4x8192x4x64 ![0, 1, 2, 3] bcast_S1x8192x1x64_S4x8192x4x64_0_1_2_3 (broadcastInDim S1x8192x1x64 ![1, 3] bcast_S8192x64_S1x8192x1x64_1_3 C)))
      (mulf (concatenate S4x8192x4x64 3 [⟨S4x8192x4x32, Host.negf (extractStridedSlice S4x8192x4x32 ![0, 0, 0, 32] Y slices_S4x8192x4x64_S4x8192x4x32_0_0_0_32)⟩,
          ⟨S4x8192x4x32, extractStridedSlice S4x8192x4x32 ![0, 0, 0, 0] Y slices_S4x8192x4x64_S4x8192x4x32_0_0_0_0⟩] concatenates_S4x8192x4x32_S4x8192x4x32_S4x8192x4x64_d3)
        (broadcastInDim S4x8192x4x64 ![0, 1, 2, 3] bcast_S1x8192x1x64_S4x8192x4x64_0_1_2_3 (broadcastInDim S1x8192x1x64 ![1, 3] bcast_S8192x64_S1x8192x1x64_1_3 D)))
      (ix4 b s h d) = rope32 (fun d => (show EReal from Y (ix4 b s h d))) (fun d => (show EReal from C (ix2 s d))) (fun d => (show EReal from D (ix2 s d))) d := by
  unfold rope32
  pointwise
  simp only [show ∀ n : ℕ, 32 + n = n + 32 from fun n => Nat.add_comm 32 n]

/-- Two halves of 4 heads side by side, at an index. -/
theorem cat4_at (A B : FVec Ideal S4x8192x4x64 .f32) (b : Fin 4) (s : Fin 8192) (h : Fin 4) (d : Fin 128) :
    concatenate S4x8192x4x128 3 [⟨S4x8192x4x64, A⟩, ⟨S4x8192x4x64, B⟩] concatenates_S4x8192x4x64_S4x8192x4x64_S4x8192x4x128_d3 (ix4 b s h d)
      = if hd : d.val < 64 then A (ix4 b s h ⟨d.val, hd⟩) else B (ix4 b s h ⟨d.val - 64, by omega⟩) := by
  pointwise

/-- The lower half of 4 heads. -/
theorem lo4_at (Y : FVec Ideal S4x8192x4x128 .f32) (b : Fin 4) (s : Fin 8192) (h : Fin 4) (d : Fin 64) :
    extractStridedSlice S4x8192x4x64 ![0, 0, 0, 0] Y slices_S4x8192x4x128_S4x8192x4x64_0_0_0_0 (ix4 b s h d) = Y (ix4 b s h ⟨d.val, by omega⟩) := by
  pointwise

/-- The upper half of 4 heads. -/
theorem hi4_at (Y : FVec Ideal S4x8192x4x128 .f32) (b : Fin 4) (s : Fin 8192) (h : Fin 4) (d : Fin 64) :
    extractStridedSlice S4x8192x4x64 ![0, 0, 0, 64] Y slices_S4x8192x4x128_S4x8192x4x64_0_0_0_64 (ix4 b s h d) = Y (ix4 b s h ⟨64 + d.val, by omega⟩) := by
  pointwise

/-- The rotary embedding of 2 heads at an index. -/
theorem rope2_at (Y : FVec Ideal S4x8192x2x128 .f32) (C D : FVec Ideal S8192x128 .f32) (b : Fin 4) (s : Fin 8192) (h : Fin 2) (d : Fin 128) :
    addf (mulf Y (broadcastInDim S4x8192x2x128 ![0, 1, 2, 3] bcast_S1x8192x1x128_S4x8192x2x128_0_1_2_3 (broadcastInDim S1x8192x1x128 ![1, 3] bcast_S8192x128_S1x8192x1x128_1_3 C)))
      (mulf (concatenate S4x8192x2x128 3 [⟨S4x8192x2x64, Host.negf (extractStridedSlice S4x8192x2x64 ![0, 0, 0, 64] Y slices_S4x8192x2x128_S4x8192x2x64_0_0_0_64)⟩,
          ⟨S4x8192x2x64, extractStridedSlice S4x8192x2x64 ![0, 0, 0, 0] Y slices_S4x8192x2x128_S4x8192x2x64_0_0_0_0⟩] concatenates_S4x8192x2x64_S4x8192x2x64_S4x8192x2x128_d3)
        (broadcastInDim S4x8192x2x128 ![0, 1, 2, 3] bcast_S1x8192x1x128_S4x8192x2x128_0_1_2_3 (broadcastInDim S1x8192x1x128 ![1, 3] bcast_S8192x128_S1x8192x1x128_1_3 D)))
      (ix4 b s h d) = rope (fun d => (show EReal from Y (ix4 b s h d))) (fun d => (show EReal from C (ix2 s d))) (fun d => (show EReal from D (ix2 s d))) d := by
  unfold rope
  pointwise
  simp only [show ∀ n : ℕ, 64 + n = n + 64 from fun n => Nat.add_comm 64 n]

/-- The half embedding of 2 heads at an index. -/
theorem half2_at (Y : FVec Ideal S4x8192x2x64 .f32) (C D : FVec Ideal S8192x64 .f32) (b : Fin 4) (s : Fin 8192) (h : Fin 2) (d : Fin 64) :
    addf (mulf Y (broadcastInDim S4x8192x2x64 ![0, 1, 2, 3] bcast_S1x8192x1x64_S4x8192x2x64_0_1_2_3 (broadcastInDim S1x8192x1x64 ![1, 3] bcast_S8192x64_S1x8192x1x64_1_3 C)))
      (mulf (concatenate S4x8192x2x64 3 [⟨S4x8192x2x32, Host.negf (extractStridedSlice S4x8192x2x32 ![0, 0, 0, 32] Y slices_S4x8192x2x64_S4x8192x2x32_0_0_0_32)⟩,
          ⟨S4x8192x2x32, extractStridedSlice S4x8192x2x32 ![0, 0, 0, 0] Y slices_S4x8192x2x64_S4x8192x2x32_0_0_0_0⟩] concatenates_S4x8192x2x32_S4x8192x2x32_S4x8192x2x64_d3)
        (broadcastInDim S4x8192x2x64 ![0, 1, 2, 3] bcast_S1x8192x1x64_S4x8192x2x64_0_1_2_3 (broadcastInDim S1x8192x1x64 ![1, 3] bcast_S8192x64_S1x8192x1x64_1_3 D)))
      (ix4 b s h d) = rope32 (fun d => (show EReal from Y (ix4 b s h d))) (fun d => (show EReal from C (ix2 s d))) (fun d => (show EReal from D (ix2 s d))) d := by
  unfold rope32
  pointwise
  simp only [show ∀ n : ℕ, 32 + n = n + 32 from fun n => Nat.add_comm 32 n]

/-- Two halves of 2 heads side by side, at an index. -/
theorem cat2_at (A B : FVec Ideal S4x8192x2x64 .f32) (b : Fin 4) (s : Fin 8192) (h : Fin 2) (d : Fin 128) :
    concatenate S4x8192x2x128 3 [⟨S4x8192x2x64, A⟩, ⟨S4x8192x2x64, B⟩] concatenates_S4x8192x2x64_S4x8192x2x64_S4x8192x2x128_d3 (ix4 b s h d)
      = if hd : d.val < 64 then A (ix4 b s h ⟨d.val, hd⟩) else B (ix4 b s h ⟨d.val - 64, by omega⟩) := by
  pointwise

/-- The lower half of 2 heads. -/
theorem lo2_at (Y : FVec Ideal S4x8192x2x128 .f32) (b : Fin 4) (s : Fin 8192) (h : Fin 2) (d : Fin 64) :
    extractStridedSlice S4x8192x2x64 ![0, 0, 0, 0] Y slices_S4x8192x2x128_S4x8192x2x64_0_0_0_0 (ix4 b s h d) = Y (ix4 b s h ⟨d.val, by omega⟩) := by
  pointwise

/-- The upper half of 2 heads. -/
theorem hi2_at (Y : FVec Ideal S4x8192x2x128 .f32) (b : Fin 4) (s : Fin 8192) (h : Fin 2) (d : Fin 64) :
    extractStridedSlice S4x8192x2x64 ![0, 0, 0, 64] Y slices_S4x8192x2x128_S4x8192x2x64_0_0_0_64 (ix4 b s h d) = Y (ix4 b s h ⟨64 + d.val, by omega⟩) := by
  pointwise

/-- The columns of head `h` from 1024. -/
theorem qc_at (x : (⟨S4x8192x3072, .f32⟩ : BufTy).Contents (Elt Ideal)) (b : Fin 4) (s : Fin 8192) (h : Fin 4) (d : Fin 128) :
    val_main_v69 (F := Ideal) x (ix4 b s h d) = zat x b s (1024 + 128 * h.val + d.val) := by
  refine (val_main_v69_apply x _).trans ((val_main_v66_apply x _).trans ((val_main_v65_apply x _).trans (congrArg x ?_)))
  funext a
  match a with
  | ⟨0, _⟩ => exact Fin.ext (by show (((b.val * 8192 + s.val) * 4 + h.val) * 128 + d.val) / 4194304 = b.val; omega)
  | ⟨1, _⟩ => exact Fin.ext (by show (((b.val * 8192 + s.val) * 4 + h.val) * 128 + d.val) / 512 % 8192 = s.val; omega)
  | ⟨2, _⟩ => exact Fin.ext (by show 1024 + (((b.val * 8192 + s.val) * 4 + h.val) * 128 + d.val) % 512 = (1024 + 128 * h.val + d.val) % 3072; omega)

/-- The columns of head `h` from 1536. -/
theorem kc_at (x : (⟨S4x8192x3072, .f32⟩ : BufTy).Contents (Elt Ideal)) (b : Fin 4) (s : Fin 8192) (h : Fin 2) (d : Fin 128) :
    val_main_v70 (F := Ideal) x (ix4 b s h d) = zat x b s (1536 + 128 * h.val + d.val) := by
  refine (val_main_v70_apply x _).trans ((val_main_v67_apply x _).trans ((val_main_v65_apply x _).trans (congrArg x ?_)))
  funext a
  match a with
  | ⟨0, _⟩ => exact Fin.ext (by show (((b.val * 8192 + s.val) * 2 + h.val) * 128 + d.val) / 2097152 = b.val; omega)
  | ⟨1, _⟩ => exact Fin.ext (by show (((b.val * 8192 + s.val) * 2 + h.val) * 128 + d.val) / 256 % 8192 = s.val; omega)
  | ⟨2, _⟩ => exact Fin.ext (by show 1024 + (512 + (((b.val * 8192 + s.val) * 2 + h.val) * 128 + d.val) % 256) = (1536 + 128 * h.val + d.val) % 3072; omega)

/-- The columns of head `h` from 1792. -/
theorem vc_at (x : (⟨S4x8192x3072, .f32⟩ : BufTy).Contents (Elt Ideal)) (b : Fin 4) (s : Fin 8192) (h : Fin 2) (d : Fin 128) :
    val_main_v71 (F := Ideal) x (ix4 b s h d) = zat x b s (1792 + 128 * h.val + d.val) := by
  refine (val_main_v71_apply x _).trans ((val_main_v68_apply x _).trans ((val_main_v65_apply x _).trans (congrArg x ?_)))
  funext a
  match a with
  | ⟨0, _⟩ => exact Fin.ext (by show (((b.val * 8192 + s.val) * 2 + h.val) * 128 + d.val) / 2097152 = b.val; omega)
  | ⟨1, _⟩ => exact Fin.ext (by show (((b.val * 8192 + s.val) * 2 + h.val) * 128 + d.val) / 256 % 8192 = s.val; omega)
  | ⟨2, _⟩ => exact Fin.ext (by show 1024 + (768 + (((b.val * 8192 + s.val) * 2 + h.val) * 128 + d.val) % 256) = (1792 + 128 * h.val + d.val) % 3072; omega)

/-- The columns of head `h` from 2048. -/
theorem qd_at (x : (⟨S4x8192x3072, .f32⟩ : BufTy).Contents (Elt Ideal)) (b : Fin 4) (s : Fin 8192) (h : Fin 4) (d : Fin 128) :
    val_main_v76 (F := Ideal) x (ix4 b s h d) = zat x b s (2048 + 128 * h.val + d.val) := by
  refine (val_main_v76_apply x _).trans ((val_main_v73_apply x _).trans ((val_main_v72_apply x _).trans (congrArg x ?_)))
  funext a
  match a with
  | ⟨0, _⟩ => exact Fin.ext (by show (((b.val * 8192 + s.val) * 4 + h.val) * 128 + d.val) / 4194304 = b.val; omega)
  | ⟨1, _⟩ => exact Fin.ext (by show (((b.val * 8192 + s.val) * 4 + h.val) * 128 + d.val) / 512 % 8192 = s.val; omega)
  | ⟨2, _⟩ => exact Fin.ext (by show 2048 + (((b.val * 8192 + s.val) * 4 + h.val) * 128 + d.val) % 512 = (2048 + 128 * h.val + d.val) % 3072; omega)

/-- The columns of head `h` from 2560. -/
theorem kd_at (x : (⟨S4x8192x3072, .f32⟩ : BufTy).Contents (Elt Ideal)) (b : Fin 4) (s : Fin 8192) (h : Fin 2) (d : Fin 128) :
    val_main_v77 (F := Ideal) x (ix4 b s h d) = zat x b s (2560 + 128 * h.val + d.val) := by
  refine (val_main_v77_apply x _).trans ((val_main_v74_apply x _).trans ((val_main_v72_apply x _).trans (congrArg x ?_)))
  funext a
  match a with
  | ⟨0, _⟩ => exact Fin.ext (by show (((b.val * 8192 + s.val) * 2 + h.val) * 128 + d.val) / 2097152 = b.val; omega)
  | ⟨1, _⟩ => exact Fin.ext (by show (((b.val * 8192 + s.val) * 2 + h.val) * 128 + d.val) / 256 % 8192 = s.val; omega)
  | ⟨2, _⟩ => exact Fin.ext (by show 2048 + (512 + (((b.val * 8192 + s.val) * 2 + h.val) * 128 + d.val) % 256) = (2560 + 128 * h.val + d.val) % 3072; omega)

/-- The columns of head `h` from 2816. -/
theorem vd_at (x : (⟨S4x8192x3072, .f32⟩ : BufTy).Contents (Elt Ideal)) (b : Fin 4) (s : Fin 8192) (h : Fin 2) (d : Fin 128) :
    val_main_v78 (F := Ideal) x (ix4 b s h d) = zat x b s (2816 + 128 * h.val + d.val) := by
  refine (val_main_v78_apply x _).trans ((val_main_v75_apply x _).trans ((val_main_v72_apply x _).trans (congrArg x ?_)))
  funext a
  match a with
  | ⟨0, _⟩ => exact Fin.ext (by show (((b.val * 8192 + s.val) * 2 + h.val) * 128 + d.val) / 2097152 = b.val; omega)
  | ⟨1, _⟩ => exact Fin.ext (by show (((b.val * 8192 + s.val) * 2 + h.val) * 128 + d.val) / 256 % 8192 = s.val; omega)
  | ⟨2, _⟩ => exact Fin.ext (by show 2048 + (768 + (((b.val * 8192 + s.val) * 2 + h.val) * 128 + d.val) % 256) = (2816 + 128 * h.val + d.val) % 3072; omega)

/-- The rotated queries of the reference. -/
theorem rot_qc (x : (⟨S4x8192x3072, .f32⟩ : BufTy).Contents (Elt Ideal)) (b : Fin 4) (s : Fin 8192) (h : Fin 4) (d : Fin 128) :
    val_main_v89 (F := Ideal) x (ix4 b s h d) = specR x (1024 + 128 * h.val) b s d := by
  refine (rope4_at (val_main_v69 (F := Ideal) x) (val_main_v25 (F := Ideal)) (val_main_v26 (F := Ideal)) b s h d).trans ?_
  unfold specR
  rw [show (fun d => (show EReal from val_main_v69 (F := Ideal) x (ix4 b s h d))) = fun d : Fin 128 => zat x b s (1024 + 128 * h.val + d.val) from
      funext fun d => qc_at x b s h d]
  rfl

/-- The rotated keys of the reference. -/
theorem rot_kc (x : (⟨S4x8192x3072, .f32⟩ : BufTy).Contents (Elt Ideal)) (b : Fin 4) (s : Fin 8192) (h : Fin 2) (d : Fin 128) :
    val_main_v100 (F := Ideal) x (ix4 b s h d) = specR x (1536 + 128 * h.val) b s d := by
  refine (rope2_at (val_main_v70 (F := Ideal) x) (val_main_v25 (F := Ideal)) (val_main_v26 (F := Ideal)) b s h d).trans ?_
  unfold specR
  rw [show (fun d => (show EReal from val_main_v70 (F := Ideal) x (ix4 b s h d))) = fun d : Fin 128 => zat x b s (1536 + 128 * h.val + d.val) from
      funext fun d => kc_at x b s h d]
  rfl

/-- The normed queries of the reference. -/
theorem nrm_qd (x : (⟨S4x8192x3072, .f32⟩ : BufTy).Contents (Elt Ideal)) (g : (⟨S128, .f32⟩ : BufTy).Contents (Elt Ideal)) (b : Fin 4) (s : Fin 8192) (h : Fin 4) (d : Fin 128) :
    val_main_v113 (F := Ideal) x g (ix4 b s h d)
      = nrm (fun d => zat x b s (2048 + 128 * h.val + d.val)) (fun d => (show EReal from g (ix1 d))) d := by
  have hs : val_main_v102 (F := Ideal) x (ix3 b s h) = ∑ j : Fin 128, zat x b s (2048 + 128 * h.val + j.val) * zat x b s (2048 + 128 * h.val + j.val) := by
    refine (val_main_v102_apply x (ix3 b s h)).trans ?_
    refine (congrArg (fun w : EReal => w + _) (Ideal.ofBits_zero .f32)).trans ((zero_add _).trans (Finset.sum_congr rfl fun j _ => ?_))
    have e : idx_main_v102 (ix3 b s h) j = ix4 b s h j := funext fun a => match a with | ⟨0, _⟩ => rfl | ⟨1, _⟩ => rfl | ⟨2, _⟩ => rfl | ⟨3, _⟩ => rfl
    rw [e]
    exact congrArg₂ (fun p q : EReal => p * q) (qd_at x b s h j) (qd_at x b s h j)
  have hr : val_main_v109 (F := Ideal) x (ix4 b s h d) = Ideal.rsqrt (Ideal.div (∑ j : Fin 128, zat x b s (2048 + 128 * h.val + j.val) * zat x b s (2048 + 128 * h.val + j.val))
      (Ideal.ofBits .f32 0x43000000#32) + Ideal.ofBits .f32 0x358637BD#32) := by
    refine (val_main_v109_apply x _).trans ?_
    refine congrArg Ideal.rsqrt (congrArg₂ (fun p q : EReal => p + q) (congrArg₂ Ideal.div ?_ ?_) ?_)
    · refine (val_main_v103_apply x _).trans (Eq.trans (congrArg (val_main_v102 (F := Ideal) x) ?_) hs)
      exact funext fun a => match a with | ⟨0, _⟩ => rfl | ⟨1, _⟩ => rfl | ⟨2, _⟩ => rfl
    · exact val_main_v104_apply _
    · exact val_main_v106_apply _
  have hg : val_main_v112 (F := Ideal) g (ix4 b s h d) = (show EReal from g (ix1 d)) := by
    refine (val_main_v112_apply g _).trans ((val_main_v111_apply g _).trans (congrArg g ?_))
    exact funext fun a => match a with | ⟨0, _⟩ => rfl
  unfold nrm
  exact congrArg₂ (fun p q : EReal => p * q) (congrArg₂ (fun p q : EReal => p * q) (qd_at x b s h d) hr) hg

/-- The normed and axially rotated queries of the reference. -/
theorem rot_qd (x : (⟨S4x8192x3072, .f32⟩ : BufTy).Contents (Elt Ideal)) (g : (⟨S128, .f32⟩ : BufTy).Contents (Elt Ideal)) (b : Fin 4) (s : Fin 8192) (h : Fin 4) (d : Fin 128) :
    val_main_v138 (F := Ideal) x g (ix4 b s h d) = specA x g (2048 + 128 * h.val) b s d := by
  refine (cat4_at (val_main_v125 (F := Ideal) x g) (val_main_v137 (F := Ideal) x g) b s h d).trans ?_
  unfold specA axial
  by_cases hd : d.val < 64
  · rw [dif_pos hd, dif_pos hd]
    refine (half4_at (val_main_v114 (F := Ideal) x g) (val_main_v44 (F := Ideal)) (val_main_v45 (F := Ideal)) b s h ⟨d.val, hd⟩).trans ?_
    refine rope32_congr (funext fun j => ?_) (funext fun j => cosR_at s j) (funext fun j => sinR_at s j) _
    exact (lo4_at (val_main_v113 (F := Ideal) x g) b s h j).trans (nrm_qd x g b s h _)
  · rw [dif_neg hd, dif_neg hd]
    refine (half4_at (val_main_v126 (F := Ideal) x g) (val_main_v63 (F := Ideal)) (val_main_v64 (F := Ideal)) b s h ⟨d.val - 64, by omega⟩).trans ?_
    refine rope32_congr (funext fun j => ?_) (funext fun j => cosC_at s j) (funext fun j => sinC_at s j) _
    exact (hi4_at (val_main_v113 (F := Ideal) x g) b s h j).trans (nrm_qd x g b s h _)

/-- The normed keys of the reference. -/
theorem nrm_kd (x : (⟨S4x8192x3072, .f32⟩ : BufTy).Contents (Elt Ideal)) (g : (⟨S128, .f32⟩ : BufTy).Contents (Elt Ideal)) (b : Fin 4) (s : Fin 8192) (h : Fin 2) (d : Fin 128) :
    val_main_v151 (F := Ideal) x g (ix4 b s h d)
      = nrm (fun d => zat x b s (2560 + 128 * h.val + d.val)) (fun d => (show EReal from g (ix1 d))) d := by
  have hs : val_main_v140 (F := Ideal) x (ix3 b s h) = ∑ j : Fin 128, zat x b s (2560 + 128 * h.val + j.val) * zat x b s (2560 + 128 * h.val + j.val) := by
    refine (val_main_v140_apply x (ix3 b s h)).trans ?_
    refine (congrArg (fun w : EReal => w + _) (Ideal.ofBits_zero .f32)).trans ((zero_add _).trans (Finset.sum_congr rfl fun j _ => ?_))
    have e : idx_main_v140 (ix3 b s h) j = ix4 b s h j := funext fun a => match a with | ⟨0, _⟩ => rfl | ⟨1, _⟩ => rfl | ⟨2, _⟩ => rfl | ⟨3, _⟩ => rfl
    rw [e]
    exact congrArg₂ (fun p q : EReal => p * q) (kd_at x b s h j) (kd_at x b s h j)
  have hr : val_main_v147 (F := Ideal) x (ix4 b s h d) = Ideal.rsqrt (Ideal.div (∑ j : Fin 128, zat x b s (2560 + 128 * h.val + j.val) * zat x b s (2560 + 128 * h.val + j.val))
      (Ideal.ofBits .f32 0x43000000#32) + Ideal.ofBits .f32 0x358637BD#32) := by
    refine (val_main_v147_apply x _).trans ?_
    refine congrArg Ideal.rsqrt (congrArg₂ (fun p q : EReal => p + q) (congrArg₂ Ideal.div ?_ ?_) ?_)
    · refine (val_main_v141_apply x _).trans (Eq.trans (congrArg (val_main_v140 (F := Ideal) x) ?_) hs)
      exact funext fun a => match a with | ⟨0, _⟩ => rfl | ⟨1, _⟩ => rfl | ⟨2, _⟩ => rfl
    · exact val_main_v142_apply _
    · exact val_main_v144_apply _
  have hg : val_main_v150 (F := Ideal) g (ix4 b s h d) = (show EReal from g (ix1 d)) := by
    refine (val_main_v150_apply g _).trans ((val_main_v149_apply g _).trans (congrArg g ?_))
    exact funext fun a => match a with | ⟨0, _⟩ => rfl
  unfold nrm
  exact congrArg₂ (fun p q : EReal => p * q) (congrArg₂ (fun p q : EReal => p * q) (kd_at x b s h d) hr) hg

/-- The normed and axially rotated keys of the reference. -/
theorem rot_kd (x : (⟨S4x8192x3072, .f32⟩ : BufTy).Contents (Elt Ideal)) (g : (⟨S128, .f32⟩ : BufTy).Contents (Elt Ideal)) (b : Fin 4) (s : Fin 8192) (h : Fin 2) (d : Fin 128) :
    val_main_v176 (F := Ideal) x g (ix4 b s h d) = specA x g (2560 + 128 * h.val) b s d := by
  refine (cat2_at (val_main_v163 (F := Ideal) x g) (val_main_v175 (F := Ideal) x g) b s h d).trans ?_
  unfold specA axial
  by_cases hd : d.val < 64
  · rw [dif_pos hd, dif_pos hd]
    refine (half2_at (val_main_v152 (F := Ideal) x g) (val_main_v44 (F := Ideal)) (val_main_v45 (F := Ideal)) b s h ⟨d.val, hd⟩).trans ?_
    refine rope32_congr (funext fun j => ?_) (funext fun j => cosR_at s j) (funext fun j => sinR_at s j) _
    exact (lo2_at (val_main_v151 (F := Ideal) x g) b s h j).trans (nrm_kd x g b s h _)
  · rw [dif_neg hd, dif_neg hd]
    refine (half2_at (val_main_v164 (F := Ideal) x g) (val_main_v63 (F := Ideal)) (val_main_v64 (F := Ideal)) b s h ⟨d.val - 64, by omega⟩).trans ?_
    refine rope32_congr (funext fun j => ?_) (funext fun j => cosC_at s j) (funext fun j => sinC_at s j) _
    exact (hi2_at (val_main_v151 (F := Ideal) x g) b s h j).trans (nrm_kd x g b s h _)

end Cert.QkvRefIdeal.At
end
-- ==== Proof.QkvVal.lean ====
module

public import proofs.«01_k».proof.Proof.QkvOut
public import proofs.«01_k».proof.Proof.QkvRef
public import proofs.«01_k».proof.Proof.Gen.QkvIdeal.Value
public import proofs.«01_k».proof.Proof.Gen.QkvRefIdeal.Run
public import proofs.«01_k».proof.Defs

@[expose] public section

set_option maxRecDepth 16384

noncomputable section

/-! # The claim about queries, keys and values -/

namespace Cert.QkvIdeal.Val

open Idealize.ShloMosaic Idealize.ShloMosaic.TcCoe Idealize.SL.Sem
open Cert.QkvIdeal Cert.QkvIdeal.Gen

/-- The reference's rotated queries are the kernel's. -/
theorem refQC (x : Vec Ideal S4x8192x3072 .f32) : Cert.QkvRefIdeal.Read.val_main_v178 (F := Ideal) x = outQC x := by
  funext i
  refine (Cert.QkvRefIdeal.Read.val_main_v177_apply x i).trans ?_
  refine Eq.trans (congrArg (Cert.QkvRefIdeal.Read.val_main_v89 (F := Ideal) x) ?_) (Cert.QkvRefIdeal.At.rot_qc x (i 0) (i 2) (i 1) (i 3))
  exact funext fun a => match a with | ⟨0, _⟩ => rfl | ⟨1, _⟩ => rfl | ⟨2, _⟩ => rfl | ⟨3, _⟩ => rfl

/-- The reference's rotated keys are the kernel's. -/
theorem refKC (x : Vec Ideal S4x8192x3072 .f32) : Cert.QkvRefIdeal.Read.val_main_v180 (F := Ideal) x = outKC x := by
  funext i
  refine (Cert.QkvRefIdeal.Read.val_main_v179_apply x i).trans ?_
  refine Eq.trans (congrArg (Cert.QkvRefIdeal.Read.val_main_v100 (F := Ideal) x) ?_) (Cert.QkvRefIdeal.At.rot_kc x (i 0) (i 2) (i 1) (i 3))
  exact funext fun a => match a with | ⟨0, _⟩ => rfl | ⟨1, _⟩ => rfl | ⟨2, _⟩ => rfl | ⟨3, _⟩ => rfl

/-- The reference's first values are the kernel's. -/
theorem refVC (x : Vec Ideal S4x8192x3072 .f32) : Cert.QkvRefIdeal.Read.val_main_v182 (F := Ideal) x = outVC x := by
  funext i
  refine (Cert.QkvRefIdeal.Read.val_main_v181_apply x i).trans ?_
  refine Eq.trans (congrArg (Cert.QkvRefIdeal.Read.val_main_v71 (F := Ideal) x) ?_) (Cert.QkvRefIdeal.At.vc_at x (i 0) (i 2) (i 1) (i 3))
  exact funext fun a => match a with | ⟨0, _⟩ => rfl | ⟨1, _⟩ => rfl | ⟨2, _⟩ => rfl | ⟨3, _⟩ => rfl

/-- The reference's normed and axially rotated queries are the kernel's. -/
theorem refQD (x : Vec Ideal S4x8192x3072 .f32) (g : Vec Ideal S128 .f32) : Cert.QkvRefIdeal.Read.val_main_v184 (F := Ideal) x g = outQD x g := by
  funext i
  refine (Cert.QkvRefIdeal.Read.val_main_v183_apply x g i).trans ?_
  refine Eq.trans (congrArg (Cert.QkvRefIdeal.Read.val_main_v138 (F := Ideal) x g) ?_) (Cert.QkvRefIdeal.At.rot_qd x g (i 0) (i 2) (i 1) (i 3))
  exact funext fun a => match a with | ⟨0, _⟩ => rfl | ⟨1, _⟩ => rfl | ⟨2, _⟩ => rfl | ⟨3, _⟩ => rfl

/-- The reference's normed and axially rotated keys are the kernel's. -/
theorem refKD (x : Vec Ideal S4x8192x3072 .f32) (g : Vec Ideal S128 .f32) : Cert.QkvRefIdeal.Read.val_main_v186 (F := Ideal) x g = outKD x g := by
  funext i
  refine (Cert.QkvRefIdeal.Read.val_main_v185_apply x g i).trans ?_
  refine Eq.trans (congrArg (Cert.QkvRefIdeal.Read.val_main_v176 (F := Ideal) x g) ?_) (Cert.QkvRefIdeal.At.rot_kd x g (i 0) (i 2) (i 1) (i 3))
  exact funext fun a => match a with | ⟨0, _⟩ => rfl | ⟨1, _⟩ => rfl | ⟨2, _⟩ => rfl | ⟨3, _⟩ => rfl

/-- The reference's second values are the kernel's. -/
theorem refVD (x : Vec Ideal S4x8192x3072 .f32) : Cert.QkvRefIdeal.Read.val_main_v188 (F := Ideal) x = outVD x := by
  funext i
  refine (Cert.QkvRefIdeal.Read.val_main_v187_apply x i).trans ?_
  refine Eq.trans (congrArg (Cert.QkvRefIdeal.Read.val_main_v78 (F := Ideal) x) ?_) (Cert.QkvRefIdeal.At.vd_at x (i 0) (i 2) (i 1) (i 3))
  exact funext fun a => match a with | ⟨0, _⟩ => rfl | ⟨1, _⟩ => rfl | ⟨2, _⟩ => rfl | ⟨3, _⟩ => rfl

/-- The claim about queries, keys and values: from arguments that agree, both programs end with the same six arrays. -/
theorem algebraic : Cert.algebraic_QkvIdeal_QkvRefIdeal := by
  intro m ρ m' ρ' _ hagree
  refine ⟨fun c => outQC (Zm m c), fun c => outKC (Zm m c), fun c => outVC (Zm m c), fun c => outQD (Zm m c) (Gq m c),
    fun c => outKD (Zm m c) (Gk m c), fun c => outVD (Zm m c), ?_, ?_⟩
  · refine (θ_run Cert.QkvIdeal.defs _ _).mono (fun r h c => ?_) (Cert.QkvIdeal.Value.run_blocks m ρ)
    obtain ⟨h0, h1, h2, h3, h4, h5, hk⟩ := h c
    exact ⟨h0.trans (finalQC m c), h1.trans (finalKC m c), h2.trans (finalVC m c), h3.trans (finalQD m c), h4.trans (finalKD m c),
      h5.trans (finalVD m c), hk⟩
  · refine (θ_run Cert.QkvRefIdeal.defs _ _).mono (fun r h c => ?_) (Cert.QkvRefIdeal.Value.run (F := Ideal) m' ρ')
    obtain ⟨h0, h1, h2, h3, h4, h5, hk⟩ := h c
    obtain ⟨a0, a1, a2⟩ := hagree c
    rw [Cert.QkvRefIdeal.Read.val_main_v178_eq] at h0
    rw [Cert.QkvRefIdeal.Read.val_main_v180_eq] at h1
    rw [Cert.QkvRefIdeal.Read.val_main_v182_eq] at h2
    rw [Cert.QkvRefIdeal.Read.val_main_v184_eq] at h3
    rw [Cert.QkvRefIdeal.Read.val_main_v186_eq] at h4
    rw [Cert.QkvRefIdeal.Read.val_main_v188_eq] at h5
    exact ⟨h0.trans ((congrArg (Cert.QkvRefIdeal.Read.val_main_v178 (F := Ideal)) a0).trans (refQC _)),
      h1.trans ((congrArg (Cert.QkvRefIdeal.Read.val_main_v180 (F := Ideal)) a0).trans (refKC _)),
      h2.trans ((congrArg (Cert.QkvRefIdeal.Read.val_main_v182 (F := Ideal)) a0).trans (refVC _)),
      h3.trans ((congrArg₂ (Cert.QkvRefIdeal.Read.val_main_v184 (F := Ideal)) a0 a1).trans (refQD _ _)),
      h4.trans ((congrArg₂ (Cert.QkvRefIdeal.Read.val_main_v186 (F := Ideal)) a0 a2).trans (refKD _ _)),
      h5.trans ((congrArg (Cert.QkvRefIdeal.Read.val_main_v188 (F := Ideal)) a0).trans (refVD _)), hk⟩

end Cert.QkvIdeal.Val

end
-- ==== Proof.NormBVal.lean ====
module

public import proofs.«01_k».proof.Proof.Gen.NormBIdeal.Value
public import proofs.«01_k».proof.Proof.Gen.NormBRefIdeal.Read
public import proofs.«01_k».proof.Proof.Gen.NormBRefIdeal.Run
public import proofs.«01_k».proof.Defs
public import Idealize.ShloMosaic.Lib.Pipeline.ValueKit

@[expose] public section

set_option maxRecDepth 16384

noncomputable section

/-! # The root-mean-square norm with its result in bf16: the kernel's array and the reference's -/

namespace Cert.NormBIdeal.Val

open Idealize.ShloMosaic Idealize.ShloMosaic.TcCoe Idealize.SL.Sem
open Cert.NormBIdeal Cert.NormBIdeal.Gen

/-- The reciprocal root of the mean of the squares, shifted by the small constant. -/
abbrev scale (s : EReal) : EReal :=
  Ideal.rsqrt (Ideal.div s (Ideal.ofBits .f32 0x45000000#32) + Ideal.ofBits .f32 0x358637BD#32)

/-- Each row over its root mean square, times the gain: what the call computes. -/
def out (X : Vec Ideal S32768x2048 .f32) (g : Vec Ideal S2048 .f32) : Vec Ideal S32768x2048 .bf16 :=
  fun i => (show EReal from X i)
    * scale (∑ k : Fin 2048, (show EReal from X (ix2 (i 0) k)) * (show EReal from X (ix2 (i 0) k)))
    * (show EReal from g (ix1 (i 1)))

/-- What one point stores, at an index of its block. -/
theorem pay_at (x : Vec Ideal S512x2048 .f32) (g : Vec Ideal S1x2048 .f32)
    (i : S512x2048.Idx) : k0_pay1 (F := Ideal) x g i
      = (show EReal from x i)
        * scale (∑ k : Fin 2048, (show EReal from x (ix2 (i 0) k)) * (show EReal from x (ix2 (i 0) k)))
        * (show EReal from g (ix2 0 (i 1))) := by
  pointwise [k0_pay1]

/-- The windows' block indices at a point: 64 row blocks. -/
theorem idx : ∀ t : Fin cfg0.N, win0_0.index t = ![t.val, 0] ∧ win0_1.index t = ![0, 0] ∧ win0_2.index t = ![t.val, 0] :=
  (by decide +kernel : ∀ t : Fin grid0.N, _)

section
variable (m : (ℓ : Loc nD τ Cert.NormBIdeal.sig) → Buf (Elt Ideal) ℓ) (c : Dev nD)

abbrev Xm : Vec Ideal S32768x2048 .f32 := m ((c : Thread nD τ).loc main_arg0)
abbrev Gm : Vec Ideal S2048 .f32 := m ((c : Thread nD τ).loc main_arg1)

/-- The array the kernel leaves. -/
theorem final : (dats m 0 c).arrAt 2 cfg0.N = out (Xm m c) (Gm m c) := by
  refine (dats m 0 c).arrAt_eq_of_covers 2 _ (by decide +kernel) fun t hf y => ?_
  blk_simp
  rw [after0_2]
  frame_out
  refine (pay_at _ _ y).trans ?_
  unfold out
  refine congrArg₂ (fun x z : EReal => x * z) (congrArg₂ (fun x z : EReal => x * scale z) ?_ (Finset.sum_congr rfl fun k _ => congrArg₂ (fun x z : EReal => x * z) ?_ ?_)) ?_
  · blk_ext [iblk, V, idx t]
  · blk_ext [iblk, V, idx t]
  · blk_ext [iblk, V, idx t]
  · blk_ext! [iblk, V, idx t]

end

open Cert.NormBRefIdeal.Read in
/-- The reference, read at an index. -/
theorem ref_at (X : Vec Ideal S32768x2048 .f32) (g : Vec Ideal S2048 .f32) (i : S32768x2048.Idx) :
    val_main_v13 (F := Ideal) X g i = out X g i := by
  rw [val_main_v13_apply, val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply]
  refine congrArg₂ (fun x z : EReal => x * z) (congrArg (fun z : EReal => X i * scale z) ?_)
    (congrArg g (funext fun a => match a with | ⟨0, _⟩ => rfl))
  refine (congrArg (fun z : EReal => z + _) Ideal.ofBits_zero_f32).trans ((zero_add _).trans (Finset.sum_congr rfl fun k _ => ?_))
  rw [val_main_v0_apply]
  exact congrArg (fun z : EReal => z * z) (congrArg X (funext fun a => match a with | ⟨0, _⟩ => rfl | ⟨1, _⟩ => rfl))

/-- From arguments that agree both programs end with the same array. -/
theorem algebraic : Cert.algebraic_NormBIdeal_NormBRefIdeal := by
  intro m ρ m' ρ' _ hagree
  refine ⟨fun c => out (Xm m c) (Gm m c), ?_, ?_⟩
  · exact (θ_run Cert.NormBIdeal.defs _ _).mono (fun r h c => ⟨(h c).1.trans (final m c), (h c).2⟩)
      (Cert.NormBIdeal.Value.run_blocks m ρ)
  · refine (θ_run Cert.NormBRefIdeal.defs _ _).mono (fun r h c => ⟨(h c).1.trans ?_, (h c).2⟩)
      (Cert.NormBRefIdeal.Value.run (F := Ideal) m' ρ')
    rw [Cert.NormBRefIdeal.Read.val_main_v13_eq, (hagree c).1, (hagree c).2]
    exact funext fun i => ref_at (Xm m c) (Gm m c) i

end Cert.NormBIdeal.Val
-- ==== Proof.Pay.lean ====
module

public import proofs.«01_k».proof.Proof.Gen.KernelIdeal.Skeleton
public import Idealize.ShloMosaic.Lib.Pointwise

@[expose] public section

set_option maxRecDepth 16384

noncomputable section

/-! # The attention kernel's payloads read at an index, over the extended reals -/

namespace Cert.KernelIdeal.Att

open Idealize.ShloMosaic Idealize.ShloMosaic.TcCoe Idealize.SL.Sem
open Cert.KernelIdeal Cert.KernelIdeal.Gen

/-- The scale the scores are multiplied by. -/
def scale : EReal := Ideal.ofBits .f32 0x3DB504F3#32

/-- The score of row `r` (512 queries of each of the two heads of a group) against key `k` of the block. -/
def sc (q : Vec Ideal S1x2x512x128 .bf16) (kk : Vec Ideal S1x1x2048x128 .bf16) (r : Fin 1024) (k : Fin 2048) : EReal :=
  (∑ d : Fin 128, (show EReal from q (ix4 0 ⟨(r : ℕ) / 512, by omega⟩ ⟨(r : ℕ) % 512, by omega⟩ d)) * kk (ix4 0 0 k d)) * scale

theorem pay9_at (q : Vec Ideal S1x2x512x128 .bf16) (kk : Vec Ideal S1x1x2048x128 .bf16) (r : Fin 1024) (k : Fin 2048) :
    k0_pay9 (F := Ideal) q kk (ix2 r k) = sc q kk r k := by
  pointwise [k0_pay9, sc, scale]

theorem ninf : Ideal.ofBits .f32 0xFF800000#32 = (⊥ : EReal) := by simp [Ideal.ofBits, Ideal.ieee]

/-- A row's maximum, at any sizes: the fold of `max` along the row. -/
theorem rowMax {a b : ℕ} (x : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ x acc h hφ hacc (ix1 r) = Finset.univ.fold max (Ideal.ofBits .f32 acc) fun k => x (ix2 r k) :=
  (multiReduction_maximumf_eq_fold x acc h hφ hacc (ix1 r)).trans (h.fold_fiber_r2_a1 (ix1 r) _ _ _)

theorem max_at (x : FVec Ideal S1024 .f32) (m : Vec Ideal S1024x1 .f32) (r : Fin 1024) :
    maximumf (F := Ideal) m (shapeCast S1024x1 x shapeCasts_S1024_S1024x1) (ix2 r 0) = max (show EReal from m (ix2 r 0)) (x (ix1 r)) := by
  pointwise

/-- The new shift: the larger of the old one and the block's largest score. -/
theorem pay10_at (q : Vec Ideal S1x2x512x128 .bf16) (kk : Vec Ideal S1x1x2048x128 .bf16) (m : Vec Ideal S1024x1 .f32) (r : Fin 1024) :
    k0_pay10 (F := Ideal) q kk m (ix2 r 0) = max (show EReal from m (ix2 r 0)) (Finset.univ.fold max ⊥ fun k => sc q kk r k) := by
  simp only [← pay9_at, ← ninf]
  unfold k0_pay10
  exact (max_at _ _ r).trans (congrArg _ (rowMax _ _ _ _ _ r))

theorem pay11_at (q : Vec Ideal S1x2x512x128 .bf16) (kk : Vec Ideal S1x1x2048x128 .bf16) (m : Vec Ideal S1024x1 .f32) (r : Fin 1024) :
    k0_pay11 (F := Ideal) q kk m (ix2 r 0) = Ideal.exp ((show EReal from m (ix2 r 0)) - k0_pay10 (F := Ideal) q kk m (ix2 r 0)) := by
  pointwise [k0_pay11]

theorem pay12_at (q : Vec Ideal S1x2x512x128 .bf16) (kk : Vec Ideal S1x1x2048x128 .bf16) (m : Vec Ideal S1024x1 .f32) (r : Fin 1024) (k : Fin 2048) :
    k0_pay12 (F := Ideal) q kk m (ix2 r k) = Ideal.exp (sc q kk r k - k0_pay10 (F := Ideal) q kk m (ix2 r 0)) := by
  simp only [← pay9_at]
  pointwise [k0_pay12]

/-- The new sum: the old one rescaled, plus the block's exponentials. -/
theorem pay13_at (q : Vec Ideal S1x2x512x128 .bf16) (kk : Vec Ideal S1x1x2048x128 .bf16) (m l : Vec Ideal S1024x1 .f32) (r : Fin 1024) :
    k0_pay13 (F := Ideal) q kk m l (ix2 r 0)
      = Ideal.exp ((show EReal from m (ix2 r 0)) - k0_pay10 (F := Ideal) q kk m (ix2 r 0)) * (show EReal from l (ix2 r 0))
        + ∑ k : Fin 2048, Ideal.exp (sc q kk r k - k0_pay10 (F := Ideal) q kk m (ix2 r 0)) := by
  simp only [← pay11_at, ← pay12_at]
  pointwise [k0_pay13]

/-- The new weighted sum: the old one rescaled, plus the block's values weighted by their exponentials. -/
theorem pay1_at (q : Vec Ideal S1x2x512x128 .bf16) (kk vv : Vec Ideal S1x1x2048x128 .bf16) (m : Vec Ideal S1024x1 .f32) (a : Vec Ideal S1024x128 .f32)
    (r : Fin 1024) (d : Fin 128) :
    k0_pay1 (F := Ideal) (k0_pay14 q kk m a) (k0_pay15 q kk m) vv (ix2 r d)
      = Ideal.exp ((show EReal from m (ix2 r 0)) - k0_pay10 (F := Ideal) q kk m (ix2 r 0)) * (show EReal from a (ix2 r d))
        + ∑ k : Fin 2048, Ideal.exp (sc q kk r k - k0_pay10 (F := Ideal) q kk m (ix2 r 0)) * (show EReal from vv (ix4 0 0 k d)) := by
  simp only [← pay11_at, ← pay12_at]
  pointwise [k0_pay1, k0_pay14, k0_pay15]

theorem pay2_eq (m : FVec Ideal S1024x1 .f32) : k0_pay2 (F := Ideal) m = m := by
  funext j
  pointwise [k0_pay2]

theorem pay6_at (r : Fin 1024) : k0_pay6 (F := Ideal) (ix2 r 0) = Ideal.ofBits .f32 0xF149F2CA#32 := by
  pointwise [k0_pay6]

theorem pay7_at (r : Fin 1024) : k0_pay7 (F := Ideal) (ix2 r 0) = (0 : EReal) := by
  pointwise [k0_pay7]

theorem pay8_at (r : Fin 1024) (d : Fin 128) : k0_pay8 (F := Ideal) (ix2 r d) = (0 : EReal) := by
  pointwise [k0_pay8]

/-- The first head's queries: rows 0 to 511 of the quotient. -/
theorem pay4_at (a : Vec Ideal S1024x128 .f32) (l : Vec Ideal S1024x1 .f32) (r : Fin 512) (d : Fin 128) :
    k0_pay4 (F := Ideal) a l (ix3 0 r d)
      = Ideal.div (a (ix2 ⟨(r : ℕ), by omega⟩ d)) (l (ix2 ⟨(r : ℕ), by omega⟩ 0)) := by
  pointwise [k0_pay4, k0_pay3]

/-- The second head's queries: rows 512 to 1023 of the quotient. -/
theorem pay5_at (a : Vec Ideal S1024x128 .f32) (l : Vec Ideal S1024x1 .f32) (r : Fin 512) (d : Fin 128) :
    k0_pay5 (F := Ideal) a l (ix3 0 r d)
      = Ideal.div (a (ix2 ⟨512 + (r : ℕ), by omega⟩ d)) (l (ix2 ⟨512 + (r : ℕ), by omega⟩ 0)) := by
  pointwise [k0_pay5, k0_pay3]

end Cert.KernelIdeal.Att

end
-- ==== Proof.LocalMath.lean ====
module

public import proofs.«01_k».proof.Proof.Pay
public import Idealize.ShloMosaic.Lib.Affine

@[expose] public section

noncomputable section

/-! # Windowed softmax over a strip of lanes

A query at position `s` looks at the positions `t` with `|s - t| ≤ 128`. The program holds the keys in a strip of lanes; lane `c` of a
strip with base `b` stands for position `b + c - 128`. This file says that sums and maxima over the lanes are those over the positions. -/

namespace Cert.LocalMath

open Idealize.ShloMosaic

/-- What lane `c` holds: the value at its position where that exists and lies in the window, else `z`. -/
def lane (z : EReal) (f : Fin 8192 → EReal) (s b c : ℕ) : EReal :=
  if 128 ≤ b + c ∧ b + c < 8320 ∧ s ≤ b + c ∧ b + c ≤ s + 256 then f ⟨min (b + c - 128) 8191, by omega⟩ else z

/-- The value at a position of the window, else `z`. -/
def win (z : EReal) (f : Fin 8192 → EReal) (s : ℕ) (t : Fin 8192) : EReal :=
  if s ≤ t.val + 128 ∧ t.val ≤ s + 128 then f t else z

theorem lane_bij {L s b : ℕ} (h1 : b ≤ s) (h2 : s + 257 ≤ b + L) (hs : s < 8192) (t : Fin 8192) (ht : s ≤ t.val + 128 ∧ t.val ≤ s + 128) :
    ∃ c : Fin L, ∀ z f, lane z f s b c = f t := by
  refine ⟨⟨t.val + 128 - b, by omega⟩, fun z f => ?_⟩
  unfold lane
  have := t.isLt
  rw [if_pos (by dsimp only; omega)]
  exact congrArg f (Fin.ext (by show min (b + (t.val + 128 - b) - 128) 8191 = t.val; omega))

/-- A sum over lanes that are zero outside the window is the sum over the positions. -/
theorem sum_lane {L s b : ℕ} (h1 : b ≤ s) (h2 : s + 257 ≤ b + L) (hs : s < 8192) (f : Fin 8192 → EReal) :
    ∑ c : Fin L, lane 0 f s b c = ∑ t : Fin 8192, win 0 f s t := by
  unfold lane win
  rw [← Finset.sum_filter, ← Finset.sum_filter]
  refine Finset.sum_nbij' (fun c => ⟨min (b + c.val - 128) 8191, by omega⟩) (fun t => ⟨min (t.val + 128 - b) (L - 1), by omega⟩) ?_ ?_ ?_ ?_ ?_
  · intro c hc
    have hc' := (Finset.mem_filter.mp hc).2
    exact Finset.mem_filter.mpr ⟨Finset.mem_univ _, by dsimp only; omega⟩
  · intro t ht
    have ht' := (Finset.mem_filter.mp ht).2
    have := t.isLt
    exact Finset.mem_filter.mpr ⟨Finset.mem_univ _, by dsimp only; omega⟩
  · intro c hc
    have hc' := (Finset.mem_filter.mp hc).2
    have := c.isLt
    exact Fin.ext (by dsimp only; omega)
  · intro t ht
    have ht' := (Finset.mem_filter.mp ht).2
    have := t.isLt
    exact Fin.ext (by dsimp only; omega)
  · intro c hc
    rfl

/-- The largest of the lanes is the largest over the window's positions. -/
theorem sup_lane {L s b : ℕ} (h1 : b ≤ s) (h2 : s + 257 ≤ b + L) (hs : s < 8192) (f : Fin 8192 → EReal) :
    (Finset.univ.fold max ⊥ fun c : Fin L => lane ⊥ f s b c) = Finset.univ.fold max ⊥ fun t : Fin 8192 => win ⊥ f s t := by
  refine le_antisymm (Finset.fold_max_le _ |>.mpr ⟨bot_le, fun c _ => ?_⟩) (Finset.fold_max_le _ |>.mpr ⟨bot_le, fun t _ => ?_⟩)
  · unfold lane
    split_ifs with h
    · refine Finset.le_fold_max _ |>.mpr (Or.inr ⟨⟨min (b + c.val - 128) 8191, by omega⟩, Finset.mem_univ _, ?_⟩)
      unfold win
      rw [if_pos (by dsimp only; omega)]
    · exact bot_le
  · unfold win
    split_ifs with h
    · obtain ⟨c, hc⟩ := lane_bij h1 h2 hs t h
      exact Finset.le_fold_max _ |>.mpr (Or.inr ⟨c, Finset.mem_univ _, (hc ⊥ f).ge⟩)
    · exact bot_le

/-- The largest score of the window and the sink. -/
def mx (f : Fin 8192 → EReal) (s : ℕ) (σ : EReal) : EReal := max (Finset.univ.fold max ⊥ fun t : Fin 8192 => win ⊥ f s t) σ

/-- The softmax's denominator: the window's exponentials and the sink's. -/
def den (f : Fin 8192 → EReal) (s : ℕ) (σ : EReal) : EReal :=
  (∑ t : Fin 8192, win 0 (fun t => Ideal.exp (f t - mx f s σ)) s t) + Ideal.exp (σ - mx f s σ)

/-- The window's softmax with a sink, applied to the values `v`. -/
def loc (f v : Fin 8192 → EReal) (s : ℕ) (σ : EReal) : EReal :=
  ∑ t : Fin 8192, win 0 (fun t => Ideal.div (Ideal.exp (f t - mx f s σ)) (den f s σ) * v t) s t

theorem mx_real {f : Fin 8192 → EReal} {s : ℕ} {σ : EReal} (hf : ∀ t, ∃ r : ℝ, f t = r) (hσ : ∃ r : ℝ, σ = r) :
    ∃ r : ℝ, mx f s σ = r := by
  have hb : mx f s σ ≠ ⊥ := by
    obtain ⟨r, rfl⟩ := hσ
    exact (lt_of_lt_of_le (EReal.bot_lt_coe r) (le_max_right _ _)).ne'
  have ht : mx f s σ ≠ ⊤ := by
    refine (max_lt (Finset.fold_max_lt _ |>.mpr ⟨bot_lt_top, fun t _ => ?_⟩) ?_).ne
    · unfold win
      split_ifs
      · obtain ⟨r, hr⟩ := hf t
        rw [hr]; exact EReal.coe_lt_top r
      · exact bot_lt_top
    · obtain ⟨r, rfl⟩ := hσ
      exact EReal.coe_lt_top r
  exact ⟨(mx f s σ).toReal, (EReal.coe_toReal ht hb).symm⟩

theorem exp_sub_real {x y : EReal} (hx : ∃ r : ℝ, x = r) (hy : ∃ r : ℝ, y = r) : ∃ r : ℝ, 0 < r ∧ Ideal.exp (x - y) = r := by
  obtain ⟨a, rfl⟩ := hx
  obtain ⟨b, rfl⟩ := hy
  refine ⟨Real.exp (a - b), Real.exp_pos _, ?_⟩
  rw [← EReal.coe_sub]
  rfl

theorem den_ne_zero {f : Fin 8192 → EReal} {s : ℕ} {σ : EReal} (hf : ∀ t, ∃ r : ℝ, f t = r) (hσ : ∃ r : ℝ, σ = r) :
    den f s σ ≠ 0 := by
  have hm := mx_real (s := s) hf hσ
  obtain ⟨r, hr, he⟩ := exp_sub_real hσ hm
  have h0 : 0 ≤ ∑ t : Fin 8192, win 0 (fun t => Ideal.exp (f t - mx f s σ)) s t := by
    refine Finset.sum_nonneg fun t _ => ?_
    unfold win
    split_ifs
    · obtain ⟨r, hr, he⟩ := exp_sub_real (hf t) hm
      exact (EReal.coe_nonneg.mpr hr.le).trans he.ge
    · exact le_rfl
  have : 0 < den f s σ := by
    unfold den
    refine lt_of_lt_of_le ?_ (le_add_of_nonneg_left h0)
    rw [he]; exact EReal.coe_pos.mpr hr
  exact this.ne'

/-- The exponential of a lane's score less the maximum: zero outside the window. -/
theorem exp_lane {f : Fin 8192 → EReal} {s b c : ℕ} {M : EReal} (hM : ∃ r : ℝ, M = r) :
    Ideal.exp (lane ⊥ f s b c - M) = lane 0 (fun t => Ideal.exp (f t - M)) s b c := by
  unfold lane
  split_ifs
  · rfl
  · obtain ⟨r, rfl⟩ := hM
    show Ideal.exp (⊥ - (r : EReal)) = 0
    rw [EReal.bot_sub]
    rfl

/-- The lanes' largest score and the sink's is the window's. -/
theorem mx_lanes {L s b : ℕ} (h1 : b ≤ s) (h2 : s + 257 ≤ b + L) (hs : s < 8192) {f : Fin 8192 → EReal} {σ : EReal} {sc : Fin L → EReal}
    (hsc : ∀ c, sc c = lane ⊥ f s b c) : max (Finset.univ.fold max ⊥ sc) σ = mx f s σ := by
  rw [funext hsc]
  exact congrArg (max · σ) (sup_lane h1 h2 hs f)

/-- The lanes' denominator is the window's. -/
theorem den_lanes {L s b : ℕ} (h1 : b ≤ s) (h2 : s + 257 ≤ b + L) (hs : s < 8192) {f : Fin 8192 → EReal} {σ : EReal}
    (hf : ∀ t, ∃ r : ℝ, f t = r) (hσ : ∃ r : ℝ, σ = r) {sc : Fin L → EReal} (hsc : ∀ c, sc c = lane ⊥ f s b c) :
    (∑ c : Fin L, Ideal.exp (sc c - mx f s σ)) + Ideal.exp (σ - mx f s σ) = den f s σ := by
  unfold den
  rw [← sum_lane h1 h2 hs]
  refine congrArg (· + _) (Finset.sum_congr rfl fun c _ => ?_)
  rw [hsc]
  exact exp_lane (mx_real hf hσ)

/-- The weighted sum over the lanes is the window's: a lane outside it has weight zero, whatever its value. -/
theorem loc_lanes {L s b : ℕ} (h1 : b ≤ s) (h2 : s + 257 ≤ b + L) (hs : s < 8192) {f v : Fin 8192 → EReal} {σ : EReal}
    (hf : ∀ t, ∃ r : ℝ, f t = r) (hσ : ∃ r : ℝ, σ = r) {sc w : Fin L → EReal} (hsc : ∀ c, sc c = lane ⊥ f s b c)
    (hw : ∀ (c : Fin L) (t : Fin 8192), t.val + 128 = b + c → w c = v t) :
    ∑ c : Fin L, Ideal.div (Ideal.exp (sc c - mx f s σ)) (den f s σ) * w c = loc f v s σ := by
  unfold loc
  rw [← sum_lane h1 h2 hs]
  refine Finset.sum_congr rfl fun c _ => ?_
  rw [hsc, exp_lane (mx_real hf hσ)]
  unfold lane
  split_ifs with h
  · rw [hw c ⟨min (b + c.val - 128) 8191, by omega⟩ (by dsimp only; omega)]
  · rw [Ideal.zero_div (den_ne_zero hf hσ), zero_mul]

theorem and3 (A B C : Prop) [Decidable A] [Decidable B] [Decidable C] :
    IntOp.andi (IntOp.andi (BitVec.ofBool (decide A)) (BitVec.ofBool (decide B))) (BitVec.ofBool (decide C))
      = if A ∧ B ∧ C then 1#1 else 0#1 := by
  by_cases a : A <;> by_cases b : B <;> by_cases c : C <;> simp [a, b, c] <;> rfl

/-- The two programs' mask, for a query position and a key position held as words: the key is in the window and exists. -/
theorem mask {Q K : BitVec 32} {s kp : ℤ} (hQ : Q.toInt = s) (hK : K.toInt = kp) (hs : 0 ≤ s ∧ s < 8192) (hk : -128 ≤ kp ∧ kp < 9000) :
    IntOp.andi (IntOp.andi (IntOp.cmpi .sle (IntOp.absi (IntOp.subi Q K)) 128#32) (IntOp.cmpi .sge K 0#32)) (IntOp.cmpi .slt K 8192#32)
      = if 0 ≤ kp ∧ kp < 8192 ∧ s ≤ kp + 128 ∧ kp ≤ s + 128 then 1#1 else 0#1 := by
  have hD : (IntOp.subi Q K).toInt = s - kp := by
    show (Q - K).toInt = _
    rw [BitVec.toInt_sub, hQ, hK, Int.bmod_eq_of_le] <;> omega
  have hA : (IntOp.absi (IntOp.subi Q K)).toInt = max (s - kp) (kp - s) := by
    generalize IntOp.subi Q K = D at hD
    unfold IntOp.absi
    have hm := BitVec.msb_eq_toInt (x := D)
    rw [hD] at hm
    by_cases hn : s - kp < 0
    · rw [if_pos (by rw [hm]; exact decide_eq_true hn), BitVec.toInt_neg, hD, Int.bmod_eq_of_le] <;> omega
    · rw [if_neg (by rw [hm]; simpa using hn), hD]; omega
  have c1 : IntOp.cmpi .sle (IntOp.absi (IntOp.subi Q K)) 128#32 = BitVec.ofBool (decide (s - kp ≤ 128 ∧ kp - s ≤ 128)) :=
    Eq.trans (b := BitVec.ofBool (decide (max (s - kp) (kp - s) ≤ 128))) (by rw [← hA]; rfl)
      (congrArg BitVec.ofBool (decide_eq_decide.mpr max_le_iff))
  have c2 : IntOp.cmpi .sge K 0#32 = BitVec.ofBool (decide (0 ≤ kp)) := by
    rw [← hK]; rfl
  have c3 : IntOp.cmpi .slt K 8192#32 = BitVec.ofBool (decide (kp < 8192)) := by
    rw [← hK]; rfl
  rw [c1, c2, c3]
  exact (and3 _ _ _).trans (if_congr (by omega) rfl rfl)

end Cert.LocalMath
-- ==== Proof.LocalPay.lean ====
module

public import proofs.«01_k».proof.Proof.Gen.LocalIdeal.Value
public import proofs.«01_k».proof.Proof.LocalMath
public import Idealize.ShloMosaic.Lib.Pipeline.ValueKit

@[expose] public section

set_option maxRecDepth 16384

noncomputable section

/-! # The local attention kernel's payloads, read at an index -/

namespace Cert.LocalIdeal.Val

open Idealize.ShloMosaic Idealize.ShloMosaic.TcCoe Idealize.SL.Sem
open Cert.LocalIdeal Cert.LocalIdeal.Gen

/-- Lane `c` of three blocks of keys or values laid one after the other. -/
def cat (a : Vec Ideal S1x1x128x128 .bf16) (b : Vec Ideal S1x1x256x128 .bf16) (e : Vec Ideal S1x1x128x128 .bf16) (c : Fin 512) (d : Fin 128) : EReal :=
  if h : c.val < 128 then a (ix4 0 0 ⟨c.val, h⟩ d)
  else if h' : c.val - 128 < 256 then b (ix4 0 0 ⟨c.val - 128, by omega⟩ d) else e (ix4 0 0 ⟨c.val - 128 - 256, by omega⟩ d)

theorem pay2_at (a : Vec Ideal S1x1x128x128 .bf16) (b : Vec Ideal S1x1x256x128 .bf16) (e : Vec Ideal S1x1x128x128 .bf16) (c : Fin 512) (d : Fin 128) :
    k0_pay2 (F := Ideal) a b e (ix2 c d) = cat a b e c d := by
  unfold cat
  pointwise [k0_pay2]

/-- The scores: queries against the three blocks of keys, times the scale. -/
theorem pay3_at (q : Vec Ideal S1x2x256x128 .bf16) (a : Vec Ideal S1x1x128x128 .bf16) (b : Vec Ideal S1x1x256x128 .bf16) (e : Vec Ideal S1x1x128x128 .bf16)
    (r c : Fin 512) :
    k0_pay3 (F := Ideal) q a b e (ix2 r c)
      = (∑ d : Fin 128, (show EReal from q (ix4 0 ⟨r.val / 256, by omega⟩ ⟨r.val % 256, by omega⟩ d)) * cat a b e c d) * Ideal.ofBits .f32 0x3DB504F3#32 := by
  unfold cat
  pointwise [k0_pay3]

/-- The kernel's masked scores: those of the window, and minus infinity elsewhere. -/
def msc (g : BitVec 32) (S : FVec Ideal S512x512 .f32) : FVec Ideal S512x512 .f32 :=
  let row : IVec S512x512 32 := iota .tc S512x512 32 [0] iota_S512x512_d0_w32
  let Q : IVec S512x512 32 := addi (broadcast S512x512 (Scalar.muli g 256#32)) (select k0_pay4 (subi row (broadcast S512x512 256#32)) row)
  let K : IVec S512x512 32 := addi (broadcast S512x512 (Scalar.subi (Scalar.muli g 256#32) 128#32)) (iota .tc S512x512 32 [1] iota_S512x512_d1_w32)
  select (andi (andi (cmpi .sle (absi (subi Q K)) (broadcast S512x512 128#32)) (cmpi .sge K (broadcast S512x512 0#32))) (cmpi .slt K (broadcast S512x512 8192#32)))
    S (broadcast S512x512 (Named.named (F := Ideal) κ "neg" 0xF149F2CA#32))

/-- A row's largest score, the sink's included. -/
def rmx (z : FVec Ideal S512x512 .f32) (snk : Vec Ideal S1x512x1 .f32) : FVec Ideal S512x1 .f32 :=
  maximumf (shapeCast S512x1 (multiReduction .maximumf [1] S512 z 0xFF800000#32 reduces_S512x512_S512 (.inl rfl) rfl) shapeCasts_S512_S512x1)
    (shapeCast S512x1 snk shapeCasts_S1x512x1_S512x1)

/-- The weights applied to the values. -/
def wsum (V : FVec Ideal S512x128 .bf16) (z : FVec Ideal S512x512 .f32) (snk : Vec Ideal S1x512x1 .f32) (M : FVec Ideal S512x1 .f32) : FVec Ideal S512x128 .f32 :=
  let s : FVec Ideal S512x1 .f32 := shapeCast S512x1 snk shapeCasts_S1x512x1_S512x1
  let p : FVec Ideal S512x512 .f32 := exp (subf z (broadcastTo S512x512 M broadcasts_S512x1_S512x512))
  let l : FVec Ideal S512x1 .f32 := addf (shapeCast S512x1 (multiReduction .add [1] S512 p 0x00000000#32 reduces_S512x512_S512 (.inl rfl) rfl) shapeCasts_S512_S512x1) (exp (subf s M))
  matmul dot_S512x512_S512x128_S512x128_1_0_0_1_n_n none (truncf .bf16 (divf p (broadcastTo S512x512 l broadcasts_S512x1_S512x512)) bitsLt_bf16_f32) V (constant S512x128 .f32 0x00000000#32)

/-- The output before it is cut into two heads: the three steps one after the other. -/
theorem pay5_eq (g : BitVec 32) (V : FVec Ideal S512x128 .bf16) (S : FVec Ideal S512x512 .f32) (snk : Vec Ideal S1x512x1 .f32) :
    k0_pay5 (F := Ideal) g V S (iota .tc S512x512 32 [0] iota_S512x512_d0_w32) (iota .tc S512x512 32 [1] iota_S512x512_d1_w32) (Scalar.muli g 256#32) k0_pay4 snk
      = wsum V (msc g S) snk (rmx (msc g S) snk) := rfl

theorem smax_at (x : FVec Ideal S512 .f32) (s : Vec Ideal S1x512x1 .f32) (r : Fin 512) :
    maximumf (F := Ideal) (shapeCast S512x1 x shapeCasts_S512_S512x1) (shapeCast S512x1 s shapeCasts_S1x512x1_S512x1) (ix2 r 0)
      = max (x (ix1 r)) (show EReal from s (ix3 0 r 0)) := by
  pointwise

theorem rmx_at (z : FVec Ideal S512x512 .f32) (snk : Vec Ideal S1x512x1 .f32) (r : Fin 512) :
    rmx z snk (ix2 r 0) = max (Finset.univ.fold max ⊥ fun c => z (ix2 r c)) (show EReal from snk (ix3 0 r 0)) := by
  rw [← Cert.KernelIdeal.Att.ninf]
  unfold rmx
  exact (smax_at _ _ r).trans (congrArg (max · _) (Cert.KernelIdeal.Att.rowMax _ _ _ _ _ r))

theorem wsum_at (V : FVec Ideal S512x128 .bf16) (z : FVec Ideal S512x512 .f32) (snk : Vec Ideal S1x512x1 .f32) (M : FVec Ideal S512x1 .f32)
    (r : Fin 512) (d : Fin 128) :
    wsum V z snk M (ix2 r d)
      = ∑ c : Fin 512, Ideal.div (Ideal.exp (z (ix2 r c) - M (ix2 r 0)))
          ((∑ k : Fin 512, Ideal.exp (z (ix2 r k) - M (ix2 r 0))) + Ideal.exp ((show EReal from snk (ix3 0 r 0)) - M (ix2 r 0))) * V (ix2 c d) := by
  pointwise [wsum]

/-- The kernel's name for its mask constant stands for minus infinity. -/
theorem neg_bot : (Named.named (F := Ideal) κ "neg" (φ := .f32) 0xF149F2CA#32 : EReal) = ⊥ :=
  IdealRules.named_const.ideal_named_scalar _ _ _ _ rfl

/-- A lane's key position, as the kernel computes it. -/
theorem kpos_at (g c : ℕ) (hg : g < 32) (hc : c < 512) :
    (IntOp.addi (Scalar.subi (Scalar.muli (BitVec.ofNat 32 g) 256#32) 128#32) (BitVec.ofNat 32 c)).toInt = (g : ℤ) * 256 - 128 + c := by
  have h := Affine.addi (e := (g : ℤ) * 256 - 128 + c) (Affine.subi (e := (g : ℤ) * 256 - 128) (Affine.muli (e := (g : ℤ) * 256)
    (Affine.ofNat g ⟨rfl, by omega⟩) (Affine.ofNat 256 ⟨rfl, by omega⟩) ⟨rfl, by omega, by omega⟩) (Affine.ofNat 128 ⟨rfl, by omega⟩)
    ⟨by simp, by omega, by omega⟩) (Affine.ofNat c ⟨rfl, by omega⟩) ⟨rfl, by omega, by omega⟩
  unfold Affine.IsInt at h
  exact h

/-- A row's query position, as the kernel computes it: the two heads' rows lie one after the other. -/
theorem qpos_at (g r : ℕ) (hg : g < 32) (hr : r < 512) :
    (IntOp.addi (Scalar.muli (BitVec.ofNat 32 g) 256#32) (Scalar.select (IntOp.cmpi CmpIPredicate.sge (BitVec.ofNat 32 r) 256#32)
      (IntOp.subi (BitVec.ofNat 32 r) 256#32) (BitVec.ofNat 32 r))).toInt = (g : ℤ) * 256 + (r % 256 : ℕ) := by
  have hr' : Affine.IsInt (BitVec.ofNat 32 r) (r : ℤ) := Affine.ofNat r ⟨rfl, by omega⟩
  have h256 : Affine.IsInt 256#32 256 := Affine.ofNat 256 ⟨rfl, by omega⟩
  have hs : Affine.IsInt (IntOp.subi (BitVec.ofNat 32 r) 256#32) ((r : ℤ) - 256) := Affine.subi hr' h256 ⟨rfl, by omega, by omega⟩
  have hsel : Affine.IsInt (Scalar.select (IntOp.cmpi CmpIPredicate.sge (BitVec.ofNat 32 r) 256#32)
      (IntOp.subi (BitVec.ofNat 32 r) 256#32) (BitVec.ofNat 32 r)) ((r % 256 : ℕ) : ℤ) := by
    by_cases h : 256 ≤ r
    · exact Affine.select_holds (Affine.sge_holds hr' h256 (by omega)) hs hr' (by omega)
    · exact Affine.select_fails (Affine.sge_fails hr' h256 (by omega)) hs hr' (by omega)
  have h := Affine.addi (e := (g : ℤ) * 256 + (r % 256 : ℕ)) (Affine.muli (e := (g : ℤ) * 256)
    (Affine.ofNat g ⟨rfl, by omega⟩) h256 ⟨rfl, by omega, by omega⟩) hsel ⟨rfl, by omega, by omega⟩
  unfold Affine.IsInt at h
  exact h

theorem select_ite {α : Type} (A : Prop) [Decidable A] (x y : α) : Scalar.select (if A then 1#1 else 0#1) x y = if A then x else y := by
  by_cases h : A <;> simp [h, Scalar.select]

/-- The masked scores at an index. -/
theorem msc_at (g : ℕ) (hg : g < 32) (S : FVec Ideal S512x512 .f32) (r c : Fin 512) :
    msc (BitVec.ofNat 32 g) S (ix2 r c)
      = if 128 ≤ g * 256 + c ∧ g * 256 + c < 8320 ∧ g * 256 + r.val % 256 ≤ g * 256 + c ∧ g * 256 + c ≤ g * 256 + r.val % 256 + 256
        then S (ix2 r c) else ⊥ := by
  have hm := Cert.LocalMath.mask (qpos_at g r hg r.isLt) (kpos_at g c hg c.isLt) (by omega) (by omega)
  have hx : msc (BitVec.ofNat 32 g) S (ix2 r c) = Scalar.select (if 0 ≤ (g : ℤ) * 256 - 128 + c.val ∧ (g : ℤ) * 256 - 128 + c.val < 8192
      ∧ (g : ℤ) * 256 + (r.val % 256 : ℕ) ≤ (g : ℤ) * 256 - 128 + c.val + 128 ∧ (g : ℤ) * 256 - 128 + c.val ≤ (g : ℤ) * 256 + (r.val % 256 : ℕ) + 128
      then 1#1 else 0#1) (S (ix2 r c)) (⊥ : EReal) := by
    rw [← hm, ← neg_bot]
    pointwise [msc, k0_pay4]
  rw [hx, select_ite]
  exact if_congr (by omega) rfl rfl

end Cert.LocalIdeal.Val
-- ==== Proof.LocalBlk.lean ====
module

public import proofs.«01_k».proof.Proof.LocalPay
public import Idealize.ShloMosaic.Lib.StableHlo.RunRead

@[expose] public section

set_option maxRecDepth 16384

noncomputable section

/-! # The local attention kernel's array -/

namespace Cert.LocalIdeal.Val

open Idealize.ShloMosaic Idealize.ShloMosaic.TcCoe Idealize.SL.Sem
open Cert.LocalIdeal Cert.LocalIdeal.Gen Cert.LocalMath

/-- The score of a query against a key, for a batch, a key head and one of its two query heads. -/
def score (Q : Vec Ideal S4x4x8192x128 .bf16) (K : Vec Ideal S4x2x8192x128 .bf16) (b : Fin 4) (h g : Fin 2) (s t : Fin 8192) : EReal :=
  (∑ d : Fin 128, (show EReal from Q (ix4 b ⟨2 * h.val + g.val, by omega⟩ s d)) * (show EReal from K (ix4 b h t d))) * Ideal.ofBits .f32 0x3DB504F3#32

/-- Windowed attention with sinks. -/
def attn (Q : Vec Ideal S4x4x8192x128 .bf16) (K V : Vec Ideal S4x2x8192x128 .bf16) (σ : Vec Ideal S4 .f32) (b : Fin 4) (h g : Fin 2) (s : Fin 8192) (d : Fin 128) : EReal :=
  loc (score Q K b h g s) (fun t => (show EReal from V (ix4 b h t d))) s.val (show EReal from σ (ix1 ⟨2 * h.val + g.val, by omega⟩))

/-- The windows' block indices at a point: the kernel goes over 4 batches, 2 key heads and 32 blocks of 256 positions. -/
theorem idx : ∀ t : Fin cfg0.N, win0_0.index t = ![t.val / 64, t.val / 32 % 2, t.val % 32, 0]
    ∧ win0_1.index t = ![t.val / 64, t.val / 32 % 2, t.val % 32 * 2 - 1, 0]
    ∧ win0_2.index t = ![t.val / 64, t.val / 32 % 2, t.val % 32, 0]
    ∧ win0_3.index t = ![t.val / 64, t.val / 32 % 2, min ((t.val % 32 + 1) * 2) 63, 0]
    ∧ win0_4.index t = ![t.val / 64, t.val / 32 % 2, t.val % 32 * 2 - 1, 0]
    ∧ win0_5.index t = ![t.val / 64, t.val / 32 % 2, t.val % 32, 0]
    ∧ win0_6.index t = ![t.val / 64, t.val / 32 % 2, min ((t.val % 32 + 1) * 2) 63, 0]
    ∧ win0_7.index t = ![t.val / 32 % 2, 0, 0] ∧ win0_8.index t = ![t.val / 64, t.val % 32, t.val / 32 % 2] :=
  (by decide +kernel : ∀ t : Fin grid0.N, _)

/-- The third grid coordinate at a point. -/
theorem crd : ∀ t : Fin cfg0.N, (grid0.coords t 2 : ℕ) = t.val % 32 :=
  (by decide +kernel : ∀ t : Fin grid0.N, _)

section
variable (m : (ℓ : Loc nD τ Cert.LocalIdeal.sig) → Buf (Elt Ideal) ℓ) (c : Dev nD)

abbrev Qm : Vec Ideal S4x4x8192x128 .bf16 := m ((c : Thread nD τ).loc main_arg0)
abbrev Km : Vec Ideal S4x2x8192x128 .bf16 := m ((c : Thread nD τ).loc main_arg1)
abbrev Vm : Vec Ideal S4x2x8192x128 .bf16 := m ((c : Thread nD τ).loc main_arg2)
abbrev Sm : Vec Ideal S4 .f32 := m ((c : Thread nD τ).loc main_arg3)

abbrev bt (t : Fin cfg0.N) : Fin 4 := ⟨t.val / 64 % 4, by omega⟩
abbrev hd (t : Fin cfg0.N) : Fin 2 := ⟨t.val / 32 % 2, by omega⟩
abbrev gr (r : Fin 512) : Fin 2 := ⟨r.val / 256, by omega⟩
abbrev ps (t : Fin cfg0.N) (r : Fin 512) : Fin 8192 := ⟨t.val % 32 * 256 + r.val % 256, by omega⟩

/-- The host's rows of sinks. -/
theorem sinks : (V m c main_v3 : Vec Ideal S2x512x1 .f32)
    = broadcastInDim S2x512x1 ![0, 1] bcast_S2x512_S2x512x1_0_1 (shapeCast S2x512 (broadcastInDim S2x2x256 ![0, 1] bcast_S2x2_S2x2x256_0_1
        (shapeCast S2x2 (Sm m c) shapeCasts_S4_S2x2)) shapeCasts_S2x2x256_S2x512) := by
  unfold V
  simp only [hostOps0, List.flatten_cons, List.flatten_nil, List.cons_append, List.nil_append, List.append_nil]
  after_reads_simp
  rfl

theorem sink_row (x : Vec Ideal S4 .f32) (h : Fin 2) (r : Fin 512) :
    broadcastInDim S2x512x1 ![0, 1] bcast_S2x512_S2x512x1_0_1 (shapeCast S2x512 (broadcastInDim S2x2x256 ![0, 1] bcast_S2x2_S2x2x256_0_1
        (shapeCast S2x2 x shapeCasts_S4_S2x2)) shapeCasts_S2x2x256_S2x512) (ix3 h r 0) = (show EReal from x (ix1 ⟨2 * h.val + r.val / 256, by omega⟩)) := by
  simp only [Nat.mul_comm 2]
  pointwise

theorem sink_blk (t : Fin cfg0.N) (r : Fin 512) :
    (iblk m c 7 t : Vec Ideal S1x512x1 .f32) (ix3 0 r 0) = (show EReal from Sm m c (ix1 ⟨2 * (hd t).val + (gr r).val, by omega⟩)) := by
  have ht := lt_of_lt_of_eq t.isLt N_0
  refine Eq.trans ?_ (sink_row (Sm m c) (hd t) r)
  rw [← sinks]
  blk_ext [iblk, idx t]

theorem q_blk (t : Fin cfg0.N) (r : Fin 512) (d : Fin 128) :
    (iblk m c 0 t : Vec Ideal S1x2x256x128 .bf16) (ix4 0 ⟨r.val / 256, by omega⟩ ⟨r.val % 256, by omega⟩ d)
      = (show EReal from Qm m c (ix4 (bt t) ⟨2 * (hd t).val + (gr r).val, by omega⟩ (ps t r) d)) := by
  have ht := lt_of_lt_of_eq t.isLt N_0
  refine Eq.trans ?_ (congrFun (V_main_arg0 m c) _)
  blk_ext [iblk, idx t]

/-- The keys' lane for a position is that position's key. -/
theorem k_blk (t : Fin cfg0.N) (l : Fin 512) (p : Fin 8192) (hp : p.val + 128 = t.val % 32 * 256 + l.val) (d : Fin 128) :
    cat (iblk m c 1 t) (iblk m c 2 t) (iblk m c 3 t) l d = (show EReal from Km m c (ix4 (bt t) (hd t) p d)) := by
  have ht := lt_of_lt_of_eq t.isLt N_0
  have := p.isLt
  refine Eq.trans ?_ (congrFun (V_main_arg1 m c) _)
  unfold cat
  split_ifs with h1 h2
  · blk_ext [iblk, idx t]
  · blk_ext [iblk, idx t]
  · blk_ext [iblk, idx t]

/-- The values' lane for a position is that position's value. -/
theorem v_blk (t : Fin cfg0.N) (l : Fin 512) (p : Fin 8192) (hp : p.val + 128 = t.val % 32 * 256 + l.val) (d : Fin 128) :
    cat (iblk m c 4 t) (iblk m c 5 t) (iblk m c 6 t) l d = (show EReal from Vm m c (ix4 (bt t) (hd t) p d)) := by
  have ht := lt_of_lt_of_eq t.isLt N_0
  have := p.isLt
  refine Eq.trans ?_ (congrFun (V_main_arg2 m c) _)
  unfold cat
  split_ifs with h1 h2
  · blk_ext [iblk, idx t]
  · blk_ext [iblk, idx t]
  · blk_ext [iblk, idx t]

/-- A point's masked scores are the scores of the window, lane by lane. -/
theorem msc_blk (t : Fin cfg0.N) (r l : Fin 512) :
    msc (BitVec.ofNat 32 (t.val % 32)) (k0_pay3 (F := Ideal) (iblk m c 0 t) (iblk m c 1 t) (iblk m c 2 t) (iblk m c 3 t)) (ix2 r l)
      = lane ⊥ (score (Qm m c) (Km m c) (bt t) (hd t) (gr r) (ps t r)) (ps t r).val (t.val % 32 * 256) l.val := by
  rw [msc_at _ (by omega)]
  unfold lane
  split_ifs with h
  · rw [pay3_at]
    unfold score
    refine congrArg (· * _) (Finset.sum_congr rfl fun d _ => congrArg₂ (· * ·) (q_blk m c t r d) (k_blk m c t l _ ?_ d))
    dsimp only
    omega
  · rfl

/-- One row of a point's result: the windowed attention of the row's query. -/
theorem row (hq : ∀ b h g s t, ∃ r : ℝ, score (Qm m c) (Km m c) b h g s t = r) (hs : ∀ i, ∃ r : ℝ, (show EReal from Sm m c i) = r)
    (t : Fin cfg0.N) (r : Fin 512) (d : Fin 128) :
    k0_pay5 (F := Ideal) (BitVec.ofNat 32 (t.val % 32)) (k0_pay2 (F := Ideal) (iblk m c 4 t) (iblk m c 5 t) (iblk m c 6 t))
        (k0_pay3 (F := Ideal) (iblk m c 0 t) (iblk m c 1 t) (iblk m c 2 t) (iblk m c 3 t))
        (iota .tc S512x512 32 [0] iota_S512x512_d0_w32) (iota .tc S512x512 32 [1] iota_S512x512_d1_w32)
        (Scalar.muli (BitVec.ofNat 32 (t.val % 32)) 256#32) k0_pay4 (iblk m c 7 t) (ix2 r d)
      = attn (Qm m c) (Km m c) (Vm m c) (Sm m c) (bt t) (hd t) (gr r) (ps t r) d := by
  have h1 : t.val % 32 * 256 ≤ (ps t r).val := Nat.le_add_right _ _
  have h2 : (ps t r).val + 257 ≤ t.val % 32 * 256 + 512 := by dsimp only [ps]; omega
  have hf := hq (bt t) (hd t) (gr r) (ps t r)
  have hσ := hs (ix1 ⟨2 * (hd t).val + (gr r).val, by omega⟩)
  have hsc := msc_blk m c t r
  rw [pay5_eq, wsum_at, rmx_at, sink_blk m c t r, mx_lanes h1 h2 (ps t r).isLt hsc, den_lanes h1 h2 (ps t r).isLt hf hσ hsc]
  exact loc_lanes h1 h2 (ps t r).isLt hf hσ hsc fun l p hp => (pay2_at _ _ _ l d).trans (v_blk m c t l p hp d)

/-- The second head's half of a block: rows 256 to 511. -/
theorem pay1_at (P : FVec Ideal S512x128 .f32) (x : S1x256x128.Idx) :
    k0_pay1 (F := Ideal) P x = (show EReal from P (ix2 ⟨256 + (x 1).val, Nat.add_lt_add_left (x 1).isLt 256⟩ (x 2))) := by
  pointwise [k0_pay1]

/-- The first head's half of a block: rows 0 to 255. -/
theorem pay6_at (g : BitVec 32) (V : FVec Ideal S512x128 .bf16) (S : FVec Ideal S512x512 .f32) (i j : IVec S512x512 32) (w : BitVec 32) (k : IVec S512x512 1)
    (snk : Vec Ideal S1x512x1 .f32) (x : S1x256x128.Idx) :
    k0_pay6 (F := Ideal) g V S i j w k snk x
      = (show EReal from k0_pay5 (F := Ideal) g V S i j w k snk (ix2 ⟨(x 1).val, lt_of_lt_of_le (x 1).isLt (show 256 ≤ 512 by decide)⟩ (x 2))) := by
  unfold k0_pay6
  generalize k0_pay5 (F := Ideal) g V S i j w k snk = P
  pointwise

/-- The array of the launch. -/
def outArr (Q : Vec Ideal S4x4x8192x128 .bf16) (K V : Vec Ideal S4x2x8192x128 .bf16) (σ : Vec Ideal S4 .f32) : Vec Ideal S4x8192x512 .bf16 := fun i =>
  attn Q K V σ (i 0) ⟨(i 2 : ℕ) / 256, Nat.div_lt_of_lt_mul (i 2).isLt⟩
    ⟨(i 2 : ℕ) % 256 / 128, Nat.div_lt_of_lt_mul (Nat.mod_lt _ (by decide))⟩ (i 1) ⟨(i 2 : ℕ) % 128, Nat.mod_lt _ (by decide)⟩

theorem attn_congr (Q : Vec Ideal S4x4x8192x128 .bf16) (K V : Vec Ideal S4x2x8192x128 .bf16) (σ : Vec Ideal S4 .f32)
    {b b' : Fin 4} {h h' g g' : Fin 2} {s s' : Fin 8192} {d d' : Fin 128} (e0 : b.val = b'.val) (e1 : h.val = h'.val) (e2 : g.val = g'.val)
    (e3 : s.val = s'.val) (e4 : d.val = d'.val) : attn Q K V σ b h g s d = attn Q K V σ b' h' g' s' d' := by
  obtain rfl := Fin.ext e0
  obtain rfl := Fin.ext e1
  obtain rfl := Fin.ext e2
  obtain rfl := Fin.ext e3
  obtain rfl := Fin.ext e4
  rfl

/-- A point's rows before the cut into heads. -/
abbrev rows (t : Fin cfg0.N) : FVec Ideal S512x128 .f32 :=
  k0_pay5 (F := Ideal) (BitVec.ofNat 32 (t.val % 32)) (k0_pay2 (F := Ideal) (iblk m c 4 t) (iblk m c 5 t) (iblk m c 6 t))
        (k0_pay3 (F := Ideal) (iblk m c 0 t) (iblk m c 1 t) (iblk m c 2 t) (iblk m c 3 t))
        (iota .tc S512x512 32 [0] iota_S512x512_d0_w32) (iota .tc S512x512 32 [1] iota_S512x512_d1_w32)
        (Scalar.muli (BitVec.ofNat 32 (t.val % 32)) 256#32) k0_pay4 (iblk m c 7 t)

/-- What a point writes: the second head's half and the first's. -/
theorem out_eq (t : Fin cfg0.N) : (dats m 0 c).after 8 t = View.canon [⟨r0_5, k0_pay1 (rows m c t)⟩,
    ⟨r0_4, k0_pay6 (F := Ideal) (BitVec.ofNat 32 (t.val % 32)) (k0_pay2 (F := Ideal) (iblk m c 4 t) (iblk m c 5 t) (iblk m c 6 t))
        (k0_pay3 (F := Ideal) (iblk m c 0 t) (iblk m c 1 t) (iblk m c 2 t) (iblk m c 3 t))
        (iota .tc S512x512 32 [0] iota_S512x512_d0_w32) (iota .tc S512x512 32 [1] iota_S512x512_d1_w32)
        (Scalar.muli (BitVec.ofNat 32 (t.val % 32)) 256#32) k0_pay4 (iblk m c 7 t)⟩] := by
  rw [after0_8]
  unfold_out out0_8
  rw [crd t]
  frame_out

/-- After the run the output array is the windowed attention of the launch's arguments. -/
theorem final (hq : ∀ b h g s t, ∃ r : ℝ, score (Qm m c) (Km m c) b h g s t = r) (hs : ∀ i, ∃ r : ℝ, (show EReal from Sm m c i) = r) :
    (dats m 0 c).arrAt 8 cfg0.N = outArr (Qm m c) (Km m c) (Vm m c) (Sm m c) := by
  refine (dats m 0 c).arrAt_eq_of_covers 8 _ (by decide +kernel) fun t hf y => ?_
  blk_simp
  rw [out_eq]
  have ht := lt_of_lt_of_eq t.isLt N_0
  have e0 : ((win0_8.blk t).view.emb y 0 : ℕ) = t.val / 64 := by blk_simp [idx t]
  have e1 : ((win0_8.blk t).view.emb y 1 : ℕ) = t.val % 32 * 256 + y 1 := by blk_simp [idx t]
  have e2 : ((win0_8.blk t).view.emb y 2 : ℕ) = t.val / 32 % 2 * 256 + y 2 := by blk_simp [idx t]
  have y1 : (y 1 : ℕ) < 256 := (y 1).isLt
  have y2 : (y 2 : ℕ) < 256 := (y 2).isLt
  refine View.canon_eq_of_allAt _ y _ (cover0_8 _ _ y) (View.allAt_cons_unit _ _ _ _ _ ?_ (View.allAt_cons_unit _ _ _ _ _ ?_ (View.allAt_nil _ _)))
  · intro x hx
    have x1 : (y 1 : ℕ) = 0 + x 1 := hx 1
    have x2 : (y 2 : ℕ) = 128 + x 2 := hx 2
    refine (pay1_at _ x).trans ((row m c hq hs t _ _).trans ?_)
    unfold outArr
    refine attn_congr _ _ _ _ ?_ ?_ ?_ ?_ ?_
    · rw [e0]; show t.val / 64 % 4 = _; omega
    · show t.val / 32 % 2 = ((win0_8.blk t).view.emb y 2 : ℕ) / 256; rw [e2]; omega
    · show (256 + (x 1 : ℕ)) / 256 = ((win0_8.blk t).view.emb y 2 : ℕ) % 256 / 128; rw [e2]; omega
    · rw [e1]; show t.val % 32 * 256 + (256 + (x 1 : ℕ)) % 256 = _; omega
    · show (x 2 : ℕ) = ((win0_8.blk t).view.emb y 2 : ℕ) % 128; rw [e2]; omega
  · intro x hx
    have x1 : (y 1 : ℕ) = 0 + x 1 := hx 1
    have x2 : (y 2 : ℕ) = 0 + x 2 := hx 2
    have x3 : (x 2 : ℕ) < 128 := (x 2).isLt
    refine (pay6_at _ _ _ _ _ _ _ _ x).trans ((row m c hq hs t _ _).trans ?_)
    unfold outArr
    refine attn_congr _ _ _ _ ?_ ?_ ?_ ?_ ?_
    · rw [e0]; show t.val / 64 % 4 = _; omega
    · show t.val / 32 % 2 = ((win0_8.blk t).view.emb y 2 : ℕ) / 256; rw [e2]; omega
    · show (x 1 : ℕ) / 256 = ((win0_8.blk t).view.emb y 2 : ℕ) % 256 / 128; rw [e2]; omega
    · rw [e1]; show t.val % 32 * 256 + (x 1 : ℕ) % 256 = _; omega
    · show (x 2 : ℕ) = ((win0_8.blk t).view.emb y 2 : ℕ) % 128; rw [e2]; omega

end

end Cert.LocalIdeal.Val
-- ==== Proof.LocalRef.lean ====
module

public import proofs.«01_k».proof.Proof.Gen.LocalRefIdeal.Read
public import proofs.«01_k».proof.Proof.LocalMath
public import Idealize.ShloMosaic.Lib.Pipeline.ValueKit
public import Idealize.ShloMosaic.Lib.ValueIdxRank6
public import Idealize.ShloMosaic.Lib.KernelVsHost

@[expose] public section

set_option maxRecDepth 16384

noncomputable section

/-! # The local attention reference, read at an index: bands of keys and values, scores, mask -/

namespace Cert.LocalRefIdeal.At

open Idealize.ShloMosaic Idealize.ShloMosaic.TcCoe Idealize.SL.Sem
open Cert.LocalRefIdeal Cert.LocalRefIdeal.Gen Cert.LocalRefIdeal.Read Cert.LocalMath

/-- The padded keys at a position of the sequence. -/
theorem v7_at (x : Vec Ideal S4x2x8192x128 .bf16) (b : Fin 4) (p : Fin 8448) (p' : Fin 8192) (hp : p.val = p'.val + 128) (h : Fin 2) (d : Fin 128) :
    val_main_v7 (F := Ideal) x (ix4 b p h d) = (show EReal from x (ix4 b h p' d)) := by
  unfold val_main_v7
  refine (pad_apply_of_inside _ _ _ _ _ _ _ _ (ix4 b p' h d) fun a => ?_).trans ((val_main_v3_apply x _).trans (congrArg _ ?_))
  · match a with
    | ⟨0, _⟩ => show b.val = 0 + b.val * (0 + 1); omega
    | ⟨1, _⟩ => show p.val = 128 + p'.val * (0 + 1); omega
    | ⟨2, _⟩ => show h.val = 0 + h.val * (0 + 1); omega
    | ⟨3, _⟩ => show d.val = 0 + d.val * (0 + 1); omega
  · funext a
    match a with | ⟨0, _⟩ => rfl | ⟨1, _⟩ => rfl | ⟨2, _⟩ => rfl | ⟨3, _⟩ => rfl

theorem v8_at (x : Vec Ideal S4x2x8192x128 .bf16) (b : Fin 4) (n : Fin 66) (q : Fin 128) (h : Fin 2) (d : Fin 128) :
    val_main_v8 (F := Ideal) x (ix5 b n q h d) = val_main_v7 (F := Ideal) x (ix4 b ⟨n.val * 128 + q.val, by omega⟩ h d) := by
  refine (val_main_v8_apply x _).trans (congrArg (val_main_v7 (F := Ideal) x) ?_)
  funext a
  match a with
  | ⟨0, _⟩ => exact Fin.ext (by show ((((b.val * 66 + n.val) * 128 + q.val) * 2 + h.val) * 128 + d.val) / 2162688 = b.val; omega)
  | ⟨1, _⟩ => exact Fin.ext (by show ((((b.val * 66 + n.val) * 128 + q.val) * 2 + h.val) * 128 + d.val) / 256 % 8448 = n.val * 128 + q.val; omega)
  | ⟨2, _⟩ => exact Fin.ext (by show ((((b.val * 66 + n.val) * 128 + q.val) * 2 + h.val) * 128 + d.val) / 128 % 2 = h.val; omega)
  | ⟨3, _⟩ => exact Fin.ext (by show ((((b.val * 66 + n.val) * 128 + q.val) * 2 + h.val) * 128 + d.val) % 128 = d.val; omega)

theorem v9_at (x : Vec Ideal S4x2x8192x128 .bf16) (b : Fin 4) (n : Fin 64) (q : Fin 128) (h : Fin 2) (d : Fin 128) :
    val_main_v9 (F := Ideal) x (ix5 b n q h d) = val_main_v8 (F := Ideal) x (ix5 b ⟨n.val, by omega⟩ q h d) := by
  refine (val_main_v9_apply x _).trans (congrArg (val_main_v8 (F := Ideal) x) ?_)
  funext a
  match a with | ⟨0, _⟩ => rfl | ⟨1, _⟩ => rfl | ⟨2, _⟩ => rfl | ⟨3, _⟩ => rfl | ⟨4, _⟩ => rfl

theorem v10_at (x : Vec Ideal S4x2x8192x128 .bf16) (b : Fin 4) (n : Fin 64) (q : Fin 128) (h : Fin 2) (d : Fin 128) :
    val_main_v10 (F := Ideal) x (ix5 b n q h d) = val_main_v8 (F := Ideal) x (ix5 b ⟨1 + n.val, by omega⟩ q h d) := by
  refine (val_main_v10_apply x _).trans (congrArg (val_main_v8 (F := Ideal) x) ?_)
  funext a
  match a with | ⟨0, _⟩ => rfl | ⟨1, _⟩ => rfl | ⟨2, _⟩ => rfl | ⟨3, _⟩ => rfl | ⟨4, _⟩ => rfl

theorem v11_at (x : Vec Ideal S4x2x8192x128 .bf16) (b : Fin 4) (n : Fin 64) (q : Fin 128) (h : Fin 2) (d : Fin 128) :
    val_main_v11 (F := Ideal) x (ix5 b n q h d) = val_main_v8 (F := Ideal) x (ix5 b ⟨2 + n.val, by omega⟩ q h d) := by
  refine (val_main_v11_apply x _).trans (congrArg (val_main_v8 (F := Ideal) x) ?_)
  funext a
  match a with | ⟨0, _⟩ => rfl | ⟨1, _⟩ => rfl | ⟨2, _⟩ => rfl | ⟨3, _⟩ => rfl | ⟨4, _⟩ => rfl

/-- Three blocks laid one after the other, read at a lane. -/
theorem cat_at (A B E : FVec Ideal S4x64x128x2x128 .f32) (b : Fin 4) (n : Fin 64) (l : Fin 384) (h : Fin 2) (d : Fin 128) :
    concatenate S4x64x384x2x128 2 [⟨S4x64x128x2x128, A⟩, ⟨S4x64x128x2x128, B⟩, ⟨S4x64x128x2x128, E⟩]
        Facts₀.concatenates_S4x64x128x2x128_S4x64x128x2x128_S4x64x128x2x128_S4x64x384x2x128_d2 (ix5 b n l h d)
      = if h1 : l.val < 128 then A (ix5 b n ⟨l.val, h1⟩ h d) else if h2 : l.val - 128 < 128 then B (ix5 b n ⟨l.val - 128, h2⟩ h d)
        else E (ix5 b n ⟨l.val - 128 - 128, by omega⟩ h d) := by
  pointwise

/-- The band's lane for a position is that position's key. -/
theorem v12_at (x : Vec Ideal S4x2x8192x128 .bf16) (b : Fin 4) (n : Fin 64) (l : Fin 384) (p : Fin 8192) (hp : p.val + 128 = n.val * 128 + l.val)
    (h : Fin 2) (d : Fin 128) : val_main_v12 (F := Ideal) x (ix5 b n l h d) = (show EReal from x (ix4 b h p d)) := by
  unfold val_main_v12
  refine (cat_at _ _ _ b n l h d).trans ?_
  split_ifs with h1 h2
  · exact (v9_at x b n _ h d).trans ((v8_at x b _ _ h d).trans (v7_at x b _ p (by dsimp only; omega) h d))
  · exact (v10_at x b n _ h d).trans ((v8_at x b _ _ h d).trans (v7_at x b _ p (by dsimp only; omega) h d))
  · exact (v11_at x b n _ h d).trans ((v8_at x b _ _ h d).trans (v7_at x b _ p (by dsimp only; omega) h d))

/-- The values' band is made as the keys' is. -/
theorem v18_eq (x : Vec Ideal S4x2x8192x128 .bf16) : val_main_v18 (F := Ideal) x = val_main_v12 (F := Ideal) x := rfl

/-- The queries in blocks. -/
theorem v6_at (x : Vec Ideal S4x4x8192x128 .bf16) (b : Fin 4) (n : Fin 64) (q : Fin 128) (h g : Fin 2) (d : Fin 128) :
    val_main_v6 (F := Ideal) x (ix6 b n q h g d) = (show EReal from x (ix4 b ⟨2 * h.val + g.val, by omega⟩ ⟨n.val * 128 + q.val, by omega⟩ d)) := by
  unfold val_main_v6
  refine (shapeCast_apply _ _ _ (ix4 b ⟨n.val * 128 + q.val, by omega⟩ ⟨2 * h.val + g.val, by omega⟩ d) ?_).trans ((val_main_v1_apply x _).trans (congrArg _ ?_))
  · rw [Shape.rowMajor_val_four, Shape.rowMajor_val_six]
    show ((b.val * 8192 + (n.val * 128 + q.val)) * 4 + (2 * h.val + g.val)) * 128 + d.val
      = ((((b.val * 64 + n.val) * 128 + q.val) * 2 + h.val) * 2 + g.val) * 128 + d.val
    omega
  · funext a
    match a with | ⟨0, _⟩ => rfl | ⟨1, _⟩ => rfl | ⟨2, _⟩ => rfl | ⟨3, _⟩ => rfl

/-- The scores of a block against its band. -/
theorem v22_at (q : Vec Ideal S4x4x8192x128 .bf16) (k : Vec Ideal S4x2x8192x128 .bf16) (b : Fin 4) (n : Fin 64) (h g : Fin 2) (r : Fin 128) (l : Fin 384) :
    val_main_v22 (F := Ideal) q k (ix6 b n h g r l)
      = (∑ d : Fin 128, (show EReal from val_main_v12 (F := Ideal) k (ix5 b n l h d)) * (show EReal from val_main_v6 (F := Ideal) q (ix6 b n r h g d)))
        * Ideal.ofBits .f32 0x3DB504F3#32 := by
  refine (val_main_v22_apply q k _).trans (congrArg₂ (· * ·) ((val_main_v20_apply q k _).trans ((val_main_v19_apply q k _).trans ?_)) ?_)
  · refine Finset.sum_congr rfl fun d _ => congrArg₂ (· * ·) (congrArg (val_main_v12 (F := Ideal) k) ?_) (congrArg (val_main_v6 (F := Ideal) q) ?_)
    · funext a
      match a with | ⟨0, _⟩ => rfl | ⟨1, _⟩ => rfl | ⟨2, _⟩ => rfl | ⟨3, _⟩ => rfl | ⟨4, _⟩ => rfl
    · funext a
      match a with | ⟨0, _⟩ => rfl | ⟨1, _⟩ => rfl | ⟨2, _⟩ => rfl | ⟨3, _⟩ => rfl | ⟨4, _⟩ => rfl | ⟨5, _⟩ => rfl
  · exact (val_main_v21_apply _).trans rfl

/-- The mask's word for a query and a lane. -/
theorem mask_at (b : Fin 4) (n : Fin 64) (h g : Fin 2) (r : Fin 128) (l : Fin 384) :
    val_main_call2_v1 (F := Ideal) (ix6 b n h g r l)
      = if 0 ≤ (n.val : ℤ) * 128 - 128 + l.val ∧ (n.val : ℤ) * 128 - 128 + l.val < 8192
          ∧ (n.val : ℤ) * 128 + r.val ≤ (n.val : ℤ) * 128 - 128 + l.val + 128 ∧ (n.val : ℤ) * 128 - 128 + l.val ≤ (n.val : ℤ) * 128 + r.val + 128
        then 1#1 else 0#1 := by
  have hQ : (IntOp.addi (IntOp.muli (BitVec.ofNat 32 n.val) 128#32) (BitVec.ofNat 32 r.val)).toInt = (n.val : ℤ) * 128 + r.val := by
    have h := Affine.addi (e := (n.val : ℤ) * 128 + r.val) (Affine.muli (e := (n.val : ℤ) * 128)
      (Affine.ofNat n.val ⟨rfl, by omega⟩) (Affine.ofNat 128 ⟨rfl, by omega⟩) ⟨rfl, by omega, by omega⟩) (Affine.ofNat r.val ⟨rfl, by omega⟩) ⟨rfl, by omega, by omega⟩
    unfold Affine.IsInt at h
    exact h
  have hK : (IntOp.addi (IntOp.subi (IntOp.muli (BitVec.ofNat 32 n.val) 128#32) 128#32) (BitVec.ofNat 32 l.val)).toInt = (n.val : ℤ) * 128 - 128 + l.val := by
    have h := Affine.addi (e := (n.val : ℤ) * 128 - 128 + l.val) (Affine.subi (e := (n.val : ℤ) * 128 - 128) (Affine.muli (e := (n.val : ℤ) * 128)
      (Affine.ofNat n.val ⟨rfl, by omega⟩) (Affine.ofNat 128 ⟨rfl, by omega⟩) ⟨rfl, by omega, by omega⟩) (Affine.ofNat 128 ⟨rfl, by omega⟩)
      ⟨by simp, by omega, by omega⟩) (Affine.ofNat l.val ⟨rfl, by omega⟩) ⟨rfl, by omega, by omega⟩
    unfold Affine.IsInt at h
    exact h
  refine Eq.trans ?_ (Cert.LocalMath.mask hQ hK (by omega) (by omega))
  simp only [val_main_call2_v1_apply, val_main_v61_apply, val_main_v60_apply, val_main_v55_apply, val_main_v50_apply, val_main_v48_apply, val_main_v47_apply, val_main_v45_apply, val_main_v43_apply, val_main_v31_apply, val_main_v29_apply, val_main_v26_apply, val_main_v24_apply, val_main_v23_apply, val_main_v25_apply, val_main_c_1_apply, val_main_v30_apply, val_main_v28_apply, val_main_v27_apply, val_main_v46_apply, val_main_v44_apply, val_main_v42_apply, val_main_v40_apply, val_main_v37_apply, val_main_v35_apply, val_main_v33_apply, val_main_v32_apply, val_main_v34_apply, val_main_c_2_apply, val_main_v36_apply, val_main_c_3_apply, val_main_v41_apply, val_main_v39_apply, val_main_v38_apply, val_main_v49_apply, val_main_c_4_apply, val_main_v54_apply, val_main_v53_apply, val_main_v51_apply, val_main_v52_apply, val_main_c_5_apply, val_main_v59_apply, val_main_v58_apply, val_main_v56_apply, val_main_v57_apply, val_main_c_6_apply]
  rfl

/-- The score of a query against a key, for a batch, a key head and one of its two query heads. -/
def score (Q : Vec Ideal S4x4x8192x128 .bf16) (K : Vec Ideal S4x2x8192x128 .bf16) (b : Fin 4) (h g : Fin 2) (s t : Fin 8192) : EReal :=
  (∑ d : Fin 128, (show EReal from Q (ix4 b ⟨2 * h.val + g.val, by omega⟩ s d)) * (show EReal from K (ix4 b h t d))) * Ideal.ofBits .f32 0x3DB504F3#32

/-- The masked scores are the window's, lane by lane. -/
theorem v62_at (q : Vec Ideal S4x4x8192x128 .bf16) (k : Vec Ideal S4x2x8192x128 .bf16) (b : Fin 4) (n : Fin 64) (h g : Fin 2) (r : Fin 128) (l : Fin 384) :
    val_main_v62 (F := Ideal) q k (ix6 b n h g r l)
      = lane ⊥ (score q k b h g ⟨n.val * 128 + r.val, by omega⟩) (n.val * 128 + r.val) (n.val * 128) l.val := by
  refine (val_main_v62_apply q k _).trans ?_
  rw [mask_at]
  unfold lane
  by_cases hc : 128 ≤ n.val * 128 + l.val ∧ n.val * 128 + l.val < 8320 ∧ n.val * 128 + r.val ≤ n.val * 128 + l.val ∧ n.val * 128 + l.val ≤ n.val * 128 + r.val + 256
  · rw [if_pos hc, if_pos (by omega)]
    refine Eq.trans (b := val_main_v22 (F := Ideal) q k (ix6 b n h g r l)) rfl ?_
    rw [v22_at]
    unfold score
    refine congrArg (· * _) (Finset.sum_congr rfl fun d _ => ?_)
    rw [mul_comm]
    exact congrArg₂ (· * ·) (v6_at q b n r h g d) (v12_at k b n l _ (by dsimp only; omega) h d)
  · rw [if_neg hc, if_neg (by omega)]
    refine Eq.trans (b := val_main_call2_v2 (F := Ideal) (ix6 b n h g r l)) rfl ?_
    exact (val_main_call2_v2_apply _).trans Cert.KernelIdeal.Att.ninf

/-- The sink's lane. -/
theorem v65_at (x : Vec Ideal S4 .f32) (b : Fin 4) (n : Fin 64) (h g : Fin 2) (r : Fin 128) (z : Fin 1) :
    val_main_v65 (F := Ideal) x (ix6 b n h g r z) = (show EReal from x (ix1 ⟨2 * h.val + g.val, by omega⟩)) := by
  refine (val_main_v65_apply x _).trans ((val_main_v64_apply x _).trans ((val_main_v63_apply x _).trans (congrArg _ ?_)))
  funext a
  match a with
  | ⟨0, _⟩ => exact Fin.ext (by show h.val * 2 + g.val = 2 * h.val + g.val; omega)

/-- A row and one more lane, laid one after the other. -/
theorem cat6 (A : FVec Ideal S4x64x2x2x128x384 .f32) (B : FVec Ideal S4x64x2x2x128x1 .f32) (b : Fin 4) (n : Fin 64) (h g : Fin 2) (r : Fin 128) (l : Fin 385) :
    concatenate S4x64x2x2x128x385 5 [⟨S4x64x2x2x128x384, A⟩, ⟨S4x64x2x2x128x1, B⟩]
        Facts₀.concatenates_S4x64x2x2x128x384_S4x64x2x2x128x1_S4x64x2x2x128x385_d5 (ix6 b n h g r l)
      = if h1 : l.val < 384 then A (ix6 b n h g r ⟨l.val, h1⟩) else B (ix6 b n h g r ⟨l.val - 384, by omega⟩) := by
  pointwise

/-- The scores' lanes of the row with the sink added. -/
theorem v66_left (q : Vec Ideal S4x4x8192x128 .bf16) (k : Vec Ideal S4x2x8192x128 .bf16) (x : Vec Ideal S4 .f32) (b : Fin 4) (n : Fin 64) (h g : Fin 2) (r : Fin 128) (l : Fin 384) :
    val_main_v66 (F := Ideal) q k x (ix6 b n h g r l.castSucc) = val_main_v62 (F := Ideal) q k (ix6 b n h g r l) := by
  unfold val_main_v66
  exact (cat6 _ _ b n h g r l.castSucc).trans (dif_pos l.isLt)

/-- The last lane of the row is the sink's. -/
theorem v66_last (q : Vec Ideal S4x4x8192x128 .bf16) (k : Vec Ideal S4x2x8192x128 .bf16) (x : Vec Ideal S4 .f32) (b : Fin 4) (n : Fin 64) (h g : Fin 2) (r : Fin 128) :
    val_main_v66 (F := Ideal) q k x (ix6 b n h g r (Fin.last 384)) = (show EReal from x (ix1 ⟨2 * h.val + g.val, by omega⟩)) := by
  unfold val_main_v66
  exact ((cat6 _ _ b n h g r (Fin.last 384)).trans (dif_neg (lt_irrefl 384))).trans (v65_at x b n h g r _)

/-- A maximum over the last of six axes, at any sizes. -/
theorem max6 {n0 n1 n2 n3 n4 n5 : ℕ} (x : FVec Ideal ⟨6, ![n0, n1, n2, n3, n4, n5]⟩ .f32) (init : FVec Ideal ⟨0, ![]⟩ .f32)
    (h : (⟨6, ![n0, n1, n2, n3, n4, n5]⟩ : Shape).ReducesTo [5] ⟨5, ![n0, n1, n2, n3, n4]⟩) (hu : 0 < (⟨0, ![]⟩ : Shape).numel)
    (a : Fin n0) (b : Fin n1) (c : Fin n2) (d : Fin n3) (e : Fin n4) :
    Host.reduce (FloatOps.maximumf (F := Ideal) (φ := .f32)) x init h hu (ix5 a b c d e)
      = Finset.univ.fold max (init (Shape.Idx.first hu)) fun k => x (ix6 a b c d e k) :=
  (Host.reduce_eq_fold _ x init h hu (ix5 a b c d e)).trans
    (Finset.fold_filter_eq_fold_of_fiber max _ (fun k : Fin n5 => ix6 a b c d e k) (fun _ _ e => congrFun e 5) (fun i => by
      constructor
      · intro w
        refine ⟨i 5, ?_⟩
        funext z; apply Fin.ext
        match z with
        | ⟨0, _⟩ => exact (congrArg Fin.val (congrFun w 0)).symm
        | ⟨1, _⟩ => exact (congrArg Fin.val (congrFun w 1)).symm
        | ⟨2, _⟩ => exact (congrArg Fin.val (congrFun w 2)).symm
        | ⟨3, _⟩ => exact (congrArg Fin.val (congrFun w 3)).symm
        | ⟨4, _⟩ => exact (congrArg Fin.val (congrFun w 4)).symm
        | ⟨5, _⟩ => rfl
      · rintro ⟨k, rfl⟩
        funext z; apply Fin.ext
        match z with | ⟨0, _⟩ => rfl | ⟨1, _⟩ => rfl | ⟨2, _⟩ => rfl | ⟨3, _⟩ => rfl | ⟨4, _⟩ => rfl) _ _)

/-- A maximum with one more lane. -/
theorem fold_succ {n : ℕ} (v : Fin (n + 1) → EReal) :
    Finset.univ.fold max ⊥ v = max (Finset.univ.fold max ⊥ fun k : Fin n => v k.castSucc) (v (Fin.last n)) := by
  refine le_antisymm (Finset.fold_max_le _ |>.mpr ⟨bot_le, fun c _ => ?_⟩) (max_le (Finset.fold_max_le _ |>.mpr ⟨bot_le, fun c _ => ?_⟩) ?_)
  · refine Fin.lastCases ?_ (fun k => ?_) c
    · exact le_max_right _ _
    · exact le_trans (Finset.le_fold_max _ |>.mpr (Or.inr ⟨k, Finset.mem_univ _, le_rfl⟩)) (le_max_left _ _)
  · exact Finset.le_fold_max _ |>.mpr (Or.inr ⟨_, Finset.mem_univ _, le_rfl⟩)
  · exact Finset.le_fold_max _ |>.mpr (Or.inr ⟨_, Finset.mem_univ _, le_rfl⟩)

/-- A maximum over the last of six axes from minus infinity, its last lane taken apart. -/
theorem max6s {n0 n1 n2 n3 n4 m : ℕ} (x : FVec Ideal ⟨6, ![n0, n1, n2, n3, n4, m + 1]⟩ .f32) (init : FVec Ideal ⟨0, ![]⟩ .f32)
    (h : (⟨6, ![n0, n1, n2, n3, n4, m + 1]⟩ : Shape).ReducesTo [5] ⟨5, ![n0, n1, n2, n3, n4]⟩) (hu : 0 < (⟨0, ![]⟩ : Shape).numel)
    (hi : init (Shape.Idx.first hu) = (⊥ : EReal)) (a : Fin n0) (b : Fin n1) (c : Fin n2) (d : Fin n3) (e : Fin n4) :
    Host.reduce (FloatOps.maximumf (F := Ideal) (φ := .f32)) x init h hu (ix5 a b c d e)
      = max (Finset.univ.fold max (⊥ : EReal) fun k : Fin m => x (ix6 a b c d e k.castSucc)) (x (ix6 a b c d e (Fin.last m))) :=
  (max6 x init h hu a b c d e).trans (by rw [hi]; exact fold_succ _)

section
variable (q : Vec Ideal S4x4x8192x128 .bf16) (k v : Vec Ideal S4x2x8192x128 .bf16) (x : Vec Ideal S4 .f32)
  (b : Fin 4) (n : Fin 64) (h g : Fin 2) (r : Fin 128)

abbrev fs : Fin 8192 → EReal := score q k b h g ⟨n.val * 128 + r.val, by omega⟩
abbrev sg : EReal := x (ix1 ⟨2 * h.val + g.val, by omega⟩)

/-- A row's shift is the window's largest score, the sink's included. -/
theorem v69_at : val_main_v69 (F := Ideal) q k x (ix5 b n h g r) = mx (fs q k b n h g r) (n.val * 128 + r.val) (sg x h g) := by
  have e : val_main_v68 (F := Ideal) (ix5 b n h g r) = (⊥ : EReal) := (val_main_v68_apply _).trans Cert.KernelIdeal.Att.ninf
  have d : val_main_v69 (F := Ideal) q k x (ix5 b n h g r)
      = max (val_main_v68 (F := Ideal) (ix5 b n h g r) : EReal) (val_main_v67 (F := Ideal) q k x (ix5 b n h g r)) := val_main_v69_apply q k x _
  refine d.trans ?_
  rw [e, max_eq_right bot_le]
  unfold val_main_v67
  refine (max6s (m := 384) _ _ _ _ Cert.KernelIdeal.Att.ninf b n h g r).trans ?_
  rw [v66_last]
  exact mx_lanes (L := 384) (b := n.val * 128) (Nat.le_add_right _ _) (by omega) (by omega)
    fun l => (v66_left q k x b n h g r l).trans (v62_at q k b n h g r l)

/-- A row's exponentials. -/
theorem v73_at (j : Fin 385) : val_main_v73 (F := Ideal) q k x (ix6 b n h g r j)
    = Ideal.exp ((show EReal from val_main_v66 (F := Ideal) q k x (ix6 b n h g r j)) - mx (fs q k b n h g r) (n.val * 128 + r.val) (sg x h g)) := by
  refine (val_main_v73_apply q k x _).trans (congrArg Ideal.exp ((val_main_v72_apply q k x _).trans (congrArg _ ?_)))
  refine (val_main_v71_apply q k x _).trans ((val_main_v70_apply q k x _).trans (Eq.trans (congrArg _ ?_) (v69_at q k x b n h g r)))
  funext a
  match a with | ⟨0, _⟩ => rfl | ⟨1, _⟩ => rfl | ⟨2, _⟩ => rfl | ⟨3, _⟩ => rfl | ⟨4, _⟩ => rfl

variable (hf : ∀ t, ∃ y : ℝ, fs q k b n h g r t = y) (hσ : ∃ y : ℝ, sg x h g = y)
include hf hσ

/-- A row's denominator. -/
theorem v74_at : val_main_v74 (F := Ideal) q k x (ix5 b n h g r) = den (fs q k b n h g r) (n.val * 128 + r.val) (sg x h g) := by
  refine (val_main_v74_apply q k x _).trans ?_
  rw [show val_main_cst_10 (F := Ideal) (Shape.Idx.first h_S_) = (0 : EReal) from Ideal.ofBits_zero_f32, zero_add, Fin.sum_univ_castSucc]
  refine Eq.trans ?_ (den_lanes (L := 384) (b := n.val * 128) (s := n.val * 128 + r.val) (Nat.le_add_right _ _) (by omega) (by omega) hf hσ
    (sc := fun l => val_main_v62 (F := Ideal) q k (ix6 b n h g r l)) fun l => v62_at q k b n h g r l)
  refine congrArg₂ (· + ·) (Finset.sum_congr rfl fun l _ => ?_) ?_
  · refine Eq.trans (congrArg (val_main_v73 (F := Ideal) q k x) ?_) ((v73_at q k x b n h g r l.castSucc).trans ?_)
    · exact funext fun a => match a with | ⟨0, _⟩ => rfl | ⟨1, _⟩ => rfl | ⟨2, _⟩ => rfl | ⟨3, _⟩ => rfl | ⟨4, _⟩ => rfl | ⟨5, _⟩ => rfl
    · rw [v66_left]
  · refine Eq.trans (congrArg (val_main_v73 (F := Ideal) q k x) ?_) ((v73_at q k x b n h g r (Fin.last 384)).trans ?_)
    · exact funext fun a => match a with | ⟨0, _⟩ => rfl | ⟨1, _⟩ => rfl | ⟨2, _⟩ => rfl | ⟨3, _⟩ => rfl | ⟨4, _⟩ => rfl | ⟨5, _⟩ => rfl
    · rw [v66_last]

/-- A row's weights. -/
theorem v78_at (l : Fin 384) : val_main_v78 (F := Ideal) q k x (ix6 b n h g r l)
    = Ideal.div (Ideal.exp ((show EReal from val_main_v62 (F := Ideal) q k (ix6 b n h g r l)) - mx (fs q k b n h g r) (n.val * 128 + r.val) (sg x h g)))
        (den (fs q k b n h g r) (n.val * 128 + r.val) (sg x h g)) := by
  refine (val_main_v78_apply q k x _).trans (Eq.trans (congrArg (val_main_v77 (F := Ideal) q k x) (a₂ := ix6 b n h g r l.castSucc) ?_) ((val_main_v77_apply q k x _).trans (congrArg₂ Ideal.div ?_ ?_)))
  · exact funext fun a => match a with | ⟨0, _⟩ => rfl | ⟨1, _⟩ => rfl | ⟨2, _⟩ => rfl | ⟨3, _⟩ => rfl | ⟨4, _⟩ => rfl | ⟨5, _⟩ => rfl
  · rw [v73_at, v66_left]
  · refine (val_main_v76_apply q k x _).trans ((val_main_v75_apply q k x _).trans (Eq.trans (congrArg _ ?_) (v74_at q k x b n h g r hf hσ)))
    exact funext fun a => match a with | ⟨0, _⟩ => rfl | ⟨1, _⟩ => rfl | ⟨2, _⟩ => rfl | ⟨3, _⟩ => rfl | ⟨4, _⟩ => rfl

/-- One element of the result before the heads are put together. -/
theorem v80_at (d : Fin 128) : val_main_v80 (F := Ideal) q k v x (ix6 b n r h g d)
    = loc (fs q k b n h g r) (fun t => (show EReal from v (ix4 b h t d))) (n.val * 128 + r.val) (sg x h g) := by
  refine (val_main_v80_apply q k v x _).trans ((val_main_v79_apply q k v x _).trans ?_)
  refine Eq.trans ?_ (loc_lanes (L := 384) (b := n.val * 128) (s := n.val * 128 + r.val) (Nat.le_add_right _ _) (by omega) (by omega) hf hσ
    (sc := fun l => val_main_v62 (F := Ideal) q k (ix6 b n h g r l)) (w := fun l => val_main_v12 (F := Ideal) v (ix5 b n l h d))
    (fun l => v62_at q k b n h g r l) fun l t ht => v12_at v b n l t ht h d)
  refine Finset.sum_congr rfl fun l _ => ?_
  rw [v18_eq, mul_comm]
  refine congrArg₂ (· * ·) (Eq.trans (congrArg (val_main_v78 (F := Ideal) q k x) ?_) (v78_at q k x b n h g r hf hσ l)) (congrArg (val_main_v12 (F := Ideal) v) ?_)
  · exact funext fun a => match a with | ⟨0, _⟩ => rfl | ⟨1, _⟩ => rfl | ⟨2, _⟩ => rfl | ⟨3, _⟩ => rfl | ⟨4, _⟩ => rfl | ⟨5, _⟩ => rfl
  · exact funext fun a => match a with | ⟨0, _⟩ => rfl | ⟨1, _⟩ => rfl | ⟨2, _⟩ => rfl | ⟨3, _⟩ => rfl | ⟨4, _⟩ => rfl

end

/-- The reference's result at an index: the windowed softmax with the sink. -/
theorem v82_at (q : Vec Ideal S4x4x8192x128 .bf16) (k v : Vec Ideal S4x2x8192x128 .bf16) (x : Vec Ideal S4 .f32)
    (hf : ∀ b h g s t, ∃ y : ℝ, score q k b h g s t = y) (hσ : ∀ i, ∃ y : ℝ, (show EReal from x i) = y)
    (b : Fin 4) (s : Fin 8192) (j : Fin 512) :
    val_main_v82 (F := Ideal) q k v x (ix3 b s j)
      = loc (score q k b ⟨j.val / 256, by omega⟩ ⟨j.val % 256 / 128, by omega⟩ s) (fun t => (show EReal from v (ix4 b ⟨j.val / 256, by omega⟩ t ⟨j.val % 128, by omega⟩)))
          s.val (show EReal from x (ix1 ⟨2 * (j.val / 256) + j.val % 256 / 128, by omega⟩)) := by
  have e : s.val / 128 * 128 + s.val % 128 = s.val := by omega
  have key := v80_at q k v x b ⟨s.val / 128, by omega⟩ ⟨j.val / 256, by omega⟩ ⟨j.val % 256 / 128, by omega⟩ ⟨s.val % 128, by omega⟩
    (hf _ _ _ _) (hσ _) ⟨j.val % 128, by omega⟩
  unfold fs sg at key
  simp only [e] at key
  refine Eq.trans ?_ key
  refine (val_main_v82_apply q k v x _).trans ?_
  refine Eq.trans (b := val_main_v81 (F := Ideal) q k v x (ix3 b s j)) rfl ?_
  unfold val_main_v81
  refine shapeCast_apply _ _ _ _ ?_
  rw [Shape.rowMajor_val_three, Shape.rowMajor_val_six]
  show ((((b.val * 64 + s.val / 128) * 128 + s.val % 128) * 2 + j.val / 256) * 2 + j.val % 256 / 128) * 128 + j.val % 128
    = (b.val * 8192 + s.val) * 512 + j.val
  omega

end Cert.LocalRefIdeal.At
-- ==== Proof.Case.lean ====
module

public import proofs.«01_k».proof.Proof.Gen.KernelIdeal.Frame
public import proofs.«01_k».proof.Proof.Pay
public import Idealize.ShloMosaic.Lib.Pointwise
public import Idealize.ShloMosaic.Lib.Tactic
public import Idealize.ShloMosaic.Lib.Pipeline.ValueKit

@[expose] public section

set_option maxRecDepth 16384

noncomputable section

/-! # What one grid point of the attention kernel leaves in its scratch and in its output block

Three cases: the first key block of a run (the scratch is reset, then updated), an inner block (updated), and the last
block (updated, then divided into the output). -/

namespace Cert.KernelIdeal.Att

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (arg4 : Memref sig .tc .vmem S1x2x512x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x512x256 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
variable (x0 : Vec F S1x2x512x128 .bf16) (x1 : Vec F S1x1x2048x128 .bf16) (x2 : Vec F S1x1x2048x128 .bf16)
variable (s0 : Vec F S1024x1 .f32) (s1 : Vec F S1024x1 .f32) (s2 : Vec F S1024x128 .f32)

theorem sB0 (hc0 : ¬cond0_0 i) (hc1 : ¬cond0_1 i) : sout0_B_0 c i arg4 harg4 arg5 harg5 arg6 harg6 arg7 harg7 arg8 harg8 arg9 harg9 arg10 harg10 hc0 hc1 x0 x1 x2 s0 s1 s2
    = k0_pay2 (k0_pay10 x0 x1 s0) := by
  unfold sout0_B_0
  rw [View.read_writes_eq_canon _ _ _ (scover0_B_0 c i arg4 harg4 arg5 harg5 arg6 harg6 arg7 harg7 arg8 harg8 arg9 harg9 arg10 harg10 hc0 hc1 x0 x1 x2 s0 s1 s2)]
  unfold kernelRun0_B
  dsimp only
  sl_unfold_words
  rw [View.canon_unit_zero hz2]
  simp only [View.readAt_eq_ld, harg4.read_unread, harg5.read_unread, harg6.read_unread, harg8.read_unread, harg9.read_unread, harg10.read_unread, View.ld_unit_zero (S := S1024x1) hz2, View.ld_unit_zero (S := S1024x128) hz2, View.ld_unit_zero (S := S1x2x512x128) hz4, View.ld_unit_zero (S := S1x1x2048x128) hz4]

theorem sB1 (hc0 : ¬cond0_0 i) (hc1 : ¬cond0_1 i) : sout0_B_1 c i arg4 harg4 arg5 harg5 arg6 harg6 arg7 harg7 arg8 harg8 arg9 harg9 arg10 harg10 hc0 hc1 x0 x1 x2 s0 s1 s2
    = k0_pay13 x0 x1 s0 s1 := by
  unfold sout0_B_1
  rw [View.read_writes_eq_canon _ _ _ (scover0_B_1 c i arg4 harg4 arg5 harg5 arg6 harg6 arg7 harg7 arg8 harg8 arg9 harg9 arg10 harg10 hc0 hc1 x0 x1 x2 s0 s1 s2)]
  unfold kernelRun0_B
  dsimp only
  sl_unfold_words
  rw [View.canon_unit_zero hz2]
  simp only [View.readAt_eq_ld, harg4.read_unread, harg5.read_unread, harg6.read_unread, harg8.read_unread, harg9.read_unread, harg10.read_unread, View.ld_unit_zero (S := S1024x1) hz2, View.ld_unit_zero (S := S1024x128) hz2, View.ld_unit_zero (S := S1x2x512x128) hz4, View.ld_unit_zero (S := S1x1x2048x128) hz4]

theorem sB2 (hc0 : ¬cond0_0 i) (hc1 : ¬cond0_1 i) : sout0_B_2 c i arg4 harg4 arg5 harg5 arg6 harg6 arg7 harg7 arg8 harg8 arg9 harg9 arg10 harg10 hc0 hc1 x0 x1 x2 s0 s1 s2
    = k0_pay1 (k0_pay14 x0 x1 s0 s2) (k0_pay15 x0 x1 s0) x2 := by
  unfold sout0_B_2
  rw [View.read_writes_eq_canon _ _ _ (scover0_B_2 c i arg4 harg4 arg5 harg5 arg6 harg6 arg7 harg7 arg8 harg8 arg9 harg9 arg10 harg10 hc0 hc1 x0 x1 x2 s0 s1 s2)]
  unfold kernelRun0_B
  dsimp only
  sl_unfold_words
  rw [View.canon_unit_zero hz2]
  simp only [View.readAt_eq_ld, harg4.read_unread, harg5.read_unread, harg6.read_unread, harg8.read_unread, harg9.read_unread, harg10.read_unread, View.ld_unit_zero (S := S1024x1) hz2, View.ld_unit_zero (S := S1024x128) hz2, View.ld_unit_zero (S := S1x2x512x128) hz4, View.ld_unit_zero (S := S1x1x2048x128) hz4]

theorem sA0 (hc0 : cond0_0 i) (hc1 : ¬cond0_1 i) : sout0_A_0 c i arg4 harg4 arg5 harg5 arg6 harg6 arg7 harg7 arg8 harg8 arg9 harg9 arg10 harg10 hc0 hc1 x0 x1 x2
    = k0_pay2 (k0_pay10 x0 x1 k0_pay6) := by
  unfold sout0_A_0
  rw [View.read_writes_eq_canon _ _ _ (scover0_A_0 c i arg4 harg4 arg5 harg5 arg6 harg6 arg7 harg7 arg8 harg8 arg9 harg9 arg10 harg10 hc0 hc1 x0 x1 x2)]
  unfold kernelRun0_A
  dsimp only
  sl_unfold_words
  rw [View.canon_cons_unit_zero hz2]
  simp only [View.readAt_eq_ld, harg4.read_unread, harg5.read_unread, harg6.read_unread, View.ld_unit_zero (S := S1024x1) hz2, View.ld_unit_zero (S := S1024x128) hz2, View.ld_unit_zero (S := S1x2x512x128) hz4, View.ld_unit_zero (S := S1x1x2048x128) hz4, View.readCov_unit_zero (S := S1024x1) _ hz2, View.readCov_unit_zero (S := S1024x128) _ hz2]

theorem sA1 (hc0 : cond0_0 i) (hc1 : ¬cond0_1 i) : sout0_A_1 c i arg4 harg4 arg5 harg5 arg6 harg6 arg7 harg7 arg8 harg8 arg9 harg9 arg10 harg10 hc0 hc1 x0 x1 x2
    = k0_pay13 x0 x1 k0_pay6 k0_pay7 := by
  unfold sout0_A_1
  rw [View.read_writes_eq_canon _ _ _ (scover0_A_1 c i arg4 harg4 arg5 harg5 arg6 harg6 arg7 harg7 arg8 harg8 arg9 harg9 arg10 harg10 hc0 hc1 x0 x1 x2)]
  unfold kernelRun0_A
  dsimp only
  sl_unfold_words
  rw [View.canon_cons_unit_zero hz2]
  simp only [View.readAt_eq_ld, harg4.read_unread, harg5.read_unread, harg6.read_unread, View.ld_unit_zero (S := S1024x1) hz2, View.ld_unit_zero (S := S1024x128) hz2, View.ld_unit_zero (S := S1x2x512x128) hz4, View.ld_unit_zero (S := S1x1x2048x128) hz4, View.readCov_unit_zero (S := S1024x1) _ hz2, View.readCov_unit_zero (S := S1024x128) _ hz2]

theorem sA2 (hc0 : cond0_0 i) (hc1 : ¬cond0_1 i) : sout0_A_2 c i arg4 harg4 arg5 harg5 arg6 harg6 arg7 harg7 arg8 harg8 arg9 harg9 arg10 harg10 hc0 hc1 x0 x1 x2
    = k0_pay1 (k0_pay14 x0 x1 k0_pay6 k0_pay8) (k0_pay15 x0 x1 k0_pay6) x2 := by
  unfold sout0_A_2
  rw [View.read_writes_eq_canon _ _ _ (scover0_A_2 c i arg4 harg4 arg5 harg5 arg6 harg6 arg7 harg7 arg8 harg8 arg9 harg9 arg10 harg10 hc0 hc1 x0 x1 x2)]
  unfold kernelRun0_A
  dsimp only
  sl_unfold_words
  rw [View.canon_cons_unit_zero hz2]
  simp only [View.readAt_eq_ld, harg4.read_unread, harg5.read_unread, harg6.read_unread, View.ld_unit_zero (S := S1024x1) hz2, View.ld_unit_zero (S := S1024x128) hz2, View.ld_unit_zero (S := S1x2x512x128) hz4, View.ld_unit_zero (S := S1x1x2048x128) hz4, View.readCov_unit_zero (S := S1024x1) _ hz2, View.readCov_unit_zero (S := S1024x128) _ hz2]

end

/-- The last block's output: the two heads' halves of the quotient of the sums this block completes. -/
theorem oC (c : Dev nD) (i : grid0.Coords) (arg4 : Memref sig .tc .vmem S1x2x512x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x512x256 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (x0 : Vec Ideal S1x2x512x128 .bf16) (x1 : Vec Ideal S1x1x2048x128 .bf16) (x2 : Vec Ideal S1x1x2048x128 .bf16)
    (s0 : Vec Ideal S1024x1 .f32) (s1 : Vec Ideal S1024x1 .f32) (s2 : Vec Ideal S1024x128 .f32)
    (hc0 : ¬cond0_0 i) (hc1 : cond0_1 i) (a : Fin 512) (y : Fin 256) :
    out0_C_3 c i arg4 harg4 arg5 harg5 arg6 harg6 arg7 harg7 arg8 harg8 arg9 harg9 arg10 harg10 hc0 hc1 x0 x1 x2 s0 s1 s2 (ix3 0 a y)
    = Ideal.div (k0_pay1 (F := Ideal) (k0_pay14 x0 x1 s0 s2) (k0_pay15 x0 x1 s0) x2 (ix2 ⟨(y : ℕ) / 128 * 512 + a, by omega⟩ ⟨(y : ℕ) % 128, by omega⟩))
        (k0_pay13 (F := Ideal) x0 x1 s0 s1 (ix2 ⟨(y : ℕ) / 128 * 512 + a, by omega⟩ 0)) := by
  unfold out0_C_3
  rw [View.read_writes_eq_canon _ _ _ (cover0_C_3 c i arg4 harg4 arg5 harg5 arg6 harg6 arg7 harg7 arg8 harg8 arg9 harg9 arg10 harg10 hc0 hc1 x0 x1 x2 s0 s1 s2)]
  unfold kernelRun0_C
  dsimp only
  sl_unfold_words
  simp only [View.readAt_eq_ld, harg4.read_unread, harg5.read_unread, harg6.read_unread, harg8.read_unread, harg9.read_unread, harg10.read_unread, View.ld_unit_zero (S := S1024x1) hz2, View.ld_unit_zero (S := S1024x128) hz2, View.ld_unit_zero (S := S1x2x512x128) hz4, View.ld_unit_zero (S := S1x1x2048x128) hz4, View.readCov_unit_zero (S := S1024x1) _ hz2, View.readCov_unit_zero (S := S1024x128) _ hz2]
  generalize k0_pay1 (F := Ideal) (k0_pay14 x0 x1 s0 s2) (k0_pay15 x0 x1 s0) x2 = A
  generalize k0_pay13 (F := Ideal) x0 x1 s0 s1 = L
  canon_tiles x h
  · have e1 : (a : ℕ) = x 1 := h1
    have e2 : (y : ℕ) = 128 + x 2 := h2
    have hx : x = ix3 0 (x 1) (x 2) := by
      funext k; fin_cases k
      · exact Fin.ext (by have := x0_lt; show (x 0 : ℕ) = 0; omega)
      · rfl
      · rfl
    refine (congrArg (k0_pay5 (F := Ideal) A L) hx).trans ((pay5_at A L (x 1) (x 2)).trans  (congrArg₂ Ideal.div (congrArg A ?_) (congrArg L ?_)))
    · exact congrArg₂ ix2 (Fin.ext (by show 512 + (x 1 : ℕ) = (y : ℕ) / 128 * 512 + a; omega)) (Fin.ext (by show (x 2 : ℕ) = (y : ℕ) % 128; omega))
    · exact congrArg (ix2 · 0) (Fin.ext (by show 512 + (x 1 : ℕ) = (y : ℕ) / 128 * 512 + a; omega))
  · have e1 : (a : ℕ) = x 1 := h1
    have e2 : (y : ℕ) = x 2 := h2
    have hx : x = ix3 0 (x 1) (x 2) := by
      funext k; fin_cases k
      · exact Fin.ext (by have := x0_lt; show (x 0 : ℕ) = 0; omega)
      · rfl
      · rfl
    refine (congrArg (k0_pay4 (F := Ideal) A L) hx).trans ((pay4_at A L (x 1) (x 2)).trans  (congrArg₂ Ideal.div (congrArg A ?_) (congrArg L ?_)))
    · exact congrArg₂ ix2 (Fin.ext (by show (x 1 : ℕ) = (y : ℕ) / 128 * 512 + a; omega)) (Fin.ext (by show (x 2 : ℕ) = (y : ℕ) % 128; omega))
    · exact congrArg (ix2 · 0) (Fin.ext (by show (x 1 : ℕ) = (y : ℕ) / 128 * 512 + a; omega))

end Cert.KernelIdeal.Att

end
-- ==== Proof.Alg.lean ====
module

public import Idealize.ShloMosaic.Lib.Pointwise
public import Idealize.ShloMosaic.PureOps.Ideal
public import Mathlib.Tactic.Ring
public import Mathlib.Tactic.FieldSimp

@[expose] public section

noncomputable section

/-! # The arithmetic of a softmax that is swept block by block

Scores are real numbers, the values weighted may be any extended reals. A sweep keeps a running shift, the sum of the
exponentials of the scores less the shift, and the sum of the values weighted by those exponentials. Whatever the shift
is, their quotient is the softmax of the scores applied to the values. -/

namespace Cert.Softmax

open Idealize.ShloMosaic

/-- A nonnegative real factor moves inside a finite sum of extended reals. -/
theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- The exponential of a difference of reals. -/
theorem exp_sub_coe (x y : ℝ) : Ideal.exp ((x : EReal) - (y : EReal)) = ((Real.exp (x - y) : ℝ) : EReal) := by
  rw [← EReal.coe_sub, Ideal.exp_coe]

/-- A sum of coerced reals is the coerced sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- What a sweep over the first `n` keys keeps: for some real shift `μ`, the shift itself, the sum of the shifted
    exponentials, and the sum of the values weighted by them. -/
def Inv {D : Type} (σ : ℕ → ℝ) (v : ℕ → D → EReal) (n : ℕ) (m l : EReal) (acc : D → EReal) : Prop :=
  ∃ μ : ℝ, m = (μ : EReal) ∧ l = ∑ k ∈ Finset.range n, ((Real.exp (σ k - μ) : ℝ) : EReal)
    ∧ ∀ d, acc d = ∑ k ∈ Finset.range n, ((Real.exp (σ k - μ) : ℝ) : EReal) * v k d

/-- Nothing is swept yet: a real shift, and zero sums. -/
theorem Inv.zero {D : Type} (σ : ℕ → ℝ) (v : ℕ → D → EReal) (μ : ℝ) {m l : EReal} {acc : D → EReal}
    (hm : m = (μ : EReal)) (hl : l = 0) (ha : ∀ d, acc d = 0) : Inv σ v 0 m l acc :=
  ⟨μ, hm, by simp [hl], fun d => by simp [ha d]⟩

/-- The maximum of a real and finitely many reals, folded from minus infinity, is a real. -/
theorem max_fold_real {n : ℕ} (x : ℝ) (f : Fin n → EReal) (hf : ∀ t, ∃ r : ℝ, f t = r) :
    ∃ r : ℝ, max (x : EReal) (Finset.univ.fold max ⊥ f) = r := by
  suffices h : ∀ S : Finset (Fin n), ∃ r : ℝ, max (x : EReal) (S.fold max ⊥ f) = r from h _
  intro S
  classical
  induction S using Finset.induction_on with
  | empty => exact ⟨x, by simp⟩
  | insert a S ha ih =>
    obtain ⟨r, hr⟩ := ih
    obtain ⟨q, hq⟩ := hf a
    refine ⟨max q r, ?_⟩
    rw [Finset.fold_insert ha, max_left_comm, hr, hq]
    exact (EReal.coe_strictMono.monotone.map_max).symm

/-- The maximum of a nonempty finite family of reals, folded from minus infinity, is a real. -/
theorem fold_real {n : ℕ} (f : Fin (n + 1) → EReal) (hf : ∀ t, ∃ r : ℝ, f t = r) :
    ∃ r : ℝ, Finset.univ.fold max ⊥ f = r := by
  obtain ⟨q, hq⟩ := hf 0
  obtain ⟨r, hr⟩ := max_fold_real q f hf
  refine ⟨r, ?_⟩
  rw [← hr, eq_comm]
  refine max_eq_right ?_
  rw [← hq]
  exact (Finset.le_fold_max _).2 (Or.inr ⟨0, Finset.mem_univ _, le_refl _⟩)

/-- The same for any positive number of reals. -/
theorem fold_real' {n : ℕ} (hn : 0 < n) (f : Fin n → EReal) (hf : ∀ t, ∃ r : ℝ, f t = r) :
    ∃ r : ℝ, Finset.univ.fold max ⊥ f = r := by
  obtain ⟨k, rfl⟩ : ∃ k, n = k + 1 := ⟨n - 1, by omega⟩
  exact fold_real f hf

/-- One block of the sweep: the shift moves to a larger real, the old sums are rescaled by the exponential of the move,
    the block's own terms are added. -/
theorem Inv.step {D : Type} {T : ℕ} {σ : ℕ → ℝ} {v : ℕ → D → EReal} {n : ℕ} {m l : EReal} {acc : D → EReal}
    (h : Inv σ v n m l acc) (s : Fin T → EReal) (w : Fin T → D → EReal)
    (hs : ∀ t : Fin T, s t = ((σ (n + t) : ℝ) : EReal)) (hw : ∀ (t : Fin T) d, w t d = v (n + t) d)
    (m' l' : EReal) (acc' : D → EReal) (hm' : m' = max m (Finset.univ.fold max ⊥ s))
    (hl' : l' = Ideal.exp (m - m') * l + ∑ t : Fin T, Ideal.exp (s t - m'))
    (ha' : ∀ d, acc' d = Ideal.exp (m - m') * acc d + ∑ t : Fin T, Ideal.exp (s t - m') * w t d) :
    Inv σ v (n + T) m' l' acc' := by
  obtain ⟨μ, rfl, rfl, ha⟩ := h
  obtain ⟨μ', hμ'⟩ := max_fold_real μ s (fun t => ⟨_, hs t⟩)
  rw [hμ'] at hm'
  subst hm'
  have hc : (0 : ℝ) ≤ Real.exp (μ - μ') := (Real.exp_pos _).le
  have key : ∀ k, ((Real.exp (σ k - μ) : ℝ) : EReal) * ((Real.exp (μ - μ') : ℝ) : EReal) = ((Real.exp (σ k - μ') : ℝ) : EReal) := by
    intro k
    rw [← EReal.coe_mul, ← Real.exp_add]
    congr 2
    ring
  refine ⟨μ', rfl, ?_, fun d => ?_⟩
  · rw [hl', exp_sub_coe, mul_comm, sum_mul_coe _ _ _ hc, Finset.sum_range_add, Finset.sum_range (n := T)]
    congr 1
    · exact Finset.sum_congr rfl fun k _ => key k
    · exact Finset.sum_congr rfl fun t _ => by rw [hs, exp_sub_coe]
  · rw [ha', ha, exp_sub_coe, mul_comm, sum_mul_coe _ _ _ hc, Finset.sum_range_add, Finset.sum_range (n := T)]
    congr 1
    · exact Finset.sum_congr rfl fun k _ => by rw [mul_right_comm, key]
    · exact Finset.sum_congr rfl fun t _ => by rw [hs, exp_sub_coe, hw]

/-- After the whole sweep the quotient of the two sums is the softmax of the scores, shifted by any real `M`, applied
    to the values. -/
theorem Inv.quotient {D : Type} {σ : ℕ → ℝ} {v : ℕ → D → EReal} {n : ℕ} {m l : EReal} {acc : D → EReal}
    (h : Inv σ v n m l acc) (hn : 0 < n) (M : ℝ) (d : D) :
    Ideal.div (acc d) l = ∑ k : Fin n, Ideal.div ((Real.exp (σ k - M) : ℝ) : EReal)
      (∑ k' : Fin n, ((Real.exp (σ k' - M) : ℝ) : EReal)) * v k d := by
  obtain ⟨μ, rfl, rfl, ha⟩ := h
  have hne : (Finset.range n).Nonempty := ⟨0, Finset.mem_range.2 hn⟩
  have hpos : ∀ x : ℝ, 0 < ∑ k ∈ Finset.range n, Real.exp (σ k - x) := fun x =>
    Finset.sum_pos (fun k _ => Real.exp_pos _) hne
  have e : ∀ x : ℝ, ∑ k ∈ Finset.range n, Real.exp (σ k - x) = Real.exp (-x) * ∑ k ∈ Finset.range n, Real.exp (σ k) := by
    intro x
    rw [Finset.mul_sum]
    exact Finset.sum_congr rfl fun k _ => by rw [← Real.exp_add]; congr 1; ring
  have hL : (∑ k ∈ Finset.range n, Real.exp (σ k)) ≠ 0 := (Finset.sum_pos (fun k _ => Real.exp_pos _) hne).ne'
  rw [ha, ← coe_sum, Ideal.div_coe (hpos μ).ne', sum_mul_coe _ _ _ (one_div_nonneg.2 (hpos μ).le), Finset.sum_range]
  refine Finset.sum_congr rfl fun k _ => ?_
  rw [← Finset.sum_range (f := fun k => ((Real.exp (σ k - M) : ℝ) : EReal)), ← coe_sum, Ideal.div_coe (hpos M).ne',
    mul_right_comm, ← EReal.coe_mul, ← EReal.coe_mul]
  congr 2
  rw [e μ, e M, sub_eq_add_neg, sub_eq_add_neg, Real.exp_add, Real.exp_add]
  have h1 := (Real.exp_pos (-μ)).ne'
  have h2 := (Real.exp_pos (-M)).ne'
  field_simp

end Cert.Softmax

end
-- ==== Proof.AttVal.lean ====
module

public import proofs.«01_k».proof.Proof.Case
public import proofs.«01_k».proof.Proof.Alg
public import proofs.«01_k».proof.Proof.Gen.KernelIdeal.Value

@[expose] public section

set_option maxRecDepth 16384

noncomputable section

/-! # What the attention kernel writes, as a softmax over all keys

A run of four grid points sweeps the four key blocks of one batch, one key head and one block of 512 queries of the two
query heads; after each point the scratch is the running state `Softmax.Inv` of the keys swept so far. -/

namespace Cert.KernelIdeal.Att

open Idealize.ShloMosaic Idealize.ShloMosaic.TcCoe Idealize.SL.Sem
open Cert.KernelIdeal Cert.KernelIdeal.Gen Cert.Softmax

/-- The scaled score of query `s` of query head `2h + g` against key `k` of key head `h`. -/
def score (Q : Vec Ideal S4x4x8192x128 .bf16) (K : Vec Ideal S4x2x8192x128 .bf16)
    (b : Fin 4) (h g : Fin 2) (s k : Fin 8192) : EReal :=
  (∑ d : Fin 128, (show EReal from Q (ix4 b ⟨(h : ℕ) * 2 + g, by omega⟩ s d)) * K (ix4 b h k d)) * scale

/-- The scores of one query as a sequence of reals (zero past the last key). -/
def sig (Q : Vec Ideal S4x4x8192x128 .bf16) (K : Vec Ideal S4x2x8192x128 .bf16)
    (b : Fin 4) (h g : Fin 2) (s : Fin 8192) (n : ℕ) : ℝ :=
  if hn : n < 8192 then (score Q K b h g s ⟨n, hn⟩).toReal else 0

/-- The values of one key head as a sequence of rows (zero past the last key). -/
def val (V : Vec Ideal S4x2x8192x128 .bf16) (b : Fin 4) (h : Fin 2) (n : ℕ) (d : Fin 128) : EReal :=
  if hn : n < 8192 then V (ix4 b h ⟨n, hn⟩ d) else 0

/-- The softmax of the scores over all keys, in the order of the reference (shift by the maximum, exponential, division
    by the sum), weighting the values: output component `d` of query `s`. -/
def attn (Q : Vec Ideal S4x4x8192x128 .bf16) (K V : Vec Ideal S4x2x8192x128 .bf16)
    (b : Fin 4) (h g : Fin 2) (s : Fin 8192) (d : Fin 128) : EReal :=
  ∑ k : Fin 8192, Ideal.div (Ideal.exp (score Q K b h g s k - Finset.univ.fold max ⊥ (score Q K b h g s)))
    (∑ k' : Fin 8192, Ideal.exp (score Q K b h g s k' - Finset.univ.fold max ⊥ (score Q K b h g s))) * V (ix4 b h k d)

theorem attn_congr (Q : Vec Ideal S4x4x8192x128 .bf16) (K V : Vec Ideal S4x2x8192x128 .bf16) {b b' : Fin 4} {h h' g g' : Fin 2}
    {s s' : Fin 8192} {d d' : Fin 128} (eb : (b : ℕ) = b') (eh : (h : ℕ) = h') (eg : (g : ℕ) = g') (es : (s : ℕ) = s')
    (ed : (d : ℕ) = d') : attn Q K V b h g s d = attn Q K V b' h' g' s' d' := by
  rw [Fin.ext eb, Fin.ext eh, Fin.ext eg, Fin.ext es, Fin.ext ed]

/-- Where every score is a real, the sequence is the scores. -/
theorem sig_eq (Q : Vec Ideal S4x4x8192x128 .bf16) (K : Vec Ideal S4x2x8192x128 .bf16)
    (hr : ∀ b h g s k, ∃ r : ℝ, score Q K b h g s k = r) (b : Fin 4) (h g : Fin 2) (s k : Fin 8192) :
    ((sig Q K b h g s k : ℝ) : EReal) = score Q K b h g s k := by
  obtain ⟨r, e⟩ := hr b h g s k
  unfold sig
  rw [dif_pos k.isLt, e, EReal.toReal_coe]

/-- The running state of all keys, divided out, is the softmax of the reference. -/
theorem attn_of_inv (Q : Vec Ideal S4x4x8192x128 .bf16) (K V : Vec Ideal S4x2x8192x128 .bf16)
    (hr : ∀ b h g s k, ∃ r : ℝ, score Q K b h g s k = r) (b : Fin 4) (h g : Fin 2) (s : Fin 8192) (d : Fin 128)
    {m l : EReal} {acc : Fin 128 → EReal} (hI : Inv (sig Q K b h g s) (val V b h) 8192 m l acc) :
    Ideal.div (acc d) l = attn Q K V b h g s d := by
  obtain ⟨M, hM⟩ := fold_real' (by decide : 0 < 8192) (score Q K b h g s) (hr b h g s)
  rw [hI.quotient (by decide) M d]
  unfold attn
  have he : ∀ k : Fin 8192, ((Real.exp (sig Q K b h g s k - M) : ℝ) : EReal)
      = Ideal.exp (score Q K b h g s k - Finset.univ.fold max ⊥ (score Q K b h g s)) := fun k => by
    rw [← exp_sub_coe, sig_eq Q K hr, hM]
  simp only [he]
  refine Finset.sum_congr rfl fun k _ => congrArg₂ (fun x y : EReal => x * y) rfl ?_
  unfold val
  rw [dif_pos k.isLt]

/-- One grid point's update keeps the running state. -/
theorem step (σ : ℕ → ℝ) (v : ℕ → Fin 128 → EReal) (n : ℕ)
    (x0 : Vec Ideal S1x2x512x128 .bf16) (x1 x2 : Vec Ideal S1x1x2048x128 .bf16)
    (s0 s1 : Vec Ideal S1024x1 .f32) (s2 : Vec Ideal S1024x128 .f32) (r : Fin 1024)
    (h : Inv σ v n (s0 (ix2 r 0)) (s1 (ix2 r 0)) fun d => s2 (ix2 r d))
    (hs : ∀ k : Fin 2048, sc x0 x1 r k = ((σ (n + k) : ℝ) : EReal))
    (hv : ∀ (k : Fin 2048) d, x2 (ix4 0 0 k d) = v (n + k) d) :
    Inv σ v (n + 2048) (k0_pay10 (F := Ideal) x0 x1 s0 (ix2 r 0)) (k0_pay13 (F := Ideal) x0 x1 s0 s1 (ix2 r 0))
      fun d => k0_pay1 (F := Ideal) (k0_pay14 x0 x1 s0 s2) (k0_pay15 x0 x1 s0) x2 (ix2 r d) :=
  h.step (sc x0 x1 r) (fun k d => x2 (ix4 0 0 k d)) hs hv _ _ _ (pay10_at x0 x1 s0 r) (pay13_at x0 x1 s0 s1 r)
    (fun d => pay1_at x0 x1 x2 s0 s2 r d)

/-- The reset scratch is the empty running state. -/
theorem reset (σ : ℕ → ℝ) (v : ℕ → Fin 128 → EReal) (r : Fin 1024) :
    Inv σ v 0 (k0_pay6 (F := Ideal) (ix2 r 0)) (k0_pay7 (F := Ideal) (ix2 r 0)) fun d => k0_pay8 (F := Ideal) (ix2 r d) := by
  have hx : ∃ x : ℝ, Ideal.ofBits .f32 0xF149F2CA#32 = (x : EReal) := by
    simp [Ideal.ofBits, Ideal.ieee]
    exact ⟨_, rfl⟩
  obtain ⟨x, hx⟩ := hx
  exact Inv.zero σ v x ((pay6_at r).trans hx) (pay7_at r) (fun d => pay8_at r d)

section
variable (m : (ℓ : Loc nD τ Cert.KernelIdeal.sig) → Buf (Elt Ideal) ℓ) (c : Dev nD)

theorem idx : ∀ t : Fin cfg0.N, win0_0.index t = ![t.val / 128, t.val / 64 % 2, t.val / 4 % 16, 0]
    ∧ win0_1.index t = ![t.val / 128, t.val / 64 % 2, t.val % 4, 0]
    ∧ win0_2.index t = ![t.val / 128, t.val / 64 % 2, t.val % 4, 0]
    ∧ win0_3.index t = ![t.val / 128, t.val / 4 % 16, t.val / 64 % 2] :=
  (by decide +kernel : ∀ t : Fin grid0.N, _)

/-- The queries, keys and values of the launch. -/
abbrev Qm : Vec Ideal S4x4x8192x128 .bf16 := m ((c : Thread nD τ).loc main_arg0)
abbrev Km : Vec Ideal S4x2x8192x128 .bf16 := m ((c : Thread nD τ).loc main_arg1)
abbrev Vm : Vec Ideal S4x2x8192x128 .bf16 := m ((c : Thread nD τ).loc main_arg2)

/-- The scores of run `u`'s row `r`. -/
def sigU (u : ℕ) (r : Fin 1024) : ℕ → ℝ :=
  sig (Qm m c) (Km m c) ⟨u / 32 % 4, by omega⟩ ⟨u / 16 % 2, by omega⟩ ⟨(r : ℕ) / 512, by omega⟩ ⟨u % 16 * 512 + (r : ℕ) % 512, by omega⟩

/-- The values of run `u`. -/
def valU (u : ℕ) : ℕ → Fin 128 → EReal :=
  val (Vm m c) ⟨u / 32 % 4, by omega⟩ ⟨u / 16 % 2, by omega⟩

/-- A point's scores, from its blocks. -/
theorem sc_blk (hr : ∀ b h g s k, ∃ r : ℝ, score (Qm m c) (Km m c) b h g s k = r) (t : Fin cfg0.N) (r : Fin 1024) (k : Fin 2048) :
    sc (iblk m c 0 t) (iblk m c 1 t) r k = ((sigU m c (t.val / 4) r (t.val % 4 * 2048 + k) : ℝ) : EReal) := by
  have ht := lt_of_lt_of_eq t.isLt N_0
  refine Eq.trans ?_ (sig_eq (Qm m c) (Km m c) hr _ _ _ _ ⟨t.val % 4 * 2048 + k, by omega⟩).symm
  unfold sc score
  refine congrArg (· * scale) (Finset.sum_congr rfl fun d _ => congrArg₂ (· * ·) ?_ ?_)
  · blk_ext [iblk, V, idx t]
  · blk_ext [iblk, V, idx t]

/-- A point's values, from its block. -/
theorem val_blk (t : Fin cfg0.N) (k : Fin 2048) (d : Fin 128) :
    (iblk m c 2 t : Vec Ideal S1x1x2048x128 .bf16) (ix4 0 0 k d) = valU m c (t.val / 4) (t.val % 4 * 2048 + k) d := by
  have ht := lt_of_lt_of_eq t.isLt N_0
  unfold valU val
  rw [dif_pos (by omega)]
  blk_ext [iblk, V, idx t]

/-- After a point that is not the last of its run, the scratch is the running state of the keys swept so far. -/
theorem inv (hr : ∀ b h g s k, ∃ r : ℝ, score (Qm m c) (Km m c) b h g s k = r) (r : Fin 1024) :
    ∀ (n : ℕ) (hn : n < cfg0.N), n % 4 ≠ 3 →
      Inv (sigU m c (n / 4) r) (valU m c (n / 4)) ((n % 4 + 1) * 2048)
        ((outsAt0 m c n hn).2.1 (ix2 r 0)) ((outsAt0 m c n hn).2.2.1 (ix2 r 0)) fun d => (outsAt0 m c n hn).2.2.2 (ix2 r d) := by
  intro n
  induction n with
  | zero =>
    intro hn h3
    rw [outsAt0_A m c ⟨0, hn⟩ rfl (by simp)]
    dsimp only
    rw [sA0, sA1, sA2, pay2_eq]
    exact step _ _ 0 _ _ _ _ _ _ r (reset _ _ r) (fun k => sc_blk m c hr ⟨0, hn⟩ r k) (fun k d => val_blk m c ⟨0, hn⟩ k d)
  | succ n ih =>
    intro hn h3
    by_cases h0 : (n + 1) % 4 = 0
    · rw [outsAt0_A m c ⟨n + 1, hn⟩ h0 h3]
      dsimp only
      rw [sA0, sA1, sA2, pay2_eq]
      have key := step (sigU m c ((n + 1) / 4) r) (valU m c ((n + 1) / 4)) 0 _ _ _ _ _ _ r (reset _ _ r)
        (fun k => (sc_blk m c hr ⟨n + 1, hn⟩ r k).trans (by simp only [h0, Nat.zero_mul])) (fun k d => (val_blk m c ⟨n + 1, hn⟩ k d).trans (by simp only [h0, Nat.zero_mul]))
      simpa [h0] using key
    · rw [outsAt0_B m c ⟨n + 1, hn⟩ h0 h3]
      dsimp only
      rw [sB0, sB1, sB2, pay2_eq]
      have e : (n + 1) / 4 = n / 4 := by omega
      have e' : (n + 1) % 4 = n % 4 + 1 := by omega
      have ih' := ih (by omega) (by omega)
      have key := step _ _ _ _ _ _ _ _ _ r ih'
        (fun k => (sc_blk m c hr ⟨n + 1, hn⟩ r k).trans (by simp only [e, e']))
        (fun k d => (val_blk m c ⟨n + 1, hn⟩ k d).trans (by simp only [e, e']))
      rw [show ((n + 1) % 4 + 1) * 2048 = (n % 4 + 1) * 2048 + 2048 by omega]
      rw [e]
      exact key

/-- The attention array of the launch. -/
def attnArr : Vec Ideal S4x8192x512 .bf16 := fun i =>
  attn (Qm m c) (Km m c) (Vm m c) (i 0) ⟨(i 2 : ℕ) / 256, Nat.div_lt_of_lt_mul (i 2).isLt⟩
    ⟨(i 2 : ℕ) % 256 / 128, Nat.div_lt_of_lt_mul (Nat.mod_lt _ (by decide))⟩ (i 1) ⟨(i 2 : ℕ) % 128, Nat.mod_lt _ (by decide)⟩

/-- What the last point of a run writes: the softmax of its queries over all keys. -/
theorem out_last (hr : ∀ b h g s k, ∃ r : ℝ, score (Qm m c) (Km m c) b h g s k = r) (t : Fin cfg0.N) (h3 : t.val % 4 = 3)
    (a : Fin 512) (y : Fin 256) :
    (outsAt0 m c t.val t.isLt).1 (ix3 0 a y)
      = attn (Qm m c) (Km m c) (Vm m c) ⟨t.val / 4 / 32 % 4, by omega⟩ ⟨t.val / 4 / 16 % 2, by omega⟩ ⟨(y : ℕ) / 128, by omega⟩
          ⟨t.val / 4 % 16 * 512 + a, by omega⟩ ⟨(y : ℕ) % 128, by omega⟩ := by
  rw [outsAt0_C m c t (by omega) h3]
  dsimp only
  rw [oC]
  have hI := inv m c hr ⟨(y : ℕ) / 128 * 512 + a, by omega⟩ (t.val - 1) (lt_of_le_of_lt (Nat.sub_le _ _) t.isLt) (by omega)
  rw [show ((t.val - 1) % 4 + 1) * 2048 = t.val % 4 * 2048 by omega, show (t.val - 1) / 4 = t.val / 4 by omega] at hI
  have key := step _ _ _ _ _ _ _ _ _ _ hI (fun k => sc_blk m c hr t _ k) (fun k d => val_blk m c t k d)
  rw [show t.val % 4 * 2048 + 2048 = 8192 by omega] at key
  have e1 : ((y : ℕ) / 128 * 512 + a) / 512 = (y : ℕ) / 128 := by omega
  have e2 : ((y : ℕ) / 128 * 512 + a) % 512 = a := by omega
  unfold sigU valU at key
  simp only [e1, e2] at key
  exact attn_of_inv _ _ _ hr _ _ _ _ ⟨(y : ℕ) % 128, by omega⟩ key

/-- After the run the output array is the attention of the launch's queries, keys and values. -/
theorem final (hr : ∀ b h g s k, ∃ r : ℝ, score (Qm m c) (Km m c) b h g s k = r) :
    (dats m 0 c).arrAt 3 cfg0.N = attnArr m c := by
  refine (dats m 0 c).arrAt_eq_of_covers 3 _ (by decide +kernel) fun t hf y => ?_
  blk_simp
  rw [after0_3]
  have ht := lt_of_lt_of_eq t.isLt N_0
  have h3 := (flush0_3 t).mp hf
  have hy : y = ix3 0 (y 1) (y 2) := by
    funext k; fin_cases k
    · exact Fin.ext (by have : (y 0 : ℕ) < 1 := (y 0).isLt; show (y 0 : ℕ) = 0; omega)
    · rfl
    · rfl
  refine (congrArg (outsAt0 m c t.val t.isLt).1 hy).trans ((out_last m c hr t h3 (y 1) (y 2)).trans ?_)
  have e0 : ((win0_3.blk t).view.emb y 0 : ℕ) = t.val / 128 := by blk_simp [idx t]
  have e1 : ((win0_3.blk t).view.emb y 1 : ℕ) = t.val / 4 % 16 * 512 + y 1 := by blk_simp [idx t]
  have e2 : ((win0_3.blk t).view.emb y 2 : ℕ) = t.val / 64 % 2 * 256 + y 2 := by blk_simp [idx t]
  have y2 : (y 2 : ℕ) < 256 := (y 2).isLt
  unfold attnArr
  refine attn_congr _ _ _ ?_ ?_ ?_ ?_ ?_
  · rw [e0]; show t.val / 4 / 32 % 4 = _; omega
  · show t.val / 4 / 16 % 2 = ((win0_3.blk t).view.emb y 2 : ℕ) / 256; rw [e2]; omega
  · show (y 2 : ℕ) / 128 = ((win0_3.blk t).view.emb y 2 : ℕ) % 256 / 128; rw [e2]; omega
  · rw [e1]
  · show (y 2 : ℕ) % 128 = ((win0_3.blk t).view.emb y 2 : ℕ) % 128; rw [e2]; omega

end

end Cert.KernelIdeal.Att

end
-- ==== Proof.AttRef.lean ====
module

public import proofs.«01_k».proof.Proof.AttVal
public import proofs.«01_k».proof.Proof.Gen.ReferenceIdeal.Read

@[expose] public section

set_option maxRecDepth 16384

noncomputable section

/-! # The attention reference, read at an index -/

namespace Cert.KernelIdeal.Att

open Idealize.ShloMosaic Idealize.ShloMosaic.TcCoe
open Cert.ReferenceIdeal Cert.ReferenceIdeal.Read Cert.ReferenceIdeal.Gen

/-- The host maximum along the last of five axes, at any sizes: the fold of `max` along it. -/
theorem hostMax {n0 n1 n2 n3 n4 : ℕ} (x : FVec Ideal ⟨5, ![n0, n1, n2, n3, n4]⟩ .f32) (init : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce (FloatOps.maximumf (F := Ideal) (φ := .f32)) x init h hu (ix4 a b c d)
      = Finset.univ.fold max (init (Shape.Idx.first hu)) fun k => x (ix5 a b c d k) :=
  (Host.reduce_eq_fold _ x init h hu (ix4 a b c d)).trans (h.fold_fiber_r5_a4 (ix4 a b c d) _ _ _)

variable (Q : Vec Ideal Cert.KernelIdeal.S4x4x8192x128 .bf16) (K V : Vec Ideal Cert.KernelIdeal.S4x2x8192x128 .bf16)

/-- The reference's scaled score. -/
theorem ref_score (b : Fin 4) (h g : Fin 2) (s k : Fin 8192) :
    val_main_v10 (F := Ideal) Q K (ix5 b h g s k) = score Q K b h g s k := by
  rw [val_main_v10_apply, val_main_v8_apply, val_main_v9_apply, val_main_cst_apply, val_main_v7_apply]
  refine congrArg (fun x : EReal => x * scale) (Finset.sum_congr rfl fun d _ => ?_)
  rw [val_main_v3_apply, val_main_v2_apply, val_main_v6_apply, val_main_v1_apply, val_main_v0_apply]
  refine (mul_comm (G := EReal) _ _).trans (congrArg₂ (fun x y : EReal => x * y) (congrArg Q ?_) (congrArg K ?_))
  · funext a
    match a with
    | ⟨0, _⟩ => exact Fin.ext (by show (((((b : ℕ) * 8192 + s) * 2 + h) * 2 + g) * 128 + d) / 4194304 = b; omega)
    | ⟨1, _⟩ => exact Fin.ext (by show (((((b : ℕ) * 8192 + s) * 2 + h) * 2 + g) * 128 + d) / 128 % 4 = (h : ℕ) * 2 + g; omega)
    | ⟨2, _⟩ => exact Fin.ext (by show (((((b : ℕ) * 8192 + s) * 2 + h) * 2 + g) * 128 + d) / 512 % 8192 = s; omega)
    | ⟨3, _⟩ => exact Fin.ext (by show (((((b : ℕ) * 8192 + s) * 2 + h) * 2 + g) * 128 + d) % 128 = d; omega)
  · funext a
    match a with
    | ⟨0, _⟩ => rfl
    | ⟨1, _⟩ => rfl
    | ⟨2, _⟩ => rfl
    | ⟨3, _⟩ => rfl

/-- The reference's row maximum. -/
theorem ref_max (b : Fin 4) (h g : Fin 2) (s : Fin 8192) :
    val_main_v13 (F := Ideal) Q K (ix4 b h g s) = Finset.univ.fold max ⊥ (score Q K b h g s) := by
  rw [val_main_v13_apply, val_main_v12_apply, val_main_cst_1_apply]
  have e : val_main_v11 (F := Ideal) Q K (ix4 b h g s) = Finset.univ.fold max ⊥ (score Q K b h g s) := by
    refine (hostMax (val_main_v10 (F := Ideal) Q K) (val_main_cst_0 (F := Ideal)) _ _ b h g s).trans ?_
    rw [val_main_cst_0_apply]
    refine (congrArg (fun z : EReal => Finset.univ.fold max z _) ninf).trans ?_
    exact congrArg (fun f => Finset.univ.fold max (⊥ : EReal) f) (funext fun k => ref_score Q K b h g s k)
  rw [e]
  exact (congrArg (fun z : EReal => max z _) ninf).trans (max_eq_right bot_le)

/-- The reference's shifted exponential. -/
theorem ref_exp (b : Fin 4) (h g : Fin 2) (s k : Fin 8192) :
    val_main_v17 (F := Ideal) Q K (ix5 b h g s k)
      = Ideal.exp (score Q K b h g s k - Finset.univ.fold max ⊥ (score Q K b h g s)) := by
  rw [val_main_v17_apply, val_main_v16_apply, val_main_v15_apply, val_main_v14_apply, ref_score]
  have e : idx_main_v14 (idx_main_v15 (ix5 b h g s k)) = ix4 b h g s := by
    funext a
    match a with
    | ⟨0, _⟩ => rfl
    | ⟨1, _⟩ => rfl
    | ⟨2, _⟩ => rfl
    | ⟨3, _⟩ => rfl
  rw [e, ref_max]
  rfl

/-- The reference's sum of exponentials. -/
theorem ref_sum (b : Fin 4) (h g : Fin 2) (s k : Fin 8192) :
    val_main_v20 (F := Ideal) Q K (ix5 b h g s k)
      = ∑ k' : Fin 8192, Ideal.exp (score Q K b h g s k' - Finset.univ.fold max ⊥ (score Q K b h g s)) := by
  rw [val_main_v20_apply, val_main_v19_apply, val_main_v18_apply, val_main_cst_2_apply]
  refine (congrArg (fun z : EReal => z + _) (Ideal.ofBits_zero_f32)).trans ((zero_add _).trans (Finset.sum_congr rfl fun k' _ => ?_))
  rw [← ref_exp]
  refine congrArg _ (funext fun a => ?_)
  match a with
  | ⟨0, _⟩ => rfl
  | ⟨1, _⟩ => rfl
  | ⟨2, _⟩ => rfl
  | ⟨3, _⟩ => rfl
  | ⟨4, _⟩ => rfl

/-- The reference's result, at batch `b`, position `s` and column `e`. -/
theorem ref_at (i : Cert.KernelIdeal.S4x8192x512.Idx) :
    val_main_v25 (F := Ideal) Q K V i
      = attn Q K V (i 0) ⟨(i 2 : ℕ) / 256, Nat.div_lt_of_lt_mul (i 2).isLt⟩
          ⟨(i 2 : ℕ) % 256 / 128, Nat.div_lt_of_lt_mul (Nat.mod_lt _ (by decide))⟩ (i 1) ⟨(i 2 : ℕ) % 128, Nat.mod_lt _ (by decide)⟩ := by
  have h0 : (i 0 : ℕ) < 4 := (i 0).isLt
  have h1 : (i 1 : ℕ) < 8192 := (i 1).isLt
  have h2 : (i 2 : ℕ) < 512 := (i 2).isLt
  rw [val_main_v25_apply, val_main_v24_apply, val_main_v23_apply, val_main_v22_apply]
  unfold attn
  refine Finset.sum_congr rfl fun k _ => ?_
  rw [val_main_v5_apply, val_main_v4_apply, val_main_v21_apply]
  have e : ridx_main_v22 (idx_main_v23 (idx_main_v24 i)) k
      = ix5 (i 0) ⟨(i 2 : ℕ) / 256, Nat.div_lt_of_lt_mul (i 2).isLt⟩
          ⟨(i 2 : ℕ) % 256 / 128, Nat.div_lt_of_lt_mul (Nat.mod_lt _ (by decide))⟩ (i 1) k := by
    funext a
    match a with
    | ⟨0, _⟩ => exact Fin.ext (by show (((i 0).val * 8192 + (i 1).val) * 512 + (i 2).val) / 4194304 = i 0; omega)
    | ⟨1, _⟩ => exact Fin.ext (by show (((i 0).val * 8192 + (i 1).val) * 512 + (i 2).val) / 256 % 2 = (i 2 : ℕ) / 256; omega)
    | ⟨2, _⟩ => exact Fin.ext (by show (((i 0).val * 8192 + (i 1).val) * 512 + (i 2).val) / 128 % 2 = (i 2 : ℕ) % 256 / 128; omega)
    | ⟨3, _⟩ => exact Fin.ext (by show (((i 0).val * 8192 + (i 1).val) * 512 + (i 2).val) / 512 % 8192 = i 1; omega)
    | ⟨4, _⟩ => rfl
  rw [e]
  refine (mul_comm (G := EReal) _ _).trans (congrArg₂ (fun x y : EReal => x * y)
    (congrArg₂ Ideal.div (ref_exp Q K _ _ _ _ k) (ref_sum Q K _ _ _ _ k)) (congrArg V ?_))
  funext a
  match a with
  | ⟨0, _⟩ => exact Fin.ext (by show (((i 0).val * 8192 + (i 1).val) * 512 + (i 2).val) / 4194304 = i 0; omega)
  | ⟨1, _⟩ => exact Fin.ext (by show (((i 0).val * 8192 + (i 1).val) * 512 + (i 2).val) / 256 % 2 = (i 2 : ℕ) / 256; omega)
  | ⟨2, _⟩ => rfl
  | ⟨3, _⟩ => exact Fin.ext (by show (((i 0).val * 8192 + (i 1).val) * 512 + (i 2).val) % 128 = (i 2 : ℕ) % 128; omega)

end Cert.KernelIdeal.Att

end
-- ==== Proof.AttMain.lean ====
module

public import proofs.«01_k».proof.Proof.AttRef
public import proofs.«01_k».proof.Defs
public import proofs.«01_k».proof.Proof.Gen.Pre_finite_qk

@[expose] public section

set_option maxRecDepth 16384

noncomputable section

/-! # The attention claim: the precondition makes every score a real, and the two runs then end equal -/

namespace Cert.KernelIdeal.Att

open Idealize.ShloMosaic Idealize.ShloMosaic.TcCoe Idealize.SL.Sem
open Cert.KernelIdeal Cert.KernelIdeal.Gen

theorem inf_bf16 : Ideal.ofBits .bf16 0x7F80#16 = (⊤ : EReal) := by simp [Ideal.ofBits, Ideal.ieee]

/-- An extended real whose absolute value is below plus infinity is a real. -/
theorem real_of_abs_lt (x : EReal) (h : Ideal.cmp .olt (max x (-x)) ⊤ = 1#1) : ∃ r : ℝ, x = r := by
  have hlt : max x (-x) < ⊤ := by
    by_contra hn
    simp [Ideal.cmp, hn] at h
  induction x using EReal.rec with
  | bot => simp at hlt
  | coe r => exact ⟨r, rfl⟩
  | top => simp at hlt

/-- A product of two reals is a real; so is a finite sum of reals. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {ι : Type} (S : Finset ι) (f : ι → EReal) (h : ∀ i, ∃ r : ℝ, f i = r) : ∃ r : ℝ, ∑ i ∈ S, f i = r := by
  choose g hg using h
  exact ⟨∑ i ∈ S, g i, by rw [Cert.Softmax.coe_sum]; exact Finset.sum_congr rfl fun i _ => hg i⟩

theorem scale_real : ∃ r : ℝ, scale = (r : EReal) := by
  unfold scale
  simp [Ideal.ofBits, Ideal.ieee]
  exact ⟨_, rfl⟩

/-- Where every query and every key is finite, every score is a real. -/
theorem score_real (m : (ℓ : Loc nD τ Cert.KernelIdeal.sig) → Buf (Elt Ideal) ℓ) (hp : Pre_KernelIdeal_finite_qk m) (c : Dev nD)
    (b : Fin 4) (h g : Fin 2) (s k : Fin 8192) : ∃ r : ℝ, score (Qm m c) (Km m c) b h g s k = r := by
  have hq : ∀ i, ∃ r : ℝ, (show EReal from Qm m c i) = r := fun i =>
    real_of_abs_lt _ ((congrArg (Ideal.cmp .olt _) inf_bf16.symm).trans (congrFun (hp c).1 i))
  have hk : ∀ i, ∃ r : ℝ, (show EReal from Km m c i) = r := fun i =>
    real_of_abs_lt _ ((congrArg (Ideal.cmp .olt _) inf_bf16.symm).trans (congrFun (hp c).2 i))
  exact real_mul (real_sum _ _ fun d => real_mul (hq _) (hk _)) scale_real

/-- The attention claim: from arguments that agree, queries and keys finite, both programs end with the same array. -/
theorem algebraic : Cert.algebraic_KernelIdeal_ReferenceIdeal_pre_finite_qk := by
  intro m ρ m' ρ' hp hagree
  refine ⟨fun c => attnArr m c, ?_, ?_⟩
  · exact (θ_run Cert.KernelIdeal.defs _ _).mono
      (fun r h c => ⟨(h c).1.trans (final m c (score_real m hp c)), (h c).2⟩) (Cert.KernelIdeal.Value.run_blocks m ρ)
  · refine (θ_run Cert.ReferenceIdeal.defs _ _).mono (fun r h c => ⟨(h c).1.trans ?_, (h c).2⟩)
      (Cert.ReferenceIdeal.Value.run m' ρ')
    rw [Cert.ReferenceIdeal.Read.val_main_v25_eq, (hagree c).1, (hagree c).2.1, (hagree c).2.2]
    exact funext fun i => ref_at (Qm m c) (Km m c) (Vm m c) i

end Cert.KernelIdeal.Att

end
-- ==== Proof.LocalVal.lean ====
module

public import proofs.«01_k».proof.Proof.LocalBlk
public import proofs.«01_k».proof.Proof.LocalRef
public import proofs.«01_k».proof.Proof.AttMain
public import proofs.«01_k».proof.Proof.Gen.LocalRefIdeal.Run
public import proofs.«01_k».proof.Proof.Gen.Pre_finite_qk_sink
public import proofs.«01_k».proof.Defs

@[expose] public section

set_option maxRecDepth 16384

noncomputable section

/-! # The local attention claim -/

namespace Cert.LocalIdeal.Val

open Idealize.ShloMosaic Idealize.ShloMosaic.TcCoe Idealize.SL.Sem
open Cert.LocalIdeal Cert.LocalIdeal.Gen
open Cert.KernelIdeal.Att (real_of_abs_lt inf_bf16 real_mul real_sum scale scale_real)

theorem inf_f32 : Ideal.ofBits .f32 0x7F800000#32 = (⊤ : EReal) := by simp [Ideal.ofBits, Ideal.ieee]

/-- Where every query and every key is finite, every score is a real. -/
theorem score_real (Q : Vec Ideal S4x4x8192x128 .bf16) (K : Vec Ideal S4x2x8192x128 .bf16)
    (hQ : ∀ i, ∃ r : ℝ, (show EReal from Q i) = r) (hK : ∀ i, ∃ r : ℝ, (show EReal from K i) = r)
    (b : Fin 4) (h g : Fin 2) (s t : Fin 8192) : ∃ r : ℝ, score Q K b h g s t = r :=
  real_mul (real_sum _ _ fun d => real_mul (hQ _) (hK _)) scale_real

/-- The reference's array is the kernel's. -/
theorem ref_eq (Q : Vec Ideal S4x4x8192x128 .bf16) (K V : Vec Ideal S4x2x8192x128 .bf16) (σ : Vec Ideal S4 .f32)
    (hf : ∀ b h g s t, ∃ r : ℝ, score Q K b h g s t = r) (hσ : ∀ i, ∃ r : ℝ, (show EReal from σ i) = r) :
    Cert.LocalRefIdeal.Read.val_main_v82 (F := Ideal) Q K V σ = outArr Q K V σ := by
  funext i
  have e : i = ix3 (i 0) (i 1) (i 2) := funext fun a => match a with | ⟨0, _⟩ => rfl | ⟨1, _⟩ => rfl | ⟨2, _⟩ => rfl
  exact (congrArg (Cert.LocalRefIdeal.Read.val_main_v82 (F := Ideal) Q K V σ) e).trans
    (Cert.LocalRefIdeal.At.v82_at Q K V σ hf hσ (i 0) (i 1) (i 2))

/-- The local attention claim: from arguments that agree, with finite queries, keys and sinks, both programs end with the same array. -/
theorem algebraic : Cert.algebraic_LocalIdeal_LocalRefIdeal_pre_finite_qk_sink := by
  intro m ρ m' ρ' hp hagree
  have hQ : ∀ c, ∀ i, ∃ r : ℝ, (show EReal from Qm m c i) = r := fun c i =>
    real_of_abs_lt _ ((congrArg (Ideal.cmp .olt _) inf_bf16.symm).trans (congrFun (hp c).1 i))
  have hK : ∀ c, ∀ i, ∃ r : ℝ, (show EReal from Km m c i) = r := fun c i =>
    real_of_abs_lt _ ((congrArg (Ideal.cmp .olt _) inf_bf16.symm).trans (congrFun (hp c).2.1 i))
  have hS : ∀ c, ∀ i, ∃ r : ℝ, (show EReal from Sm m c i) = r := fun c i =>
    real_of_abs_lt _ ((congrArg (Ideal.cmp .olt _) inf_f32.symm).trans (congrFun (hp c).2.2 i))
  have hf := fun c => score_real (Qm m c) (Km m c) (hQ c) (hK c)
  refine ⟨fun c => outArr (Qm m c) (Km m c) (Vm m c) (Sm m c), ?_, ?_⟩
  · exact (θ_run Cert.LocalIdeal.defs _ _).mono
      (fun r h c => ⟨(h c).1.trans (final m c (hf c) (hS c)), (h c).2⟩) (Cert.LocalIdeal.Value.run_blocks m ρ)
  · refine (θ_run Cert.LocalRefIdeal.defs _ _).mono (fun r h c => ⟨(h c).1.trans ?_, (h c).2⟩)
      (Cert.LocalRefIdeal.Value.run m' ρ')
    rw [Cert.LocalRefIdeal.Read.val_main_v82_eq, (hagree c).1, (hagree c).2.1, (hagree c).2.2.1, (hagree c).2.2.2]
    exact ref_eq (Qm m c) (Km m c) (Vm m c) (Sm m c) (hf c) (hS c)

end Cert.LocalIdeal.Val

end
-- ==== Proof.FourierChanVal.lean ====
module

public import proofs.«01_k».proof.Proof.Gen.FourierChanIdeal.Value
public import proofs.«01_k».proof.Proof.Gen.FourierChanRefIdeal.Read
public import proofs.«01_k».proof.Proof.Gen.FourierChanRefIdeal.Run
public import proofs.«01_k».proof.Defs
public import Idealize.ShloMosaic.Lib.Pipeline.ValueKit
public import Idealize.ShloMosaic.Lib.StableHlo.RunRead
public import Idealize.ShloMosaic.Lib.StableHlo.ReadAt

@[expose] public section

set_option maxRecDepth 16384

noncomputable section

/-! # The Fourier transform over channels: the kernel's array and the reference's -/

namespace Cert.FourierChanIdeal.Val

open Idealize.ShloMosaic Idealize.ShloMosaic.TcCoe Idealize.SL.Sem
open Cert.FourierChanIdeal Cert.FourierChanIdeal.Gen

/-- The reference's table of scaled cosines. -/
abbrev cosT : Vec Ideal S128x128 .f32 := Cert.FourierChanRefIdeal.Read.val_main_v14 (F := Ideal)

/-- The reference's table of scaled sines. -/
abbrev sinT : Vec Ideal S128x128 .f32 := Cert.FourierChanRefIdeal.Read.val_main_v19 (F := Ideal)

/-- The host's table of the groups: one where the groups agree, zero elsewhere. -/
def eye : Vec Ideal S4x4 .f32 :=
  uitofp (F := Ideal) .f32 (cmpi .eq (addi (iotaInDim S4x4 32 0) (broadcastInDim S4x4 ![] bcast_S_S4x4 (constantI S_ 32 0#32))) (iotaInDim S4x4 32 1))

/-- A word of one bit that is zero, as a number. -/
theorem bit_zero : FloatOps.uitofp (F := Ideal) FTy.f32 0#1 = (0 : EReal) := by
  show (((0#1).toNat : ℝ) : EReal) = 0
  simp

/-- A word of one bit that is one, as a number. -/
theorem bit_one : FloatOps.uitofp (F := Ideal) FTy.f32 1#1 = (1 : EReal) := by
  show (((1#1).toNat : ℝ) : EReal) = 1
  simp

theorem eye_bit (a b : Fin 4) : IntOp.cmpi CmpIPredicate.eq (IntOp.addi (BitVec.ofNat 32 a.val) 0#32) (BitVec.ofNat 32 b.val) = if a = b then 1#1 else 0#1 := by
  revert a b
  decide

theorem eye_at (a b : Fin 4) : eye (ix2 a b) = (if a = b then 1 else 0 : EReal) := by
  have h : eye (ix2 a b) = FloatOps.uitofp (F := Ideal) FTy.f32 (IntOp.cmpi CmpIPredicate.eq (IntOp.addi (BitVec.ofNat 32 a.val) 0#32) (BitVec.ofNat 32 b.val)) := by
    pointwise [eye]
  rw [h, eye_bit]
  split
  · exact bit_one
  · exact bit_zero

/-- A block-diagonal table: the groups' table times a group's table. -/
def kron (E : Vec Ideal S4x4 .f32) (C : Vec Ideal S128x128 .f32) : Vec Ideal S512x512 .f32 :=
  shapeCast S512x512 (mulf (F := Ideal) (φ := .f32) (broadcastInDim S4x128x4x128 ![0, 1, 2, 3] bcast_S4x1x4x1_S4x128x4x128_0_1_2_3 (broadcastInDim S4x1x4x1 ![0, 2] bcast_S4x4_S4x1x4x1_0_2 E))
    (broadcastInDim S4x128x4x128 ![0, 1, 2, 3] bcast_S1x128x1x128_S4x128x4x128_0_1_2_3 (broadcastInDim S1x128x1x128 ![1, 3] bcast_S128x128_S1x128x1x128_1_3 C)))
    shapeCasts_S4x128x4x128_S512x512

theorem kron_at (E : Vec Ideal S4x4 .f32) (C : Vec Ideal S128x128 .f32) (i : S512x512.Idx) :
    kron E C i = (show EReal from E (ix2 ⟨(i 0).val / 128, Nat.div_lt_of_lt_mul (i 0).isLt⟩ ⟨(i 1).val / 128, Nat.div_lt_of_lt_mul (i 1).isLt⟩))
      * (show EReal from C (ix2 ⟨(i 0).val % 128, Nat.mod_lt _ (by decide)⟩ ⟨(i 1).val % 128, Nat.mod_lt _ (by decide)⟩)) := by
  pointwise [kron]

/-- The whole table that the host builds. -/
def tab : Vec Ideal S512x1024 .bf16 :=
  truncf (F := Ideal) .bf16 (concatenate S512x1024 1 [⟨S512x512, kron eye cosT⟩, ⟨S512x512, kron eye sinT⟩] concatenates_S512x512_S512x512_S512x1024_d1) bitsLt_bf16_f32

/-- The entry of a group's two tables in a column. -/
def ent (c : Fin 128) (j : Fin 1024) : EReal :=
  if j.val < 512 then (show EReal from cosT (ix2 c ⟨j.val % 128, Nat.mod_lt _ (by decide)⟩))
    else (show EReal from sinT (ix2 c ⟨j.val % 128, Nat.mod_lt _ (by decide)⟩))

theorem cat_lo (A B : Vec Ideal S512x512 .f32) (k : Fin 512) (j : Fin 1024) (h : j.val < 512) :
    truncf (F := Ideal) .bf16 (concatenate S512x1024 1 [⟨S512x512, A⟩, ⟨S512x512, B⟩] concatenates_S512x512_S512x512_S512x1024_d1) bitsLt_bf16_f32 (ix2 k j)
      = A (ix2 k ⟨j.val, h⟩) := by
  pointwise [h]

theorem cat_hi (A B : Vec Ideal S512x512 .f32) (k : Fin 512) (j : Fin 1024) (h : ¬j.val < 512) :
    truncf (F := Ideal) .bf16 (concatenate S512x1024 1 [⟨S512x512, A⟩, ⟨S512x512, B⟩] concatenates_S512x512_S512x512_S512x1024_d1) bitsLt_bf16_f32 (ix2 k j)
      = B (ix2 k ⟨j.val - 512, by omega⟩) := by
  pointwise [h]

/-- An entry of the host's table: that of the group's table where row and column are of one group, else zero. -/
theorem tab_at (k : Fin 512) (j : Fin 1024) :
    tab (ix2 k j) = (if k.val / 128 = j.val % 512 / 128 then 1 else 0 : EReal) * ent ⟨k.val % 128, Nat.mod_lt _ (by decide)⟩ j := by
  have hj : j.val < 1024 := j.isLt
  unfold tab ent
  by_cases h : j.val < 512
  · rw [cat_lo _ _ k j h, kron_at, if_pos h]
    refine congrArg₂ (fun x z : EReal => x * z) ((eye_at _ _).trans ?_) ?_
    · simp only [Fin.mk.injEq]
      exact if_congr (by show k.val / 128 = j.val / 128 ↔ _; omega) rfl rfl
    · rfl
  · rw [cat_hi _ _ k j h, kron_at, if_neg h]
    refine congrArg₂ (fun x z : EReal => x * z) ((eye_at _ _).trans ?_) ?_
    · simp only [Fin.mk.injEq]
      exact if_congr (by show k.val / 128 = (j.val - 512) / 128 ↔ _; omega) rfl rfl
    · exact congrArg sinT (funext fun a => Fin.ext (match a with
        | ⟨0, _⟩ => rfl
        | ⟨1, _⟩ => by show (j.val - 512) % 128 = j.val % 128; omega))

/-- Each group of 128 channels times its cosine table, then its sine table: what the call computes. -/
def out (Z : Vec Ideal S32768x3072 .f32) : Vec Ideal S32768x1024 .bf16 :=
  fun i => ∑ c : Fin 128, (show EReal from Z (ix2 (i 0) ⟨(i 1).val % 512 / 128 * 128 + c.val, by have := c.isLt; omega⟩)) * ent c (i 1)

/-- A row of the argument times a column of the host's table is the sum over the column's group. -/
theorem collapse (z : Fin 512 → EReal) (j : Fin 1024) :
    (∑ k : Fin 512, z k * (show EReal from tab (ix2 k j)))
      = ∑ c : Fin 128, z ⟨j.val % 512 / 128 * 128 + c.val, by have := c.isLt; omega⟩ * ent c j := by
  rw [← Fin.sum_mul_add_fin 4 128 (fun k : Fin 512 => z k * (show EReal from tab (ix2 k j))) rfl]
  rw [Finset.sum_eq_single (⟨j.val % 512 / 128, by omega⟩ : Fin 4)]
  · refine Finset.sum_congr rfl fun c _ => congrArg (fun x : EReal => z _ * x) ?_
    refine (tab_at _ j).trans ?_
    have hc := c.isLt
    rw [if_pos (by show (j.val % 512 / 128 * 128 + c.val) / 128 = j.val % 512 / 128; omega), one_mul]
    exact congrArg (fun x => ent x j) (Fin.ext (by show (j.val % 512 / 128 * 128 + c.val) % 128 = c.val; omega))
  · intro a _ ha
    refine Finset.sum_eq_zero fun c _ => ?_
    have hc := c.isLt
    have hne : ¬(a.val * 128 + c.val) / 128 = j.val % 512 / 128 := fun e => ha (Fin.ext (by show a.val = j.val % 512 / 128; omega))
    refine (congrArg (fun x : EReal => z _ * x) ((tab_at _ j).trans (by rw [if_neg hne, zero_mul]))).trans (mul_zero _)
  · intro h
    exact absurd (Finset.mem_univ _) h

/-- What one point stores, at an index of its block. -/
theorem pay_at (x : Vec Ideal S1024x512 .f32) (w : Vec Ideal S512x512 .bf16) (i : S1024x512.Idx) :
    k0_pay1 (F := Ideal) x w i = ∑ k : Fin 512, (show EReal from x (ix2 (i 0) k)) * (show EReal from w (ix2 k (i 1))) := by
  pointwise [k0_pay1]

/-- The windows' block indices at a point: 32 row blocks, 2 column blocks. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

section
variable (m : (ℓ : Loc nD τ Cert.FourierChanIdeal.sig) → Buf (Elt Ideal) ℓ) (c : Dev nD)

abbrev Zm : Vec Ideal S32768x3072 .f32 := m ((c : Thread nD τ).loc main_arg0)

/-- What the host's lines leave in the table's buffer is the table. -/
theorem tab_eq : (V m c main_v25 : Vec Ideal S512x1024 .bf16) = tab := by
  unfold V
  simp only [hostOps0, hostOps0_1, hostOps0_2, hostOps0_3, hostOps0_4, hostOps0_5, hostOps0_6, List.flatten_cons, List.flatten_nil, List.cons_append, List.nil_append, List.append_nil]
  after_reads_simp
  unfold tab
  refine congrArg₂ (fun A B : Vec Ideal S512x512 .f32 => truncf (F := Ideal) .bf16 (concatenate S512x1024 1 [⟨S512x512, A⟩, ⟨S512x512, B⟩] concatenates_S512x512_S512x512_S512x1024_d1) bitsLt_bf16_f32) ?_ ?_
  · after_reads_simp
    rfl
  · after_reads_simp
    rfl

/-- The array the kernel leaves. -/
theorem final : (dats m 0 c).arrAt 2 cfg0.N = out (Zm m c) := by
  refine (dats m 0 c).arrAt_eq_of_covers 2 _ (by decide +kernel) fun t hf y => ?_
  blk_simp
  rw [after0_2]
  frame_out
  refine (pay_at _ _ y).trans ?_
  unfold out
  refine Eq.trans (Finset.sum_congr rfl fun k _ => congrArg₂ (fun x z : EReal => x * z) ?_ ?_)
    (collapse (fun k => (show EReal from Zm m c (ix2 (((win0_2.blk t).view.emb y) 0) ⟨k.val, lt_of_lt_of_le k.isLt (show 512 ≤ 3072 by decide)⟩))) (((win0_2.blk t).view.emb y) 1))
  · refine Eq.trans ?_ (congrFun (V_main_arg0 m c) _)
    blk_ext [iblk, idx t]
  · rw [← tab_eq m c]
    blk_ext [iblk, idx t]

end

section
open Cert.FourierChanRefIdeal.Read
open Cert.FourierChanRefIdeal (S32768x512)
open Cert.FourierChanRefIdeal.Facts₀ (concatenates_S32768x512_S32768x512_S32768x1024_d1)

theorem rcat_lo (A B : Vec Ideal S32768x512 .f32) (i : S32768x1024.Idx) (h : (i 1).val < 512) :
    concatenate S32768x1024 1 [⟨S32768x512, A⟩, ⟨S32768x512, B⟩] concatenates_S32768x512_S32768x512_S32768x1024_d1 i = A (ix2 (i 0) ⟨(i 1).val, h⟩) := by
  pointwise [h]

theorem rcat_hi (A B : Vec Ideal S32768x512 .f32) (i : S32768x1024.Idx) (h : ¬(i 1).val < 512) :
    concatenate S32768x1024 1 [⟨S32768x512, A⟩, ⟨S32768x512, B⟩] concatenates_S32768x512_S32768x512_S32768x1024_d1 i
      = B (ix2 (i 0) ⟨(i 1).val - 512, by have : (i 1).val < 1024 := (i 1).isLt; show _ < 512; omega⟩) := by
  pointwise [h]

/-- The reference, read at an index. -/
theorem ref_at (Z : Vec Ideal S32768x3072 .f32) (i : S32768x1024.Idx) :
    val_main_v23 (F := Ideal) Z i = out Z i := by
  have h0 : (i 0).val < 32768 := (i 0).isLt
  have h1 : (i 1).val < 1024 := (i 1).isLt
  rw [val_main_v23_apply]
  unfold val_main_v22 out
  by_cases h : (i 1).val < 512
  · refine (rcat_lo _ _ i h).trans ?_
    rw [val_main_v16_apply, val_main_v15_apply]
    refine Finset.sum_congr rfl fun k _ => congrArg₂ (fun x z : EReal => x * z) ?_ ?_
    · have hk := k.isLt
      rw [val_main_v1_apply, val_main_v0_apply]
      exact congrArg Z (funext fun a => Fin.ext (match a with
        | ⟨0, _⟩ => by
          show (((((i 0).val * 512 + (i 1).val) / 512) * 4 + ((i 0).val * 512 + (i 1).val) / 128 % 4) * 128 + k.val) / 512 = (i 0).val
          omega
        | ⟨1, _⟩ => by
          show (((((i 0).val * 512 + (i 1).val) / 512) * 4 + ((i 0).val * 512 + (i 1).val) / 128 % 4) * 128 + k.val) % 512 = (i 1).val % 512 / 128 * 128 + k.val
          omega))
    · unfold ent
      refine Eq.trans ?_ (if_pos h).symm
      exact congrArg cosT (funext fun a => Fin.ext (match a with
        | ⟨0, _⟩ => rfl
        | ⟨1, _⟩ => by show ((i 0).val * 512 + (i 1).val) % 128 = (i 1).val % 128; omega))
  · refine (rcat_hi _ _ i h).trans ?_
    rw [val_main_v21_apply, val_main_v20_apply]
    refine Finset.sum_congr rfl fun k _ => congrArg₂ (fun x z : EReal => x * z) ?_ ?_
    · have hk := k.isLt
      rw [val_main_v1_apply, val_main_v0_apply]
      exact congrArg Z (funext fun a => Fin.ext (match a with
        | ⟨0, _⟩ => by
          show (((((i 0).val * 512 + ((i 1).val - 512)) / 512) * 4 + ((i 0).val * 512 + ((i 1).val - 512)) / 128 % 4) * 128 + k.val) / 512 = (i 0).val
          omega
        | ⟨1, _⟩ => by
          show (((((i 0).val * 512 + ((i 1).val - 512)) / 512) * 4 + ((i 0).val * 512 + ((i 1).val - 512)) / 128 % 4) * 128 + k.val) % 512 = (i 1).val % 512 / 128 * 128 + k.val
          omega))
    · unfold ent
      refine Eq.trans ?_ (if_neg h).symm
      exact congrArg sinT (funext fun a => Fin.ext (match a with
        | ⟨0, _⟩ => rfl
        | ⟨1, _⟩ => by show ((i 0).val * 512 + ((i 1).val - 512)) % 128 = (i 1).val % 128; omega))

end

/-- From arguments that agree both programs end with the same array. -/
theorem algebraic : Cert.algebraic_FourierChanIdeal_FourierChanRefIdeal := by
  intro m ρ m' ρ' _ hagree
  refine ⟨fun c => out (Zm m c), ?_, ?_⟩
  · exact (θ_run Cert.FourierChanIdeal.defs _ _).mono (fun r h c => ⟨(h c).1.trans (final m c), (h c).2⟩)
      (Cert.FourierChanIdeal.Value.run_blocks m ρ)
  · refine (θ_run Cert.FourierChanRefIdeal.defs _ _).mono (fun r h c => ⟨(h c).1.trans ?_, (h c).2⟩)
      (Cert.FourierChanRefIdeal.Value.run (F := Ideal) m' ρ')
    rw [Cert.FourierChanRefIdeal.Read.val_main_v23_eq, hagree c]
    exact funext fun i => ref_at (Zm m c) i

end Cert.FourierChanIdeal.Val
-- ==== Proof.FourierPosVal.lean ====
module

public import proofs.«01_k».proof.Proof.Gen.FourierPosIdeal.Value
public import proofs.«01_k».proof.Proof.Gen.FourierPosRefIdeal.Read
public import proofs.«01_k».proof.Proof.Gen.FourierPosRefIdeal.Run
public import proofs.«01_k».proof.Defs
public import Idealize.ShloMosaic.Lib.Pipeline.ValueKit
public import Idealize.ShloMosaic.Lib.StableHlo.RunRead

@[expose] public section

set_option maxRecDepth 16384

noncomputable section

/-! # The Fourier transform over positions: the kernel's array and the reference's -/

namespace Cert.FourierPosIdeal.Val

open Idealize.ShloMosaic Idealize.ShloMosaic.TcCoe Idealize.SL.Sem
open Cert.FourierPosIdeal Cert.FourierPosIdeal.Gen

/-- One key block's share from one point's blocks, at an index of the block: the two halves of the third block are read. -/
theorem pay_at (x0 x1 : Vec Ideal S2048x1024 .bf16) (x : Vec Ideal S1x1024x1024 .bf16) (i : S2048x512.Idx) :
    k0_pay1 (F := Ideal) x0 (View.ld x (Rect.unit ![0, 0, 0] ![1, 1024, 512] inb_S1x1024x1024_S1x1024x512_0_0_0)) x1
        (View.ld x (Rect.unit ![0, 0, 512] ![1, 1024, 512] inb_S1x1024x1024_S1x1024x512_0_0_512)) i
      = (∑ k : Fin 1024, (show EReal from x0 (ix2 (i 0) k)) * (show EReal from x (ix3 0 k ⟨(i 1).val, lt_of_lt_of_le (i 1).isLt (show 512 ≤ 1024 by decide)⟩)))
        + ∑ k : Fin 1024, (show EReal from x1 (ix2 (i 0) k)) * (show EReal from x (ix3 0 k ⟨512 + (i 1).val, Nat.add_lt_add_left (i 1).isLt 512⟩)) := by
  pointwise [k0_pay1]

/-- The first key block's store. -/
theorem pay2_at (x0 : Vec Ideal S2048x1024 .bf16) (x1 : Vec Ideal S1x1024x512 .bf16) (x2 : Vec Ideal S2048x1024 .bf16)
    (x3 : Vec Ideal S1x1024x512 .bf16) :
    k0_pay2 (F := Ideal) x0 x1 x2 x3 = k0_pay1 x0 x1 x2 x3 := by
  unfold k0_pay2
  generalize k0_pay1 (F := Ideal) x0 x1 x2 x3 = p
  funext i
  pointwise []

/-- A later key block's store. -/
theorem pay3_at (x0 : Vec Ideal S2048x1024 .bf16) (x1 : Vec Ideal S1x1024x512 .bf16) (x2 : Vec Ideal S2048x1024 .bf16)
    (x3 : Vec Ideal S1x1024x512 .bf16) (s : Vec Ideal S2048x512 .f32) (i : S2048x512.Idx) :
    k0_pay3 (F := Ideal) x0 x1 x2 x3 s i = (show EReal from s i) + (show EReal from k0_pay1 (F := Ideal) x0 x1 x2 x3 i) := by
  unfold k0_pay3
  generalize k0_pay1 (F := Ideal) x0 x1 x2 x3 = p
  pointwise []

/-- What goes to the output is the scratch. -/
theorem pay4_at (s : Vec Ideal S2048x512 .f32) (i : S1x2048x512.Idx) :
    k0_pay4 (F := Ideal) s i = (show EReal from s (ix2 (i 1) (i 2))) := by
  pointwise [k0_pay4]

/-- The windows' block indices at a point: the kernel goes over 4 batches, 4 row blocks, and 8 key blocks innermost. -/
theorem idx : ∀ t : Fin cfg0.N, win0_0.index t = ![t.val / 8 % 4, t.val % 8] ∧ win0_1.index t = ![t.val / 8 % 4, t.val % 8]
    ∧ win0_2.index t = ![t.val / 32, t.val % 8, 0] ∧ win0_3.index t = ![t.val / 32, t.val / 8 % 4, 0] :=
  (by decide +kernel : ∀ t : Fin grid0.N, _)

section
variable (m : (ℓ : Loc nD τ Cert.FourierPosIdeal.sig) → Buf (Elt Ideal) ℓ) (c : Dev nD)

abbrev Am : Vec Ideal S4x8192x1024 .bf16 := m ((c : Thread nD τ).loc main_arg0)

/-- The reference's table of cosines. -/
abbrev cosT : Vec Ideal S8192x8192 .f32 := Cert.FourierPosRefIdeal.Read.val_main_v11 (F := Ideal)

/-- The reference's table of negated sines. -/
abbrev sinT : Vec Ideal S8192x8192 .f32 := Cert.FourierPosRefIdeal.Read.val_main_v16 (F := Ideal)

/-- The kernel's cosine table is the reference's. -/
theorem cos_table : (V m c main_v11 : Vec Ideal S8192x8192 .bf16) = (cosT : Vec Ideal S8192x8192 .f32) := by
  unfold V
  simp only [hostOps0, hostOps0_1, hostOps0_2, List.flatten_cons, List.flatten_nil, List.cons_append, List.nil_append, List.append_nil]
  after_reads_simp
  simp only [StableHlo.TRef.ofBuf_toBuf]
  rfl

/-- The kernel's table of negated sines is the reference's. -/
theorem sin_table : (V m c main_v14 : Vec Ideal S8192x8192 .bf16) = (sinT : Vec Ideal S8192x8192 .f32) := by
  unfold V
  simp only [hostOps0, hostOps0_1, hostOps0_2, List.flatten_cons, List.flatten_nil, List.cons_append, List.nil_append, List.append_nil]
  after_reads_simp
  simp only [StableHlo.TRef.ofBuf_toBuf]
  rfl

/-- One point's share: its cosine block times the block of the first half, plus its sine block times that of the second. -/
abbrev part (t : Fin cfg0.N) : Vec Ideal S2048x512 .f32 :=
  k0_pay1 (F := Ideal) (iblk m c 0 t)
    (View.ld (iblk m c 2 t) (Rect.unit ![0, 0, 0] ![1, 1024, 512] inb_S1x1024x1024_S1x1024x512_0_0_0)) (iblk m c 1 t)
    (View.ld (iblk m c 2 t) (Rect.unit ![0, 0, 512] ![1, 1024, 512] inb_S1x1024x1024_S1x1024x512_0_0_512))

/-- The shares numbered by the natural numbers. -/
def share (n : ℕ) (y : S2048x512.Idx) : EReal := if h : n < cfg0.N then part m c ⟨n, h⟩ y else 0

theorem share_of (t : Fin cfg0.N) (y : S2048x512.Idx) : share m c t.val y = part m c t y := dif_pos t.isLt

/-- After a first key block's point the scratch holds its share. -/
theorem first (t : Fin cfg0.N) (h : t.val % 8 = 0) (y : S2048x512.Idx) :
    (outsAt0 m c t.val t.isLt).2 y = 0 + share m c t.val y := by
  rw [outsAt0_A m c t h (by omega) (by omega), share_of]
  dsimp only
  frame_out
  rw [pay2_at]
  exact (zero_add _).symm

/-- After a later key block's point it holds one share more. -/
theorem later (t : Fin cfg0.N) (h : ¬t.val % 8 = 0) (y : S2048x512.Idx) :
    (outsAt0 m c t.val t.isLt).2 y
      = (show EReal from (outsAt0 m c (t.val - 1) (Nat.lt_of_le_of_lt (Nat.sub_le _ _) t.isLt)).2 y) + share m c t.val y := by
  rw [share_of]
  by_cases h7 : t.val % 8 = 7
  · rw [outsAt0_C m c t h (by omega) h7]
    dsimp only
    frame_out
    refine (pay3_at _ _ _ _ _ y).trans (congrArg (fun z : Vec Ideal S2048x512 .f32 => (show EReal from z y) + _) ?_)
    exact (Memref.isWhole_whole _).read_unread _
  · rw [outsAt0_B m c t h (by omega) h7]
    dsimp only
    frame_out
    refine (pay3_at _ _ _ _ _ y).trans (congrArg (fun z : Vec Ideal S2048x512 .f32 => (show EReal from z y) + _) ?_)
    exact (Memref.isWhole_whole _).read_unread _

/-- At a last key block's point the output is the scratch. -/
theorem last (t : Fin cfg0.N) (h : t.val % 8 = 7) (y : S1x2048x512.Idx) :
    (outsAt0 m c t.val t.isLt).1 y = (show EReal from (outsAt0 m c t.val t.isLt).2 (ix2 (y 1) (y 2))) := by
  rw [outsAt0_C m c t (by omega) (by omega) h]
  dsimp only
  frame_out
  exact pay4_at _ y

/-- The two transforms added: what the call computes. -/
def out (A : Vec Ideal S4x8192x1024 .bf16) : Vec Ideal S4x8192x512 .bf16 :=
  fun i => (∑ k : Fin 8192, (show EReal from cosT (ix2 (i 1) k)) * (show EReal from A (ix3 (i 0) k ⟨(i 2).val, lt_of_lt_of_le (i 2).isLt (by decide)⟩)))
    + ∑ k : Fin 8192, (show EReal from sinT (ix2 (i 1) k)) * (show EReal from A (ix3 (i 0) k ⟨512 + (i 2).val, Nat.add_lt_add_left (i 2).isLt 512⟩))

/-- One point's share, in the argument and the tables. -/
theorem part_eq (s : Fin cfg0.N) (y : S2048x512.Idx) (i : S4x8192x512.Idx)
    (h0 : (i 0).val = s.val / 32) (h1 : (i 1).val = s.val / 8 % 4 * 2048 + (y 0).val) (h2 : (i 2).val = (y 1).val) :
    part m c s y
      = (∑ k : Fin 1024, (show EReal from cosT (ix2 (i 1) ⟨s.val % 8 * 1024 + k.val, by omega⟩))
            * (show EReal from Am m c (ix3 (i 0) ⟨s.val % 8 * 1024 + k.val, by omega⟩ ⟨(i 2).val, lt_of_lt_of_le (i 2).isLt (by decide)⟩)))
        + ∑ k : Fin 1024, (show EReal from sinT (ix2 (i 1) ⟨s.val % 8 * 1024 + k.val, by omega⟩))
            * (show EReal from Am m c (ix3 (i 0) ⟨s.val % 8 * 1024 + k.val, by omega⟩ ⟨512 + (i 2).val, Nat.add_lt_add_left (i 2).isLt 512⟩)) := by
  refine (pay_at _ _ _ y).trans ?_
  refine congrArg₂ (fun x z : EReal => x + z)
    (Finset.sum_congr rfl fun k _ => congrArg₂ (fun x z : EReal => x * z) ?_ ?_)
    (Finset.sum_congr rfl fun k _ => congrArg₂ (fun x z : EReal => x * z) ?_ ?_)
  · rw [← cos_table m c]
    blk_ext [iblk, idx s, h0, h1, h2]
  · refine Eq.trans ?_ (congrFun (V_main_arg0 m c) _)
    blk_ext [iblk, idx s, h0, h1, h2]
  · rw [← sin_table m c]
    blk_ext [iblk, idx s, h0, h1, h2]
  · refine Eq.trans ?_ (congrFun (V_main_arg0 m c) _)
    blk_ext [iblk, idx s, h0, h1, h2]

/-- The array the kernel leaves. -/
theorem final : (dats m 0 c).arrAt 3 cfg0.N = out (Am m c) := by
  refine (dats m 0 c).arrAt_eq_of_covers 3 _ (by decide +kernel) fun t hf y => ?_
  have h7 : t.val % 8 = 7 := (by decide +kernel : ∀ t : Fin grid0.N, (cfg0.win 3).flush t = true → t.val % 8 = 7) t hf
  have hN : t.val < 128 := lt_of_lt_of_eq t.isLt (show cfg0.N = 128 from N_0)
  rw [after0_3]
  refine (last m c t h7 y).trans ?_
  refine (Pipeline.eq_sum_of_reset_step_apply (fun n h => (outsAt0 m c n h).2) 8 (fun _ => (0 : EReal)) (share m c)
    (first m c) (later m c) t (ix2 (y 1) (y 2))).trans ?_
  rw [zero_add, h7, Finset.sum_range]
  unfold out
  have e0 : (((win0_3.blk t).view.emb y) 0).val = t.val / 32 := by blk_simp [idx t]
  have e1 : (((win0_3.blk t).view.emb y) 1).val = t.val / 8 % 4 * 2048 + (y 1).val := by blk_simp [idx t]
  have e2 : (((win0_3.blk t).view.emb y) 2).val = (y 2).val := by blk_simp [idx t]
  refine (Finset.sum_congr rfl fun (q : Fin (7 + 1)) _ => (?_ : _ = _)).trans (Finset.sum_add_distrib.trans
    (congrArg₂ (fun x z : EReal => x + z)
      (Fin.sum_mul_add_fin 8 1024 (fun k : Fin 8192 => (show EReal from cosT (ix2 (((win0_3.blk t).view.emb y) 1) k)) * (show EReal from Am m c (ix3 (((win0_3.blk t).view.emb y) 0) k ⟨(((win0_3.blk t).view.emb y) 2).val, lt_of_lt_of_le (((win0_3.blk t).view.emb y) 2).isLt (show 512 ≤ 1024 by decide)⟩))) rfl)
      (Fin.sum_mul_add_fin 8 1024 (fun k : Fin 8192 => (show EReal from sinT (ix2 (((win0_3.blk t).view.emb y) 1) k)) * (show EReal from Am m c (ix3 (((win0_3.blk t).view.emb y) 0) k ⟨512 + (((win0_3.blk t).view.emb y) 2).val, Nat.add_lt_add_left (((win0_3.blk t).view.emb y) 2).isLt 512⟩))) rfl)))
  have hq : q.val < 8 := q.isLt
  have hs : 8 * (t.val / 8) + q.val < cfg0.N := by rw [show cfg0.N = 128 from N_0]; omega
  have hm : (8 * (t.val / 8) + q.val) % 8 = q.val := by omega
  refine (dif_pos hs).trans ((part_eq m c ⟨8 * (t.val / 8) + q.val, hs⟩ _ ((win0_3.blk t).view.emb y)
    (by rw [e0]; show t.val / 32 = (8 * (t.val / 8) + q.val) / 32; omega)
    (by rw [e1]; show t.val / 8 % 4 * 2048 + (y 1).val = (8 * (t.val / 8) + q.val) / 8 % 4 * 2048 + (y 1).val; omega) e2).trans ?_)
  simp only [hm]

end

open Cert.FourierPosRefIdeal.Read in
/-- The reference, read at an index. -/
theorem ref_at (A : Vec Ideal S4x8192x1024 .bf16) (i : S4x8192x512.Idx) :
    val_main_v21 (F := Ideal) A i = out A i := by
  rw [val_main_v21_apply, val_main_v20_apply, val_main_v14_apply, val_main_v13_apply, val_main_v19_apply, val_main_v18_apply]
  refine congrArg₂ (fun x z : EReal => x + z)
    (Finset.sum_congr rfl fun k _ => (mul_comm _ _).trans (congrArg₂ (fun x z : EReal => x * z) ?_ ?_))
    (Finset.sum_congr rfl fun k _ => (mul_comm _ _).trans (congrArg₂ (fun x z : EReal => x * z) ?_ ?_))
  · exact congrArg cosT (funext fun a => match a with | ⟨0, _⟩ => rfl | ⟨1, _⟩ => rfl)
  · rw [val_main_v12_apply, val_main_v0_apply]
    exact congrArg A (funext fun a => match a with | ⟨0, _⟩ => rfl | ⟨1, _⟩ => rfl | ⟨2, _⟩ => rfl)
  · exact congrArg sinT (funext fun a => match a with | ⟨0, _⟩ => rfl | ⟨1, _⟩ => rfl)
  · rw [val_main_v17_apply, val_main_v0_apply]
    exact congrArg A (funext fun a => match a with | ⟨0, _⟩ => rfl | ⟨1, _⟩ => rfl | ⟨2, _⟩ => rfl)

/-- From arguments that agree both programs end with the same array. -/
theorem algebraic : Cert.algebraic_FourierPosIdeal_FourierPosRefIdeal := by
  intro m ρ m' ρ' _ hagree
  refine ⟨fun c => out (Am m c), ?_, ?_⟩
  · exact (θ_run Cert.FourierPosIdeal.defs _ _).mono (fun r h c => ⟨(h c).1.trans (final m c), (h c).2⟩)
      (Cert.FourierPosIdeal.Value.run_blocks m ρ)
  · refine (θ_run Cert.FourierPosRefIdeal.defs _ _).mono (fun r h c => ⟨(h c).1.trans ?_, (h c).2⟩)
      (Cert.FourierPosRefIdeal.Value.run (F := Ideal) m' ρ')
    rw [Cert.FourierPosRefIdeal.Read.val_main_v21_eq, hagree c]
    exact funext fun i => ref_at (Am m c) i

end Cert.FourierPosIdeal.Val
-- ==== Proof.NormVal.lean ====
module

public import proofs.«01_k».proof.Proof.Gen.NormIdeal.Value
public import proofs.«01_k».proof.Proof.Gen.NormRefIdeal.Read
public import proofs.«01_k».proof.Proof.Gen.NormRefIdeal.Run
public import proofs.«01_k».proof.Defs
public import Idealize.ShloMosaic.Lib.Pipeline.ValueKit

@[expose] public section

set_option maxRecDepth 16384

noncomputable section

/-! # The root-mean-square norm: the kernel's array and the reference's -/

namespace Cert.NormIdeal.Val

open Idealize.ShloMosaic Idealize.ShloMosaic.TcCoe Idealize.SL.Sem
open Cert.NormIdeal Cert.NormIdeal.Gen

/-- The reciprocal root of the mean of the squares, shifted by the small constant. -/
abbrev scale (s : EReal) : EReal :=
  Ideal.rsqrt (Ideal.div s (Ideal.ofBits .f32 0x45000000#32) + Ideal.ofBits .f32 0x358637BD#32)

/-- Each row over its root mean square, times the gain: what the call computes. -/
def out (X : Vec Ideal S32768x2048 .f32) (g : Vec Ideal S2048 .f32) : Vec Ideal S32768x2048 .f32 :=
  fun i => (show EReal from X i)
    * scale (∑ k : Fin 2048, (show EReal from X (ix2 (i 0) k)) * (show EReal from X (ix2 (i 0) k)))
    * (show EReal from g (ix1 (i 1)))

/-- What one point stores, at an index of its block. -/
theorem pay_at (x : Vec Ideal S512x2048 .f32) (g : Vec Ideal S1x2048 .f32)
    (i : S512x2048.Idx) : k0_pay1 (F := Ideal) x g i
      = (show EReal from x i)
        * scale (∑ k : Fin 2048, (show EReal from x (ix2 (i 0) k)) * (show EReal from x (ix2 (i 0) k)))
        * (show EReal from g (ix2 0 (i 1))) := by
  pointwise [k0_pay1]

/-- The windows' block indices at a point: 64 row blocks. -/
theorem idx : ∀ t : Fin cfg0.N, win0_0.index t = ![t.val, 0] ∧ win0_1.index t = ![0, 0] ∧ win0_2.index t = ![t.val, 0] :=
  (by decide +kernel : ∀ t : Fin grid0.N, _)

section
variable (m : (ℓ : Loc nD τ Cert.NormIdeal.sig) → Buf (Elt Ideal) ℓ) (c : Dev nD)

abbrev Xm : Vec Ideal S32768x2048 .f32 := m ((c : Thread nD τ).loc main_arg0)
abbrev Gm : Vec Ideal S2048 .f32 := m ((c : Thread nD τ).loc main_arg1)

/-- The array the kernel leaves. -/
theorem final : (dats m 0 c).arrAt 2 cfg0.N = out (Xm m c) (Gm m c) := by
  refine (dats m 0 c).arrAt_eq_of_covers 2 _ (by decide +kernel) fun t hf y => ?_
  blk_simp
  rw [after0_2]
  frame_out
  refine (pay_at _ _ y).trans ?_
  unfold out
  refine congrArg₂ (fun x z : EReal => x * z) (congrArg₂ (fun x z : EReal => x * scale z) ?_ (Finset.sum_congr rfl fun k _ => congrArg₂ (fun x z : EReal => x * z) ?_ ?_)) ?_
  · blk_ext [iblk, V, idx t]
  · blk_ext [iblk, V, idx t]
  · blk_ext [iblk, V, idx t]
  · blk_ext! [iblk, V, idx t]

end

open Cert.NormRefIdeal.Read in
/-- The reference, read at an index. -/
theorem ref_at (X : Vec Ideal S32768x2048 .f32) (g : Vec Ideal S2048 .f32) (i : S32768x2048.Idx) :
    val_main_v12 (F := Ideal) X g i = out X g i := by
  rw [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply]
  refine congrArg₂ (fun x z : EReal => x * z) (congrArg (fun z : EReal => X i * scale z) ?_)
    (congrArg g (funext fun a => match a with | ⟨0, _⟩ => rfl))
  refine (congrArg (fun z : EReal => z + _) Ideal.ofBits_zero_f32).trans ((zero_add _).trans (Finset.sum_congr rfl fun k _ => ?_))
  rw [val_main_v0_apply]
  exact congrArg (fun z : EReal => z * z) (congrArg X (funext fun a => match a with | ⟨0, _⟩ => rfl | ⟨1, _⟩ => rfl))

/-- From arguments that agree both programs end with the same array. -/
theorem algebraic : Cert.algebraic_NormIdeal_NormRefIdeal := by
  intro m ρ m' ρ' _ hagree
  refine ⟨fun c => out (Xm m c) (Gm m c), ?_, ?_⟩
  · exact (θ_run Cert.NormIdeal.defs _ _).mono (fun r h c => ⟨(h c).1.trans (final m c), (h c).2⟩)
      (Cert.NormIdeal.Value.run_blocks m ρ)
  · refine (θ_run Cert.NormRefIdeal.defs _ _).mono (fun r h c => ⟨(h c).1.trans ?_, (h c).2⟩)
      (Cert.NormRefIdeal.Value.run (F := Ideal) m' ρ')
    rw [Cert.NormRefIdeal.Read.val_main_v12_eq, (hagree c).1, (hagree c).2]
    exact funext fun i => ref_at (Xm m c) (Gm m c) i

end Cert.NormIdeal.Val
-- ==== Proof.FfnInVal.lean ====
module

public import proofs.«01_k».proof.Proof.Gen.FfnInIdeal.Value
public import proofs.«01_k».proof.Proof.Gen.FfnInRefIdeal.Read
public import proofs.«01_k».proof.Proof.Gen.FfnInRefIdeal.Run
public import proofs.«01_k».proof.Defs
public import Idealize.ShloMosaic.Lib.Pipeline.ValueKit

@[expose] public section

set_option maxRecDepth 16384

noncomputable section

/-! # The feed-forward block's gated first projections: the kernel's array and the reference's -/

namespace Cert.FfnInIdeal.Val

open Idealize.ShloMosaic Idealize.ShloMosaic.TcCoe Idealize.SL.Sem
open Cert.FfnInIdeal Cert.FfnInIdeal.Gen

/-- One row of `H` against one column of `W`. -/
abbrev dot (H : Vec Ideal S32768x2048 .bf16) (W : Vec Ideal S2048x5632 .f32) (i : S32768x5632.Idx) : EReal :=
  ∑ k : Fin 2048, (show EReal from H (ix2 (i 0) k)) * (show EReal from W (ix2 k (i 1)))

/-- The gate's product, through its logistic, times the other product: what the call computes. -/
def out (H : Vec Ideal S32768x2048 .bf16) (G U : Vec Ideal S2048x5632 .f32) : Vec Ideal S32768x5632 .bf16 :=
  fun i => dot H G i * Ideal.logistic (dot H G i) * dot H U i

/-- What one point stores, at an index of its block. -/
theorem pay_at (x0 : Vec Ideal S1024x2048 .bf16) (x1 x2 : Vec Ideal S2048x512 .bf16)
    (i : S1024x512.Idx) : k0_pay1 (F := Ideal) x0 x1 x2 i
      = (∑ k : Fin 2048, (show EReal from x0 (ix2 (i 0) k)) * (show EReal from x1 (ix2 k (i 1))) : EReal)
        * Ideal.logistic (∑ k : Fin 2048, (show EReal from x0 (ix2 (i 0) k)) * (show EReal from x1 (ix2 k (i 1))) : EReal)
        * (∑ k : Fin 2048, (show EReal from x0 (ix2 (i 0) k)) * (show EReal from x2 (ix2 k (i 1))) : EReal) := by
  pointwise [k0_pay1]

/-- The windows' block indices at a point: the kernel goes over 32 row blocks by 11 column blocks. -/
theorem idx : ∀ t : Fin cfg0.N, win0_0.index t = ![t.val / 11, 0] ∧ win0_1.index t = ![0, t.val % 11]
    ∧ win0_2.index t = ![0, t.val % 11] ∧ win0_3.index t = ![t.val / 11, t.val % 11] :=
  (by decide +kernel : ∀ t : Fin grid0.N, _)

section
variable (m : (ℓ : Loc nD τ Cert.FfnInIdeal.sig) → Buf (Elt Ideal) ℓ) (c : Dev nD)

abbrev Hm : Vec Ideal S32768x2048 .bf16 := m ((c : Thread nD τ).loc main_arg0)
abbrev Gm : Vec Ideal S2048x5632 .f32 := m ((c : Thread nD τ).loc main_arg1)
abbrev Um : Vec Ideal S2048x5632 .f32 := m ((c : Thread nD τ).loc main_arg2)

/-- The array the kernel leaves. -/
theorem final : (dats m 0 c).arrAt 3 cfg0.N = out (Hm m c) (Gm m c) (Um m c) := by
  refine (dats m 0 c).arrAt_eq_of_covers 3 _ (by decide +kernel) fun t hf y => ?_
  blk_simp
  rw [after0_3]
  frame_out
  refine (pay_at _ _ _ y).trans ?_
  unfold out
  refine congrArg₂ (fun x z : EReal => x * Ideal.logistic x * z) (Finset.sum_congr rfl fun k _ => congrArg₂ (fun x z : EReal => x * z) ?_ ?_) (Finset.sum_congr rfl fun k _ => congrArg₂ (fun x z : EReal => x * z) ?_ ?_)
  · blk_ext [iblk, V, idx t]
  · blk_ext [iblk, V, idx t]
  · blk_ext [iblk, V, idx t]
  · blk_ext [iblk, V, idx t]

end

open Cert.FfnInRefIdeal.Read in
/-- The reference's first product, read at an index. -/
theorem ref_gate (H : Vec Ideal S32768x2048 .bf16) (W : Vec Ideal S2048x5632 .f32) (i : S32768x5632.Idx) :
    val_main_v1 (F := Ideal) H W i = dot H W i := by
  rw [val_main_v1_apply]
  refine Finset.sum_congr rfl fun k _ => congrArg₂ (fun x z : EReal => x * z) ?_ ?_
  · rw [val_main_v0_apply]
    exact congrArg H (funext fun a => match a with | ⟨0, _⟩ => rfl | ⟨1, _⟩ => rfl)
  · exact congrArg W (funext fun a => match a with | ⟨0, _⟩ => rfl | ⟨1, _⟩ => rfl)

open Cert.FfnInRefIdeal.Read in
/-- The reference's second product, read at an index. -/
theorem ref_up (H : Vec Ideal S32768x2048 .bf16) (W : Vec Ideal S2048x5632 .f32) (i : S32768x5632.Idx) :
    val_main_v3 (F := Ideal) H W i = dot H W i := by
  rw [val_main_v3_apply]
  refine Finset.sum_congr rfl fun k _ => congrArg₂ (fun x z : EReal => x * z) ?_ ?_
  · rw [val_main_v0_apply]
    exact congrArg H (funext fun a => match a with | ⟨0, _⟩ => rfl | ⟨1, _⟩ => rfl)
  · exact congrArg W (funext fun a => match a with | ⟨0, _⟩ => rfl | ⟨1, _⟩ => rfl)

/-- One over one plus the exponential of the negative is the logistic. -/
theorem logistic_eq (x : EReal) :
    Ideal.div (Ideal.ofBits .f32 0x3F800000#32) (Ideal.ofBits .f32 0x3F800000#32 + Ideal.exp (-x)) = Ideal.logistic x := by
  rw [Ideal.ofBits_one_f32]
  rfl

open Cert.FfnInRefIdeal.Read in
/-- The reference, read at an index. -/
theorem ref_at (H : Vec Ideal S32768x2048 .bf16) (G U : Vec Ideal S2048x5632 .f32) (i : S32768x5632.Idx) :
    val_main_v5 (F := Ideal) H G U i = out H G U i := by
  rw [val_main_v5_apply, val_main_v4_apply, val_main_v2_apply, ref_up, val_main_call0_v5_apply, val_main_call0_v4_apply,
    val_main_call0_cst_0_apply, val_main_call0_v3_apply, val_main_call0_v2_apply, val_main_call0_cst_apply,
    val_main_call0_v1_apply, val_main_call0_v0_apply, ref_gate]
  exact congrArg (fun z : EReal => dot H G i * z * dot H U i) (logistic_eq _)

/-- From arguments that agree both programs end with the same array. -/
theorem algebraic : Cert.algebraic_FfnInIdeal_FfnInRefIdeal := by
  intro m ρ m' ρ' _ hagree
  refine ⟨fun c => out (Hm m c) (Gm m c) (Um m c), ?_, ?_⟩
  · exact (θ_run Cert.FfnInIdeal.defs _ _).mono (fun r h c => ⟨(h c).1.trans (final m c), (h c).2⟩)
      (Cert.FfnInIdeal.Value.run_blocks m ρ)
  · refine (θ_run Cert.FfnInRefIdeal.defs _ _).mono (fun r h c => ⟨(h c).1.trans ?_, (h c).2⟩)
      (Cert.FfnInRefIdeal.Value.run (F := Ideal) m' ρ')
    rw [Cert.FfnInRefIdeal.Read.val_main_v5_eq, (hagree c).1, (hagree c).2.1, (hagree c).2.2]
    exact funext fun i => ref_at (Hm m c) (Gm m c) (Um m c) i

end Cert.FfnInIdeal.Val
-- ==== Proof.FfnOutVal.lean ====
module

public import proofs.«01_k».proof.Proof.Gen.FfnOutIdeal.Value
public import proofs.«01_k».proof.Proof.Gen.FfnOutRefIdeal.Read
public import proofs.«01_k».proof.Proof.Gen.FfnOutRefIdeal.Run
public import proofs.«01_k».proof.Defs
public import Idealize.ShloMosaic.Lib.Pipeline.ValueKit

@[expose] public section

set_option maxRecDepth 16384

noncomputable section

/-! # The feed-forward block's second projection with its residual: the kernel's array and the reference's -/

namespace Cert.FfnOutIdeal.Val

open Idealize.ShloMosaic Idealize.ShloMosaic.TcCoe Idealize.SL.Sem
open Cert.FfnOutIdeal Cert.FfnOutIdeal.Gen

/-- One half, as both programs spell it. -/
abbrev half : EReal := Ideal.ofBits .f32 0x3F000000#32

/-- The residual plus half the product: what the call computes. -/
def out (H : Vec Ideal S32768x5632 .bf16) (W : Vec Ideal S5632x2048 .f32) (X : Vec Ideal S32768x2048 .f32) :
    Vec Ideal S32768x2048 .f32 :=
  fun i => (show EReal from X i) + half * ∑ k : Fin 5632, (show EReal from H (ix2 (i 0) k)) * (show EReal from W (ix2 k (i 1)))

/-- What one point stores, at an index of its block. -/
theorem pay_at (x0 : Vec Ideal S1024x5632 .bf16) (x1 : Vec Ideal S5632x256 .bf16) (x2 : Vec Ideal S1024x256 .f32)
    (i : S1024x256.Idx) : k0_pay1 (F := Ideal) x0 x1 x2 i
      = (show EReal from x2 i) + half * ∑ k : Fin 5632, (show EReal from x0 (ix2 (i 0) k)) * (show EReal from x1 (ix2 k (i 1))) := by
  pointwise [k0_pay1]

/-- The windows' block indices at a point: 32 row blocks by 8 column blocks. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

section
variable (m : (ℓ : Loc nD τ Cert.FfnOutIdeal.sig) → Buf (Elt Ideal) ℓ) (c : Dev nD)

abbrev Hm : Vec Ideal S32768x5632 .bf16 := m ((c : Thread nD τ).loc main_arg0)
abbrev Wm : Vec Ideal S5632x2048 .f32 := m ((c : Thread nD τ).loc main_arg1)
abbrev Xm : Vec Ideal S32768x2048 .f32 := m ((c : Thread nD τ).loc main_arg2)

/-- The array the kernel leaves. -/
theorem final : (dats m 0 c).arrAt 3 cfg0.N = out (Hm m c) (Wm m c) (Xm m c) := by
  refine (dats m 0 c).arrAt_eq_of_covers 3 _ (by decide +kernel) fun t hf y => ?_
  blk_simp
  rw [after0_3]
  frame_out
  refine (pay_at _ _ _ y).trans ?_
  unfold out
  refine congrArg₂ (fun x z : EReal => x + half * z) ?_ (Finset.sum_congr rfl fun k _ => congrArg₂ (fun x z : EReal => x * z) ?_ ?_)
  · blk_ext [iblk, V, idx t]
  · blk_ext [iblk, V, idx t]
  · blk_ext [iblk, V, idx t]
end

open Cert.FfnOutRefIdeal.Read in
/-- The reference, read at an index. -/
theorem ref_at (H : Vec Ideal S32768x5632 .bf16) (W : Vec Ideal S5632x2048 .f32) (X : Vec Ideal S32768x2048 .f32) (i : S32768x2048.Idx) :
    val_main_v4 (F := Ideal) H W X i = out H W X i := by
  rw [val_main_v4_apply, val_main_v3_apply, val_main_v2_apply, val_main_cst_apply, val_main_v1_apply]
  refine congrArg₂ (fun x z : EReal => x + half * z) rfl (Finset.sum_congr rfl fun k _ => congrArg₂ (fun x z : EReal => x * z) ?_ ?_)
  · rw [val_main_v0_apply]
    exact congrArg H (funext fun a => match a with | ⟨0, _⟩ => rfl | ⟨1, _⟩ => rfl)
  · exact congrArg W (funext fun a => match a with | ⟨0, _⟩ => rfl | ⟨1, _⟩ => rfl)

/-- From arguments that agree both programs end with the same array. -/
theorem algebraic : Cert.algebraic_FfnOutIdeal_FfnOutRefIdeal := by
  intro m ρ m' ρ' _ hagree
  refine ⟨fun c => out (Hm m c) (Wm m c) (Xm m c), ?_, ?_⟩
  · exact (θ_run Cert.FfnOutIdeal.defs _ _).mono (fun r h c => ⟨(h c).1.trans (final m c), (h c).2⟩)
      (Cert.FfnOutIdeal.Value.run_blocks m ρ)
  · refine (θ_run Cert.FfnOutRefIdeal.defs _ _).mono (fun r h c => ⟨(h c).1.trans ?_, (h c).2⟩)
      (Cert.FfnOutRefIdeal.Value.run (F := Ideal) m' ρ')
    rw [Cert.FfnOutRefIdeal.Read.val_main_v4_eq, (hagree c).1, (hagree c).2.1, (hagree c).2.2]
    exact funext fun i => ref_at (Hm m c) (Wm m c) (Xm m c) i

end Cert.FfnOutIdeal.Val

end
-- ==== Proof.MergeVal.lean ====
module

public import proofs.«01_k».proof.Proof.Gen.MergeIdeal.Value
public import proofs.«01_k».proof.Proof.Gen.MergeRefIdeal.Read
public import proofs.«01_k».proof.Proof.Gen.MergeRefIdeal.Run
public import proofs.«01_k».proof.Defs
public import Idealize.ShloMosaic.Lib.Pipeline.ValueKit

@[expose] public section

set_option maxRecDepth 16384

noncomputable section

/-! # The gated merge of the four branches: the kernel's array and the reference's -/

namespace Cert.MergeIdeal.Val

open Idealize.ShloMosaic Idealize.ShloMosaic.TcCoe Idealize.SL.Sem
open Cert.MergeIdeal Cert.MergeIdeal.Gen

/-- One branch's share: the logistic of its gate times its product. -/
def term (U : Vec Ideal S32768x2048 .bf16) (WG : Vec Ideal S4x2048x2048 .f32) (BG : Vec Ideal S4x2048 .f32)
    (O : Vec Ideal S4x32768x512 .bf16) (WB : Vec Ideal S4x512x2048 .f32) (b : Fin 4) (i : S32768x2048.Idx) : EReal :=
  Ideal.logistic ((∑ k : Fin 2048, (show EReal from U (ix2 (i 0) k)) * (show EReal from WG (ix3 b k (i 1))))
      + (show EReal from BG (ix2 b (i 1))))
    * ∑ k : Fin 512, (show EReal from O (ix3 b (i 0) k)) * (show EReal from WB (ix3 b k (i 1)))

/-- The four shares added in order: what the call computes. -/
def out (U : Vec Ideal S32768x2048 .bf16) (WG : Vec Ideal S4x2048x2048 .f32) (BG : Vec Ideal S4x2048 .f32)
    (O : Vec Ideal S4x32768x512 .bf16) (WB : Vec Ideal S4x512x2048 .f32) : Vec Ideal S32768x2048 .bf16 :=
  fun i => term U WG BG O WB 0 i + term U WG BG O WB 1 i + term U WG BG O WB 2 i + term U WG BG O WB 3 i

/-- One branch's share from one point's blocks, at an index of the block. -/
theorem pay_at (x0 : Vec Ideal S1024x2048 .bf16) (x1 : Vec Ideal S1x2048x512 .bf16) (x2 : Vec Ideal S1x1x512 .f32)
    (x3 : Vec Ideal S1x1024x512 .bf16) (x4 : Vec Ideal S1x512x512 .bf16) (i : S1024x512.Idx) :
    k0_pay1 (F := Ideal) x0 x1 x2 x3 x4 i
      = Ideal.logistic ((∑ k : Fin 2048, (show EReal from x0 (ix2 (i 0) k)) * (show EReal from x1 (ix3 0 k (i 1))))
          + (show EReal from x2 (ix3 0 0 (i 1))))
        * ∑ k : Fin 512, (show EReal from x3 (ix3 0 (i 0) k)) * (show EReal from x4 (ix3 0 k (i 1))) := by
  pointwise [k0_pay1]

/-- The first branch's store. -/
theorem pay2_at (x0 : Vec Ideal S1024x2048 .bf16) (x1 : Vec Ideal S1x2048x512 .bf16) (x2 : Vec Ideal S1x1x512 .f32)
    (x3 : Vec Ideal S1x1024x512 .bf16) (x4 : Vec Ideal S1x512x512 .bf16) :
    k0_pay2 (F := Ideal) x0 x1 x2 x3 x4 = k0_pay1 x0 x1 x2 x3 x4 := by
  unfold k0_pay2
  generalize k0_pay1 (F := Ideal) x0 x1 x2 x3 x4 = p
  funext i
  pointwise []

/-- An inner branch's store. -/
theorem pay3_at (x0 : Vec Ideal S1024x2048 .bf16) (x1 : Vec Ideal S1x2048x512 .bf16) (x2 : Vec Ideal S1x1x512 .f32)
    (x3 : Vec Ideal S1x1024x512 .bf16) (x4 : Vec Ideal S1x512x512 .bf16) (s : Vec Ideal S1024x512 .f32) (i : S1024x512.Idx) :
    k0_pay3 (F := Ideal) x0 x1 x2 x3 x4 s i = (show EReal from s i) + (show EReal from k0_pay1 (F := Ideal) x0 x1 x2 x3 x4 i) := by
  unfold k0_pay3
  generalize k0_pay1 (F := Ideal) x0 x1 x2 x3 x4 = p
  pointwise []

/-- The last branch's store, into the output. -/
theorem pay4_at (x0 : Vec Ideal S1024x2048 .bf16) (x1 : Vec Ideal S1x2048x512 .bf16) (x2 : Vec Ideal S1x1x512 .f32)
    (x3 : Vec Ideal S1x1024x512 .bf16) (x4 : Vec Ideal S1x512x512 .bf16) (s : Vec Ideal S1024x512 .f32) (i : S1024x512.Idx) :
    k0_pay4 (F := Ideal) x0 x1 x2 x3 x4 s i = (show EReal from s i) + (show EReal from k0_pay1 (F := Ideal) x0 x1 x2 x3 x4 i) := by
  unfold k0_pay4
  generalize k0_pay1 (F := Ideal) x0 x1 x2 x3 x4 = p
  pointwise []

/-- The windows' block indices at a point: the kernel goes over 32 row blocks, 4 column blocks, and the 4 branches innermost. -/
theorem idx : ∀ t : Fin cfg0.N, win0_0.index t = ![t.val / 16, 0] ∧ win0_1.index t = ![t.val % 4, 0, t.val / 4 % 4]
    ∧ win0_2.index t = ![t.val % 4, 0, t.val / 4 % 4] ∧ win0_3.index t = ![t.val % 4, t.val / 16, 0]
    ∧ win0_4.index t = ![t.val % 4, 0, t.val / 4 % 4] ∧ win0_5.index t = ![t.val / 16, t.val / 4 % 4] :=
  (by decide +kernel : ∀ t : Fin grid0.N, _)

section
variable (m : (ℓ : Loc nD τ Cert.MergeIdeal.sig) → Buf (Elt Ideal) ℓ) (c : Dev nD)

abbrev Um : Vec Ideal S32768x2048 .bf16 := m ((c : Thread nD τ).loc main_arg0)
abbrev WGm : Vec Ideal S4x2048x2048 .f32 := m ((c : Thread nD τ).loc main_arg1)
abbrev BGm : Vec Ideal S4x2048 .f32 := m ((c : Thread nD τ).loc main_arg2)
abbrev Om : Vec Ideal S4x32768x512 .bf16 := m ((c : Thread nD τ).loc main_arg3)
abbrev WBm : Vec Ideal S4x512x2048 .f32 := m ((c : Thread nD τ).loc main_arg4)

/-- One point's share, in the arguments. -/
theorem share (s : Fin cfg0.N) (b : Fin 4) (hb : s.val % 4 = b.val) (y : S1024x512.Idx) (i : S32768x2048.Idx)
    (h0 : (i 0).val = s.val / 16 * 1024 + (y 0).val) (h1 : (i 1).val = s.val / 4 % 4 * 512 + (y 1).val) :
    k0_pay1 (F := Ideal) (iblk m c 0 s) (iblk m c 1 s) (iblk m c 2 s) (iblk m c 3 s) (iblk m c 4 s) y
      = term (Um m c) (WGm m c) (BGm m c) (Om m c) (WBm m c) b i := by
  refine (pay_at _ _ _ _ _ y).trans ?_
  unfold term
  refine congrArg₂ (fun x z : EReal => Ideal.logistic x * z)
    (congrArg₂ (fun x z : EReal => x + z) (Finset.sum_congr rfl fun k _ => congrArg₂ (fun x z : EReal => x * z) ?_ ?_) ?_)
    (Finset.sum_congr rfl fun k _ => congrArg₂ (fun x z : EReal => x * z) ?_ ?_)
  · blk_ext! [iblk, V, idx s, h0, h1, hb]
  · blk_ext! [iblk, V, idx s, h0, h1, hb]
  · blk_ext! [iblk, V, idx s, h0, h1, hb]
  · blk_ext! [iblk, V, idx s, h0, h1, hb]
  · blk_ext! [iblk, V, idx s, h0, h1, hb]

/-- After a first branch's point the scratch holds its share. -/
theorem first (t : Fin cfg0.N) (h : t.val % 4 = 0) (y : S1024x512.Idx) :
    (outsAt0 m c t.val t.isLt).2 y = k0_pay1 (F := Ideal) (iblk m c 0 t) (iblk m c 1 t) (iblk m c 2 t) (iblk m c 3 t) (iblk m c 4 t) y := by
  rw [outsAt0_A m c t h (by omega) (by omega)]
  dsimp only
  frame_out
  rw [pay2_at]

/-- After an inner branch's point it holds one share more. -/
theorem inner (t : Fin cfg0.N) (h : 1 ≤ t.val % 4 ∧ t.val % 4 ≤ 2) (y : S1024x512.Idx) :
    (outsAt0 m c t.val t.isLt).2 y
      = (show EReal from (outsAt0 m c (t.val - 1) (Nat.lt_of_le_of_lt (Nat.sub_le _ _) t.isLt)).2 y)
        + (show EReal from k0_pay1 (F := Ideal) (iblk m c 0 t) (iblk m c 1 t) (iblk m c 2 t) (iblk m c 3 t) (iblk m c 4 t) y) := by
  rw [outsAt0_B m c t (by omega) h (by omega)]
  dsimp only
  frame_out
  refine (pay3_at _ _ _ _ _ _ y).trans (congrArg (fun z : Vec Ideal S1024x512 .f32 => (show EReal from z y) + _) ?_)
  exact (Memref.isWhole_whole _).read_unread _

/-- At a last branch's point the output holds the scratch and the last share. -/
theorem last (t : Fin cfg0.N) (h : t.val % 4 = 3) (y : S1024x512.Idx) :
    (outsAt0 m c t.val t.isLt).1 y
      = (show EReal from (outsAt0 m c (t.val - 1) (Nat.lt_of_le_of_lt (Nat.sub_le _ _) t.isLt)).2 y)
        + (show EReal from k0_pay1 (F := Ideal) (iblk m c 0 t) (iblk m c 1 t) (iblk m c 2 t) (iblk m c 3 t) (iblk m c 4 t) y) := by
  rw [outsAt0_C m c t (by omega) (by omega) h]
  dsimp only
  frame_out
  refine (pay4_at _ _ _ _ _ _ y).trans (congrArg (fun z : Vec Ideal S1024x512 .f32 => (show EReal from z y) + _) ?_)
  exact (Memref.isWhole_whole _).read_unread _

/-- The array the kernel leaves. -/
theorem final : (dats m 0 c).arrAt 5 cfg0.N = out (Um m c) (WGm m c) (BGm m c) (Om m c) (WBm m c) := by
  refine (dats m 0 c).arrAt_eq_of_covers 5 _ (by decide +kernel) fun t hf y => ?_
  have h3 : t.val % 4 = 3 := (by decide +kernel : ∀ t : Fin grid0.N, (cfg0.win 5).flush t = true → t.val % 4 = 3) t hf
  have hN : t.val < 512 := lt_of_lt_of_eq t.isLt (show cfg0.N = 512 from N_0)
  rw [after0_5]
  refine (last m c t h3 y).trans ?_
  rw [inner m c ⟨t.val - 1, lt_of_le_of_lt (by omega) t.isLt⟩ (by show 1 ≤ (t.val - 1) % 4 ∧ (t.val - 1) % 4 ≤ 2; omega) y,
    inner m c ⟨t.val - 1 - 1, lt_of_le_of_lt (by omega) t.isLt⟩ (by show 1 ≤ (t.val - 1 - 1) % 4 ∧ (t.val - 1 - 1) % 4 ≤ 2; omega) y,
    first m c ⟨t.val - 1 - 1 - 1, lt_of_le_of_lt (by omega) t.isLt⟩ (by show (t.val - 1 - 1 - 1) % 4 = 0; omega) y]
  unfold out
  have e0 : (((win0_5.blk t).view.emb y) 0).val = t.val / 16 * 1024 + (y 0).val := by blk_simp [idx t]
  have e1 : (((win0_5.blk t).view.emb y) 1).val = t.val / 4 % 4 * 512 + (y 1).val := by blk_simp [idx t]
  refine congrArg₂ (fun x z : EReal => x + z) (congrArg₂ (fun x z : EReal => x + z) (congrArg₂ (fun x z : EReal => x + z) ?_ ?_) ?_) ?_
  · exact share m c _ 0 (by show (t.val - 1 - 1 - 1) % 4 = 0; omega) y _ (by rw [e0]; dsimp only; omega) (by rw [e1]; dsimp only; omega)
  · exact share m c _ 1 (by show (t.val - 1 - 1) % 4 = 1; omega) y _ (by rw [e0]; dsimp only; omega) (by rw [e1]; dsimp only; omega)
  · exact share m c _ 2 (by show (t.val - 1) % 4 = 2; omega) y _ (by rw [e0]; dsimp only; omega) (by rw [e1]; dsimp only; omega)
  · exact share m c _ 3 h3 y _ e0 e1

end

/-- One over one plus the exponential of the negative is the logistic. -/
theorem logistic_eq (x : EReal) :
    Ideal.div (Ideal.ofBits .f32 0x3F800000#32) (Ideal.ofBits .f32 0x3F800000#32 + Ideal.exp (-x)) = Ideal.logistic x := by
  rw [Ideal.ofBits_one_f32]
  rfl

section
open Cert.MergeRefIdeal.Read
variable (U : Vec Ideal S32768x2048 .bf16) (WG : Vec Ideal S4x2048x2048 .f32) (BG : Vec Ideal S4x2048 .f32)
    (O : Vec Ideal S4x32768x512 .bf16) (WB : Vec Ideal S4x512x2048 .f32) (i : S32768x2048.Idx)

/-- The reference's first share. -/
theorem ref_term_0 : val_main_v22 (F := Ideal) U WG BG O WB i = term U WG BG O WB 0 i := by
  have h0 : (i 0).val < 32768 := (i 0).isLt
  have h1 : (i 1).val < 2048 := (i 1).isLt
  rw [val_main_v22_apply, val_main_v15_apply, val_main_v14_apply, val_main_cst_1_apply, val_main_v13_apply, val_main_v12_apply, val_main_cst_0_apply,
    val_main_v11_apply, val_main_v10_apply, val_main_v9_apply, val_main_v8_apply, val_main_v7_apply, val_main_v6_apply, val_main_v5_apply, val_main_v4_apply, val_main_v21_apply]
  refine congrArg₂ (fun x z : EReal => x * z) ((logistic_eq _).trans (congrArg Ideal.logistic (congrArg₂ (fun x z : EReal => x + z) ?_ ?_))) ?_
  · refine Finset.sum_congr rfl fun k _ => congrArg₂ (fun x z : EReal => x * z) ?_ ?_
    · rw [val_main_v0_apply]
      exact congrArg U (funext fun a => match a with | ⟨0, _⟩ => rfl | ⟨1, _⟩ => rfl)
    · rw [val_main_v3_apply, val_main_v2_apply]
      have hk : k.val < 2048 := k.isLt
      exact congrArg WG (funext fun a => Fin.ext (match a with
        | ⟨0, _⟩ => rfl
        | ⟨1, _⟩ => by show (k.val * 2048 + (i 1).val) / 2048 % 2048 = k.val; omega
        | ⟨2, _⟩ => by show (k.val * 2048 + (i 1).val) % 2048 = (i 1).val; omega))
  · exact congrArg BG (funext fun a => Fin.ext (match a with
        | ⟨0, _⟩ => rfl
        | ⟨1, _⟩ => by show (i 1).val % 2048 = (i 1).val; omega))
  · refine Finset.sum_congr rfl fun k _ => congrArg₂ (fun x z : EReal => x * z) ?_ ?_
    · rw [val_main_v18_apply, val_main_v17_apply, val_main_v16_apply]
      have hk : k.val < 512 := k.isLt
      exact congrArg O (funext fun a => Fin.ext (match a with
        | ⟨0, _⟩ => rfl
        | ⟨1, _⟩ => by show ((i 0).val * 512 + k.val) / 512 % 32768 = (i 0).val; omega
        | ⟨2, _⟩ => by show ((i 0).val * 512 + k.val) % 512 = k.val; omega))
    · rw [val_main_v20_apply, val_main_v19_apply]
      have hk : k.val < 512 := k.isLt
      exact congrArg WB (funext fun a => Fin.ext (match a with
        | ⟨0, _⟩ => rfl
        | ⟨1, _⟩ => by show (k.val * 2048 + (i 1).val) / 2048 % 512 = k.val; omega
        | ⟨2, _⟩ => by show (k.val * 2048 + (i 1).val) % 2048 = (i 1).val; omega))

/-- The reference's second share. -/
theorem ref_term_1 : val_main_v44 (F := Ideal) U WG BG O WB i = term U WG BG O WB 1 i := by
  have h0 : (i 0).val < 32768 := (i 0).isLt
  have h1 : (i 1).val < 2048 := (i 1).isLt
  rw [val_main_v44_apply, val_main_v37_apply, val_main_v36_apply, val_main_cst_3_apply, val_main_v35_apply, val_main_v34_apply, val_main_cst_2_apply,
    val_main_v33_apply, val_main_v32_apply, val_main_v31_apply, val_main_v30_apply, val_main_v29_apply, val_main_v28_apply, val_main_v27_apply, val_main_v26_apply, val_main_v43_apply]
  refine congrArg₂ (fun x z : EReal => x * z) ((logistic_eq _).trans (congrArg Ideal.logistic (congrArg₂ (fun x z : EReal => x + z) ?_ ?_))) ?_
  · refine Finset.sum_congr rfl fun k _ => congrArg₂ (fun x z : EReal => x * z) ?_ ?_
    · rw [val_main_v0_apply]
      exact congrArg U (funext fun a => match a with | ⟨0, _⟩ => rfl | ⟨1, _⟩ => rfl)
    · rw [val_main_v25_apply, val_main_v24_apply]
      have hk : k.val < 2048 := k.isLt
      exact congrArg WG (funext fun a => Fin.ext (match a with
        | ⟨0, _⟩ => rfl
        | ⟨1, _⟩ => by show (k.val * 2048 + (i 1).val) / 2048 % 2048 = k.val; omega
        | ⟨2, _⟩ => by show (k.val * 2048 + (i 1).val) % 2048 = (i 1).val; omega))
  · exact congrArg BG (funext fun a => Fin.ext (match a with
        | ⟨0, _⟩ => rfl
        | ⟨1, _⟩ => by show (i 1).val % 2048 = (i 1).val; omega))
  · refine Finset.sum_congr rfl fun k _ => congrArg₂ (fun x z : EReal => x * z) ?_ ?_
    · rw [val_main_v40_apply, val_main_v39_apply, val_main_v38_apply]
      have hk : k.val < 512 := k.isLt
      exact congrArg O (funext fun a => Fin.ext (match a with
        | ⟨0, _⟩ => rfl
        | ⟨1, _⟩ => by show ((i 0).val * 512 + k.val) / 512 % 32768 = (i 0).val; omega
        | ⟨2, _⟩ => by show ((i 0).val * 512 + k.val) % 512 = k.val; omega))
    · rw [val_main_v42_apply, val_main_v41_apply]
      have hk : k.val < 512 := k.isLt
      exact congrArg WB (funext fun a => Fin.ext (match a with
        | ⟨0, _⟩ => rfl
        | ⟨1, _⟩ => by show (k.val * 2048 + (i 1).val) / 2048 % 512 = k.val; omega
        | ⟨2, _⟩ => by show (k.val * 2048 + (i 1).val) % 2048 = (i 1).val; omega))

/-- The reference's third share. -/
theorem ref_term_2 : val_main_v66 (F := Ideal) U WG BG O WB i = term U WG BG O WB 2 i := by
  have h0 : (i 0).val < 32768 := (i 0).isLt
  have h1 : (i 1).val < 2048 := (i 1).isLt
  rw [val_main_v66_apply, val_main_v59_apply, val_main_v58_apply, val_main_cst_5_apply, val_main_v57_apply, val_main_v56_apply, val_main_cst_4_apply,
    val_main_v55_apply, val_main_v54_apply, val_main_v53_apply, val_main_v52_apply, val_main_v51_apply, val_main_v50_apply, val_main_v49_apply, val_main_v48_apply, val_main_v65_apply]
  refine congrArg₂ (fun x z : EReal => x * z) ((logistic_eq _).trans (congrArg Ideal.logistic (congrArg₂ (fun x z : EReal => x + z) ?_ ?_))) ?_
  · refine Finset.sum_congr rfl fun k _ => congrArg₂ (fun x z : EReal => x * z) ?_ ?_
    · rw [val_main_v0_apply]
      exact congrArg U (funext fun a => match a with | ⟨0, _⟩ => rfl | ⟨1, _⟩ => rfl)
    · rw [val_main_v47_apply, val_main_v46_apply]
      have hk : k.val < 2048 := k.isLt
      exact congrArg WG (funext fun a => Fin.ext (match a with
        | ⟨0, _⟩ => rfl
        | ⟨1, _⟩ => by show (k.val * 2048 + (i 1).val) / 2048 % 2048 = k.val; omega
        | ⟨2, _⟩ => by show (k.val * 2048 + (i 1).val) % 2048 = (i 1).val; omega))
  · exact congrArg BG (funext fun a => Fin.ext (match a with
        | ⟨0, _⟩ => rfl
        | ⟨1, _⟩ => by show (i 1).val % 2048 = (i 1).val; omega))
  · refine Finset.sum_congr rfl fun k _ => congrArg₂ (fun x z : EReal => x * z) ?_ ?_
    · rw [val_main_v62_apply, val_main_v61_apply, val_main_v60_apply]
      have hk : k.val < 512 := k.isLt
      exact congrArg O (funext fun a => Fin.ext (match a with
        | ⟨0, _⟩ => rfl
        | ⟨1, _⟩ => by show ((i 0).val * 512 + k.val) / 512 % 32768 = (i 0).val; omega
        | ⟨2, _⟩ => by show ((i 0).val * 512 + k.val) % 512 = k.val; omega))
    · rw [val_main_v64_apply, val_main_v63_apply]
      have hk : k.val < 512 := k.isLt
      exact congrArg WB (funext fun a => Fin.ext (match a with
        | ⟨0, _⟩ => rfl
        | ⟨1, _⟩ => by show (k.val * 2048 + (i 1).val) / 2048 % 512 = k.val; omega
        | ⟨2, _⟩ => by show (k.val * 2048 + (i 1).val) % 2048 = (i 1).val; omega))

/-- The reference's fourth share. -/
theorem ref_term_3 : val_main_v88 (F := Ideal) U WG BG O WB i = term U WG BG O WB 3 i := by
  have h0 : (i 0).val < 32768 := (i 0).isLt
  have h1 : (i 1).val < 2048 := (i 1).isLt
  rw [val_main_v88_apply, val_main_v81_apply, val_main_v80_apply, val_main_cst_7_apply, val_main_v79_apply, val_main_v78_apply, val_main_cst_6_apply,
    val_main_v77_apply, val_main_v76_apply, val_main_v75_apply, val_main_v74_apply, val_main_v73_apply, val_main_v72_apply, val_main_v71_apply, val_main_v70_apply, val_main_v87_apply]
  refine congrArg₂ (fun x z : EReal => x * z) ((logistic_eq _).trans (congrArg Ideal.logistic (congrArg₂ (fun x z : EReal => x + z) ?_ ?_))) ?_
  · refine Finset.sum_congr rfl fun k _ => congrArg₂ (fun x z : EReal => x * z) ?_ ?_
    · rw [val_main_v0_apply]
      exact congrArg U (funext fun a => match a with | ⟨0, _⟩ => rfl | ⟨1, _⟩ => rfl)
    · rw [val_main_v69_apply, val_main_v68_apply]
      have hk : k.val < 2048 := k.isLt
      exact congrArg WG (funext fun a => Fin.ext (match a with
        | ⟨0, _⟩ => rfl
        | ⟨1, _⟩ => by show (k.val * 2048 + (i 1).val) / 2048 % 2048 = k.val; omega
        | ⟨2, _⟩ => by show (k.val * 2048 + (i 1).val) % 2048 = (i 1).val; omega))
  · exact congrArg BG (funext fun a => Fin.ext (match a with
        | ⟨0, _⟩ => rfl
        | ⟨1, _⟩ => by show (i 1).val % 2048 = (i 1).val; omega))
  · refine Finset.sum_congr rfl fun k _ => congrArg₂ (fun x z : EReal => x * z) ?_ ?_
    · rw [val_main_v84_apply, val_main_v83_apply, val_main_v82_apply]
      have hk : k.val < 512 := k.isLt
      exact congrArg O (funext fun a => Fin.ext (match a with
        | ⟨0, _⟩ => rfl
        | ⟨1, _⟩ => by show ((i 0).val * 512 + k.val) / 512 % 32768 = (i 0).val; omega
        | ⟨2, _⟩ => by show ((i 0).val * 512 + k.val) % 512 = k.val; omega))
    · rw [val_main_v86_apply, val_main_v85_apply]
      have hk : k.val < 512 := k.isLt
      exact congrArg WB (funext fun a => Fin.ext (match a with
        | ⟨0, _⟩ => rfl
        | ⟨1, _⟩ => by show (k.val * 2048 + (i 1).val) / 2048 % 512 = k.val; omega
        | ⟨2, _⟩ => by show (k.val * 2048 + (i 1).val) % 2048 = (i 1).val; omega))

/-- The reference, read at an index: its sum starts from zero, which adds nothing. -/
theorem ref_at : val_main_v90 (F := Ideal) U WG BG O WB i = out U WG BG O WB i := by
  rw [val_main_v90_apply, val_main_v89_apply, val_main_v67_apply, val_main_v45_apply, val_main_v23_apply, ref_term_0, ref_term_1,
    ref_term_2, ref_term_3, val_main_v1_apply, val_main_cst_apply]
  exact congrArg (fun z : EReal => z + term U WG BG O WB 1 i + term U WG BG O WB 2 i + term U WG BG O WB 3 i)
    ((congrArg (fun z : EReal => z + term U WG BG O WB 0 i) Ideal.ofBits_zero_f32).trans (zero_add _))

end

/-- From arguments that agree both programs end with the same array. -/
theorem algebraic : Cert.algebraic_MergeIdeal_MergeRefIdeal := by
  intro m ρ m' ρ' _ hagree
  refine ⟨fun c => out (Um m c) (WGm m c) (BGm m c) (Om m c) (WBm m c), ?_, ?_⟩
  · exact (θ_run Cert.MergeIdeal.defs _ _).mono (fun r h c => ⟨(h c).1.trans (final m c), (h c).2⟩)
      (Cert.MergeIdeal.Value.run_blocks m ρ)
  · refine (θ_run Cert.MergeRefIdeal.defs _ _).mono (fun r h c => ⟨(h c).1.trans ?_, (h c).2⟩)
      (Cert.MergeRefIdeal.Value.run (F := Ideal) m' ρ')
    rw [Cert.MergeRefIdeal.Read.val_main_v90_eq, (hagree c).1, (hagree c).2.1, (hagree c).2.2.1, (hagree c).2.2.2.1, (hagree c).2.2.2.2]
    exact funext fun i => ref_at (Um m c) (WGm m c) (BGm m c) (Om m c) (WBm m c) i

end Cert.MergeIdeal.Val
-- ==== Proof.OutProjVal.lean ====
module

public import proofs.«01_k».proof.Proof.Gen.OutProjIdeal.Value
public import proofs.«01_k».proof.Proof.Gen.OutProjRefIdeal.Read
public import proofs.«01_k».proof.Proof.Gen.OutProjRefIdeal.Run
public import proofs.«01_k».proof.Defs
public import Idealize.ShloMosaic.Lib.Pipeline.ValueKit

@[expose] public section

set_option maxRecDepth 16384

noncomputable section

/-! # The output projection with its residual: the kernel's array and the reference's -/

namespace Cert.OutProjIdeal.Val

open Idealize.ShloMosaic Idealize.ShloMosaic.TcCoe Idealize.SL.Sem
open Cert.OutProjIdeal Cert.OutProjIdeal.Gen

/-- The residual plus the product: what the call computes. -/
def out (H : Vec Ideal S32768x2048 .bf16) (W : Vec Ideal S2048x2048 .f32) (X : Vec Ideal S32768x2048 .f32) :
    Vec Ideal S32768x2048 .f32 :=
  fun i => (show EReal from X i) + ∑ k : Fin 2048, (show EReal from H (ix2 (i 0) k)) * (show EReal from W (ix2 k (i 1)))

/-- What one point stores, at an index of its block. -/
theorem pay_at (x0 : Vec Ideal S1024x2048 .bf16) (x1 : Vec Ideal S2048x512 .bf16) (x2 : Vec Ideal S1024x512 .f32)
    (i : S1024x512.Idx) : k0_pay1 (F := Ideal) x0 x1 x2 i
      = (show EReal from x2 i) + ∑ k : Fin 2048, (show EReal from x0 (ix2 (i 0) k)) * (show EReal from x1 (ix2 k (i 1))) := by
  pointwise [k0_pay1]

/-- The windows' block indices at a point: 32 row blocks by 4 column blocks. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

section
variable (m : (ℓ : Loc nD τ Cert.OutProjIdeal.sig) → Buf (Elt Ideal) ℓ) (c : Dev nD)

abbrev Hm : Vec Ideal S32768x2048 .bf16 := m ((c : Thread nD τ).loc main_arg0)
abbrev Wm : Vec Ideal S2048x2048 .f32 := m ((c : Thread nD τ).loc main_arg1)
abbrev Xm : Vec Ideal S32768x2048 .f32 := m ((c : Thread nD τ).loc main_arg2)

/-- The array the kernel leaves. -/
theorem final : (dats m 0 c).arrAt 3 cfg0.N = out (Hm m c) (Wm m c) (Xm m c) := by
  refine (dats m 0 c).arrAt_eq_of_covers 3 _ (by decide +kernel) fun t hf y => ?_
  blk_simp
  rw [after0_3]
  frame_out
  refine (pay_at _ _ _ y).trans ?_
  unfold out
  refine congrArg₂ (fun x z : EReal => x + z) ?_ (Finset.sum_congr rfl fun k _ => congrArg₂ (fun x z : EReal => x * z) ?_ ?_)
  · blk_ext [iblk, V, idx t]
  · blk_ext [iblk, V, idx t]
  · blk_ext [iblk, V, idx t]

end

open Cert.OutProjRefIdeal.Read in
/-- The reference, read at an index. -/
theorem ref_at (H : Vec Ideal S32768x2048 .bf16) (W : Vec Ideal S2048x2048 .f32) (X : Vec Ideal S32768x2048 .f32) (i : S32768x2048.Idx) :
    val_main_v2 (F := Ideal) H W X i = out H W X i := by
  rw [val_main_v2_apply, val_main_v1_apply]
  refine congrArg₂ (fun x z : EReal => x + z) rfl (Finset.sum_congr rfl fun k _ => congrArg₂ (fun x z : EReal => x * z) ?_ ?_)
  · rw [val_main_v0_apply]
    exact congrArg H (funext fun a => match a with | ⟨0, _⟩ => rfl | ⟨1, _⟩ => rfl)
  · exact congrArg W (funext fun a => match a with | ⟨0, _⟩ => rfl | ⟨1, _⟩ => rfl)

/-- From arguments that agree both programs end with the same array. -/
theorem algebraic : Cert.algebraic_OutProjIdeal_OutProjRefIdeal := by
  intro m ρ m' ρ' _ hagree
  refine ⟨fun c => out (Hm m c) (Wm m c) (Xm m c), ?_, ?_⟩
  · exact (θ_run Cert.OutProjIdeal.defs _ _).mono (fun r h c => ⟨(h c).1.trans (final m c), (h c).2⟩)
      (Cert.OutProjIdeal.Value.run_blocks m ρ)
  · refine (θ_run Cert.OutProjRefIdeal.defs _ _).mono (fun r h c => ⟨(h c).1.trans ?_, (h c).2⟩)
      (Cert.OutProjRefIdeal.Value.run (F := Ideal) m' ρ')
    rw [Cert.OutProjRefIdeal.Read.val_main_v2_eq, (hagree c).1, (hagree c).2.1, (hagree c).2.2]
    exact funext fun i => ref_at (Hm m c) (Wm m c) (Xm m c) i

end Cert.OutProjIdeal.Val
-- ==== Proof.InProjVal.lean ====
module

public import proofs.«01_k».proof.Proof.Gen.InProjIdeal.Value
public import proofs.«01_k».proof.Proof.Gen.InProjRefIdeal.Read
public import proofs.«01_k».proof.Proof.Gen.InProjRefIdeal.Run
public import proofs.«01_k».proof.Defs
public import Idealize.ShloMosaic.Lib.Pipeline.ValueKit

@[expose] public section

set_option maxRecDepth 16384

noncomputable section

/-! # The input projection: the kernel's array and the reference's -/

namespace Cert.InProjIdeal.Val

open Idealize.ShloMosaic Idealize.ShloMosaic.TcCoe Idealize.SL.Sem
open Cert.InProjIdeal Cert.InProjIdeal.Gen

/-- The product: what the call computes. -/
def out (H : Vec Ideal S32768x2048 .bf16) (W : Vec Ideal S2048x3072 .f32) : Vec Ideal S32768x3072 .f32 :=
  fun i => (∑ k : Fin 2048, (show EReal from H (ix2 (i 0) k)) * (show EReal from W (ix2 k (i 1))) : EReal)

/-- What one point stores, at an index of its block. -/
theorem pay_at (x0 : Vec Ideal S1024x2048 .bf16) (x1 : Vec Ideal S2048x1024 .bf16)
    (i : S1024x1024.Idx) : k0_pay1 (F := Ideal) x0 x1 i
      = (∑ k : Fin 2048, (show EReal from x0 (ix2 (i 0) k)) * (show EReal from x1 (ix2 k (i 1))) : EReal) := by
  pointwise [k0_pay1]

/-- The windows' block indices at a point: 32 row blocks by 3 column blocks. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

section
variable (m : (ℓ : Loc nD τ Cert.InProjIdeal.sig) → Buf (Elt Ideal) ℓ) (c : Dev nD)

abbrev Hm : Vec Ideal S32768x2048 .bf16 := m ((c : Thread nD τ).loc main_arg0)
abbrev Wm : Vec Ideal S2048x3072 .f32 := m ((c : Thread nD τ).loc main_arg1)

/-- The array the kernel leaves. -/
theorem final : (dats m 0 c).arrAt 2 cfg0.N = out (Hm m c) (Wm m c) := by
  refine (dats m 0 c).arrAt_eq_of_covers 2 _ (by decide +kernel) fun t hf y => ?_
  blk_simp
  rw [after0_2]
  frame_out
  refine (pay_at _ _ y).trans ?_
  unfold out
  refine Finset.sum_congr rfl fun k _ => congrArg₂ (fun x z : EReal => x * z) ?_ ?_
  · blk_ext [iblk, V, idx t]
  · blk_ext [iblk, V, idx t]

end

open Cert.InProjRefIdeal.Read in
/-- The reference, read at an index. -/
theorem ref_at (H : Vec Ideal S32768x2048 .bf16) (W : Vec Ideal S2048x3072 .f32) (i : S32768x3072.Idx) :
    val_main_v1 (F := Ideal) H W i = out H W i := by
  rw [val_main_v1_apply]
  refine Finset.sum_congr rfl fun k _ => congrArg₂ (fun x z : EReal => x * z) ?_ ?_
  · rw [val_main_v0_apply]
    exact congrArg H (funext fun a => match a with | ⟨0, _⟩ => rfl | ⟨1, _⟩ => rfl)
  · exact congrArg W (funext fun a => match a with | ⟨0, _⟩ => rfl | ⟨1, _⟩ => rfl)

/-- From arguments that agree both programs end with the same array. -/
theorem algebraic : Cert.algebraic_InProjIdeal_InProjRefIdeal := by
  intro m ρ m' ρ' _ hagree
  refine ⟨fun c => out (Hm m c) (Wm m c), ?_, ?_⟩
  · exact (θ_run Cert.InProjIdeal.defs _ _).mono (fun r h c => ⟨(h c).1.trans (final m c), (h c).2⟩)
      (Cert.InProjIdeal.Value.run_blocks m ρ)
  · refine (θ_run Cert.InProjRefIdeal.defs _ _).mono (fun r h c => ⟨(h c).1.trans ?_, (h c).2⟩)
      (Cert.InProjRefIdeal.Value.run (F := Ideal) m' ρ')
    rw [Cert.InProjRefIdeal.Read.val_main_v1_eq, (hagree c).1, (hagree c).2]
    exact funext fun i => ref_at (Hm m c) (Wm m c) i

end Cert.InProjIdeal.Val
-- ==== Proof.lean ====
module

public import proofs.«01_k».proof.Proof.Gen.Qkv.Frame
public import proofs.«01_k».proof.Proof.Gen.QkvIdeal.Frame
public import proofs.«01_k».proof.Proof.Gen.QkvRefIdeal.Run
public import proofs.«01_k».proof.Proof.QkvVal
public import proofs.«01_k».proof.Proof.Gen.NormBRefIdeal.Run
public import proofs.«01_k».proof.Proof.Gen.LocalRefIdeal.Run
public import proofs.«01_k».proof.Proof.Gen.FourierChanRefIdeal.Run
public import proofs.«01_k».proof.Proof.Gen.FourierPosRefIdeal.Run
public import proofs.«01_k».proof.Proof.Gen.Pre_finite_qk_sink
public import proofs.«01_k».proof.Proof.NormBVal
public import proofs.«01_k».proof.Proof.Gen.NormB.Frame
public import proofs.«01_k».proof.Proof.Gen.NormBIdeal.Frame
public import proofs.«01_k».proof.Proof.LocalVal
public import proofs.«01_k».proof.Proof.Gen.Local.Frame
public import proofs.«01_k».proof.Proof.Gen.LocalIdeal.Frame
public import proofs.«01_k».proof.Proof.FourierChanVal
public import proofs.«01_k».proof.Proof.Gen.FourierChan.Frame
public import proofs.«01_k».proof.Proof.Gen.FourierChanIdeal.Frame
public import proofs.«01_k».proof.Proof.FourierPosVal
public import proofs.«01_k».proof.Proof.Gen.FourierPos.Frame
public import proofs.«01_k».proof.Proof.Gen.FourierPosIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Adequacy
public import Idealize.ShloMosaic.Init
public import Idealize.ShloMosaic.Lib.Quiescent
public import proofs.«01_k».proof.Proof.Gen.Pre_finite_qk
public import proofs.«01_k».proof.Proof.AttMain
public import proofs.«01_k».proof.Proof.NormVal
public import proofs.«01_k».proof.Proof.FfnInVal
public import proofs.«01_k».proof.Proof.FfnOutVal
public import proofs.«01_k».proof.Proof.MergeVal
public import proofs.«01_k».proof.Proof.OutProjVal
public import proofs.«01_k».proof.Proof.InProjVal

@[expose] public section

noncomputable section

namespace Cert.Proof

open Idealize.ShloMosaic Idealize.SL.Sem Cert.Kernel

/-- The reference's run leaves its arguments as launched; it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of `NormRefIdeal`. -/
theorem normRefIdeal_frame : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The same of `FfnInRefIdeal`. -/
theorem ffnInRefIdeal_frame : Cert.quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

/-- The same of `FfnOutRefIdeal`. -/
theorem ffnOutRefIdeal_frame : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

/-- The same of `MergeRefIdeal`. -/
theorem mergeRefIdeal_frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The same of `OutProjRefIdeal`. -/
theorem outProjRefIdeal_frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The same of `InProjRefIdeal`. -/
theorem inProjRefIdeal_frame : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The same of `NormBRefIdeal`. -/
theorem normBRefIdeal_frame : Cert.quiescent_NormBRefIdeal := fun m ρ _ =>
  (θ_run Cert.NormBRefIdeal.defs _ _).mono (fun r h => ⟨fun c => (h c).2, sem_eq_zero_of_no_sems (by decide) r.2⟩)
    (Cert.NormBRefIdeal.Value.run (F := Ideal) m ρ)

/-- The same of `LocalRefIdeal`. -/
theorem localRefIdeal_frame : Cert.quiescent_LocalRefIdeal := fun m ρ _ =>
  (θ_run Cert.LocalRefIdeal.defs _ _).mono (fun r h => ⟨fun c => (h c).2, sem_eq_zero_of_no_sems (by decide) r.2⟩)
    (Cert.LocalRefIdeal.Value.run (F := Ideal) m ρ)

/-- The same of `FourierChanRefIdeal`. -/
theorem fourierChanRefIdeal_frame : Cert.quiescent_FourierChanRefIdeal := fun m ρ _ =>
  (θ_run Cert.FourierChanRefIdeal.defs _ _).mono (fun r h => ⟨fun c => (h c).2, sem_eq_zero_of_no_sems (by decide) r.2⟩)
    (Cert.FourierChanRefIdeal.Value.run (F := Ideal) m ρ)

/-- The same of `FourierPosRefIdeal`. -/
theorem fourierPosRefIdeal_frame : Cert.quiescent_FourierPosRefIdeal := fun m ρ _ =>
  (θ_run Cert.FourierPosRefIdeal.defs _ _).mono (fun r h => ⟨fun c => (h c).2, sem_eq_zero_of_no_sems (by decide) r.2⟩)
    (Cert.FourierPosRefIdeal.Value.run (F := Ideal) m ρ)

/-- The same of `QkvRefIdeal`. -/
theorem qkvRefIdeal_frame : Cert.quiescent_QkvRefIdeal := fun m ρ _ =>
  (θ_run Cert.QkvRefIdeal.defs _ _).mono (fun r h => ⟨fun c => (h c).2.2.2.2.2.2, sem_eq_zero_of_no_sems (by decide) r.2⟩)
    (Cert.QkvRefIdeal.Value.run (F := Ideal) m ρ)

/-- The whole certificate: the frames of every program, and the value claims of the two attentions, the norms, the
feed-forward block's two halves, the Fourier branch, the queries, keys and values, the merge of the branches and the projections. -/
theorem claim : Cert.Claim := ⟨Cert.Kernel.Gen.facts, Cert.KernelIdeal.Gen.facts, Cert.ReferenceIdeal.Gen.facts, Cert.Norm.Gen.facts, Cert.NormIdeal.Gen.facts, Cert.NormRefIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.NormB.Gen.facts, Cert.NormBIdeal.Gen.facts, Cert.NormBRefIdeal.Gen.facts, Cert.Local.Gen.facts, Cert.LocalIdeal.Gen.facts, Cert.LocalRefIdeal.Gen.facts, Cert.FourierChan.Gen.facts, Cert.FourierChanIdeal.Gen.facts, Cert.FourierChanRefIdeal.Gen.facts, Cert.FourierPos.Gen.facts, Cert.FourierPosIdeal.Gen.facts, Cert.FourierPosRefIdeal.Gen.facts, Cert.Qkv.Gen.facts, Cert.QkvIdeal.Gen.facts, Cert.QkvRefIdeal.Gen.facts, Cert.Pre_finite_qk.Gen.facts, Cert.Pre_finite_qk_sink.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Norm.Gen.frame m ρ,
  fun m ρ _ => Cert.NormIdeal.Gen.frame m ρ,
  normRefIdeal_frame,
  fun m ρ _ => Cert.FfnIn.Gen.frame m ρ,
  fun m ρ _ => Cert.FfnInIdeal.Gen.frame m ρ,
  ffnInRefIdeal_frame,
  fun m ρ _ => Cert.FfnOut.Gen.frame m ρ,
  fun m ρ _ => Cert.FfnOutIdeal.Gen.frame m ρ,
  ffnOutRefIdeal_frame,
  fun m ρ _ => Cert.Merge.Gen.frame m ρ,
  fun m ρ _ => Cert.MergeIdeal.Gen.frame m ρ,
  mergeRefIdeal_frame,
  fun m ρ _ => Cert.OutProj.Gen.frame m ρ,
  fun m ρ _ => Cert.OutProjIdeal.Gen.frame m ρ,
  outProjRefIdeal_frame,
  fun m ρ _ => Cert.InProj.Gen.frame m ρ,
  fun m ρ _ => Cert.InProjIdeal.Gen.frame m ρ,
  inProjRefIdeal_frame,
  fun m ρ _ => Cert.NormB.Gen.frame m ρ,
  fun m ρ _ => Cert.NormBIdeal.Gen.frame m ρ,
  normBRefIdeal_frame,
  fun m ρ _ => Cert.Local.Gen.frame m ρ,
  fun m ρ _ => Cert.LocalIdeal.Gen.frame m ρ,
  fun m ρ _ => Cert.LocalIdeal.Gen.frame m ρ,
  localRefIdeal_frame,
  fun m ρ _ => localRefIdeal_frame m ρ trivial,
  fun m ρ _ => Cert.FourierChan.Gen.frame m ρ,
  fun m ρ _ => Cert.FourierChanIdeal.Gen.frame m ρ,
  fourierChanRefIdeal_frame,
  fun m ρ _ => Cert.FourierPos.Gen.frame m ρ,
  fun m ρ _ => Cert.FourierPosIdeal.Gen.frame m ρ,
  fourierPosRefIdeal_frame,
  fun m ρ _ => Cert.Qkv.Gen.frame m ρ,
  fun m ρ _ => Cert.QkvIdeal.Gen.frame m ρ,
  qkvRefIdeal_frame,
  trivial,
  Cert.KernelIdeal.Att.algebraic,
  trivial,
  Cert.NormIdeal.Val.algebraic,
  trivial,
  Cert.FfnInIdeal.Val.algebraic,
  trivial,
  Cert.FfnOutIdeal.Val.algebraic,
  trivial,
  Cert.MergeIdeal.Val.algebraic,
  trivial,
  Cert.OutProjIdeal.Val.algebraic,
  trivial,
  Cert.InProjIdeal.Val.algebraic,
  trivial,
  Cert.NormBIdeal.Val.algebraic,
  IdealRules.named_const.statement Cert.LocalIdeal.κ "neg" .f32 0xF149F2CA#32 ⊥ rfl,
  Cert.LocalIdeal.Val.algebraic,
  trivial,
  Cert.FourierChanIdeal.Val.algebraic,
  trivial,
  Cert.FourierPosIdeal.Val.algebraic,
  trivial,
  Cert.QkvIdeal.Val.algebraic⟩

end Cert.Proof

end
